-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v234) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v20) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S8x4096x512 : Shape := ⟨3, ![8, 4096, 512]⟩
abbrev S8x4096x24 : Shape := ⟨3, ![8, 4096, 24]⟩
abbrev S8x255x128 : Shape := ⟨3, ![8, 255, 128]⟩
abbrev S8x4096x128 : Shape := ⟨3, ![8, 4096, 128]⟩
abbrev S512 : Shape := ⟨1, ![512]⟩
abbrev S_ : Shape := ⟨0, ![]⟩

class Facts : Prop where
  bcast_S_S8x4096x512 : S_.BroadcastsInDim S8x4096x512 (![] : Fin 0 → Fin S8x4096x512.rank)
  bcast_S_S8x255x128 : S_.BroadcastsInDim S8x255x128 (![] : Fin 0 → Fin S8x255x128.rank)
  bcast_S_S8x4096x128 : S_.BroadcastsInDim S8x4096x128 (![] : Fin 0 → Fin S8x4096x128.rank)

variable [Facts]

def fn {F : FTy → Type} [FloatOps F] (main_arg0 : FVec F S8x4096x512 .f32) (main_arg1 : FVec F S8x4096x512 .f32) (main_arg2 : FVec F S8x4096x24 .f32) (main_arg3 : FVec F S8x255x128 .f32) (main_arg4 : FVec F S8x255x128 .f32) (main_arg5 : FVec F S8x4096x128 .f32) (main_arg6 : FVec F S8x4096x128 .f32) (main_arg7 : FVec F S8x4096x128 .f32) (main_arg8 : FVec F S8x4096x128 .f32) (main_arg9 : FVec F S512 .f32) : IVec S8x4096x512 1 × IVec S8x4096x512 1 × IVec S8x255x128 1 × IVec S8x4096x128 1 × IVec S8x4096x128 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_v3 : FVec F S8x4096x512 .f32 := Host.absf main_arg1
  let main_cst_0 : FVec F S_ .f32 := constant S_ .f32 0x7F800000#32
  let main_v4 : FVec F S8x4096x512 .f32 := broadcastInDim S8x4096x512 ![] bcast_S_S8x4096x512 main_cst_0
  let main_v5 : IVec S8x4096x512 1 := cmpf .olt main_v3 main_v4
  let main_v6 : FVec F S8x255x128 .f32 := Host.absf main_arg3
  let main_cst_1 : FVec F S_ .f32 := constant S_ .f32 0x7F800000#32
  let main_v7 : FVec F S8x255x128 .f32 := broadcastInDim S8x255x128 ![] bcast_S_S8x255x128 main_cst_1
  let main_v8 : IVec S8x255x128 1 := cmpf .olt main_v6 main_v7
  let main_v9 : FVec F S8x4096x128 .f32 := Host.absf main_arg5
  let main_cst_2 : FVec F S_ .f32 := constant S_ .f32 0x7F800000#32
  let main_v10 : FVec F S8x4096x128 .f32 := broadcastInDim S8x4096x128 ![] bcast_S_S8x4096x128 main_cst_2
  let main_v11 : IVec S8x4096x128 1 := cmpf .olt main_v9 main_v10
  let main_v12 : FVec F S8x4096x128 .f32 := Host.absf main_arg7
  let main_cst_3 : FVec F S_ .f32 := constant S_ .f32 0x7F800000#32
  let main_v13 : FVec F S8x4096x128 .f32 := broadcastInDim S8x4096x128 ![] bcast_S_S8x4096x128 main_cst_3
  let main_v14 : IVec S8x4096x128 1 := cmpf .olt main_v12 main_v13
  (main_v2, main_v5, main_v8, main_v11, main_v14)
-- ==== Kernel.lean ====
abbrev S8x4096x512 : Shape := ⟨3, ![8, 4096, 512]⟩
abbrev S8x4096x24 : Shape := ⟨3, ![8, 4096, 24]⟩
abbrev S8x255x128 : Shape := ⟨3, ![8, 255, 128]⟩
abbrev S8x4096x128 : Shape := ⟨3, ![8, 4096, 128]⟩
abbrev S512 : Shape := ⟨1, ![512]⟩
abbrev S64x256 : Shape := ⟨2, ![64, 256]⟩
abbrev S_ : Shape := ⟨0, ![]⟩
abbrev S8x512x4096 : Shape := ⟨3, ![8, 512, 4096]⟩
abbrev S8x128x4096 : Shape := ⟨3, ![8, 128, 4096]⟩
abbrev S8x255x256 : Shape := ⟨3, ![8, 255, 256]⟩
abbrev S8x256x256 : Shape := ⟨3, ![8, 256, 256]⟩
abbrev S8x256x128 : Shape := ⟨3, ![8, 256, 128]⟩
abbrev S8x128x256 : Shape := ⟨3, ![8, 128, 256]⟩
abbrev S8x32x128x128 : Shape := ⟨4, ![8, 32, 128, 128]⟩
abbrev S512x1 : Shape := ⟨2, ![512, 1]⟩
abbrev S1x512x128 : Shape := ⟨3, ![1, 512, 128]⟩
abbrev S1x128x128 : Shape := ⟨3, ![1, 128, 128]⟩
abbrev S1x256x256 : Shape := ⟨3, ![1, 256, 256]⟩
abbrev S1x128x256 : Shape := ⟨3, ![1, 128, 256]⟩
abbrev S1x4096x128 : Shape := ⟨3, ![1, 4096, 128]⟩
abbrev S1x32x128x128 : Shape := ⟨4, ![1, 32, 128, 128]⟩
abbrev S1x128x512 : Shape := ⟨3, ![1, 128, 512]⟩
abbrev S2x64x128 : Shape := ⟨3, ![2, 64, 128]⟩
abbrev S2x1x512 : Shape := ⟨3, ![2, 1, 512]⟩
abbrev S2x80x512 : Shape := ⟨3, ![2, 80, 512]⟩
abbrev S2x64x512 : Shape := ⟨3, ![2, 64, 512]⟩
abbrev S1x128 : Shape := ⟨2, ![1, 128]⟩
abbrev S1x24x128 : Shape := ⟨3, ![1, 24, 128]⟩
abbrev S24x128 : Shape := ⟨2, ![24, 128]⟩
abbrev S256x128 : Shape := ⟨2, ![256, 128]⟩
abbrev S64x128 : Shape := ⟨2, ![64, 128]⟩
abbrev S1024x128 : Shape := ⟨2, ![1024, 128]⟩
abbrev S128x128 : Shape := ⟨2, ![128, 128]⟩
abbrev S1x256x64 : Shape := ⟨3, ![1, 256, 64]⟩
abbrev S256x64 : Shape := ⟨2, ![256, 64]⟩
abbrev S1x64x128 : Shape := ⟨3, ![1, 64, 128]⟩
abbrev S64x512 : Shape := ⟨2, ![64, 512]⟩
abbrev S256x512 : Shape := ⟨2, ![256, 512]⟩
abbrev S1x512 : Shape := ⟨2, ![1, 512]⟩
abbrev S1x64x256 : Shape := ⟨3, ![1, 64, 256]⟩
abbrev S8x128 : Shape := ⟨2, ![8, 128]⟩
abbrev S1x128x64 : Shape := ⟨3, ![1, 128, 64]⟩
abbrev S128x64 : Shape := ⟨2, ![128, 64]⟩
abbrev S1x1x128x128 : Shape := ⟨4, ![1, 1, 128, 128]⟩
abbrev S640x64 : Shape := ⟨2, ![640, 64]⟩
abbrev S640x512 : Shape := ⟨2, ![640, 512]⟩
abbrev S640x128 : Shape := ⟨2, ![640, 128]⟩
abbrev S64x640 : Shape := ⟨2, ![64, 640]⟩
abbrev S16x640 : Shape := ⟨2, ![16, 640]⟩
abbrev S80x640 : Shape := ⟨2, ![80, 640]⟩
abbrev S80x512 : Shape := ⟨2, ![80, 512]⟩
abbrev S1x64x512 : Shape := ⟨3, ![1, 64, 512]⟩
abbrev S1x1024x64 : Shape := ⟨3, ![1, 1024, 64]⟩
abbrev S1024x64 : Shape := ⟨2, ![1024, 64]⟩
abbrev S1024x512 : Shape := ⟨2, ![1024, 512]⟩
abbrev S1x16x128 : Shape := ⟨3, ![1, 16, 128]⟩
abbrev S16x128 : Shape := ⟨2, ![16, 128]⟩
abbrev S64x1024 : Shape := ⟨2, ![64, 1024]⟩
abbrev S16x1024 : Shape := ⟨2, ![16, 1024]⟩
abbrev S80x1024 : Shape := ⟨2, ![80, 1024]⟩
abbrev S1x1x512 : Shape := ⟨3, ![1, 1, 512]⟩
abbrev S1x80x512 : Shape := ⟨3, ![1, 80, 512]⟩
abbrev S512x128 : Shape := ⟨2, ![512, 128]⟩
abbrev S128 : Shape := ⟨1, ![128]⟩
abbrev S128x512 : Shape := ⟨2, ![128, 512]⟩

abbrev nBuf : Space → Nat
  | .hbm => 45
  | .vmem => 26
  | .smem => 0
  | _ => 0

abbrev bufTy : (tb : Table) → Fin (tcTables nBuf tb) → BufTy
  | .hbm, ⟨0, _⟩ => ⟨S8x4096x512, .f32⟩
  | .hbm, ⟨1, _⟩ => ⟨S8x4096x512, .f32⟩
  | .hbm, ⟨2, _⟩ => ⟨S8x4096x24, .f32⟩
  | .hbm, ⟨3, _⟩ => ⟨S8x255x128, .f32⟩
  | .hbm, ⟨4, _⟩ => ⟨S8x255x128, .f32⟩
  | .hbm, ⟨5, _⟩ => ⟨S8x4096x128, .f32⟩
  | .hbm, ⟨6, _⟩ => ⟨S8x4096x128, .f32⟩
  | .hbm, ⟨7, _⟩ => ⟨S8x4096x128, .f32⟩
  | .hbm, ⟨8, _⟩ => ⟨S8x4096x128, .f32⟩
  | .hbm, ⟨9, _⟩ => ⟨S512, .f32⟩
  | .hbm, ⟨10, _⟩ => ⟨S64x256, .bf16⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S8x4096x512, .f32⟩
  | .hbm, ⟨16, _⟩ => ⟨S8x4096x512, .f32⟩
  | .hbm, ⟨17, _⟩ => ⟨S8x512x4096, .f32⟩
  | .hbm, ⟨18, _⟩ => ⟨S8x512x4096, .bf16⟩
  | .hbm, ⟨19, _⟩ => ⟨S8x4096x512, .f32⟩
  | .hbm, ⟨20, _⟩ => ⟨S8x4096x512, .f32⟩
  | .hbm, ⟨21, _⟩ => ⟨S8x512x4096, .f32⟩
  | .hbm, ⟨22, _⟩ => ⟨S8x512x4096, .bf16⟩
  | .hbm, ⟨23, _⟩ => ⟨S_, .i32⟩
  | .hbm, ⟨24, _⟩ => ⟨S_, .f32⟩
  | .hbm, ⟨25, _⟩ => ⟨S8x4096x128, .f32⟩
  | .hbm, ⟨26, _⟩ => ⟨S8x128x4096, .f32⟩
  | .hbm, ⟨27, _⟩ => ⟨S8x255x256, .f32⟩
  | .hbm, ⟨28, _⟩ => ⟨S_, .i32⟩
  | .hbm, ⟨29, _⟩ => ⟨S_, .f32⟩
  | .hbm, ⟨30, _⟩ => ⟨S8x256x256, .f32⟩
  | .hbm, ⟨31, _⟩ => ⟨S8x256x128, .f32⟩
  | .hbm, ⟨32, _⟩ => ⟨S8x128x256, .f32⟩
  | .hbm, ⟨33, _⟩ => ⟨S8x128x256, .bf16⟩
  | .hbm, ⟨34, _⟩ => ⟨S8x256x256, .bf16⟩
  | .hbm, ⟨35, _⟩ => ⟨S8x4096x128, .bf16⟩
  | .hbm, ⟨36, _⟩ => ⟨S8x32x128x128, .f32⟩
  | .hbm, ⟨37, _⟩ => ⟨S8x32x128x128, .f32⟩
  | .hbm, ⟨38, _⟩ => ⟨S8x32x128x128, .bf16⟩
  | .hbm, ⟨39, _⟩ => ⟨S8x4096x128, .bf16⟩
  | .hbm, ⟨40, _⟩ => ⟨S8x32x128x128, .f32⟩
  | .hbm, ⟨41, _⟩ => ⟨S8x32x128x128, .f32⟩
  | .hbm, ⟨42, _⟩ => ⟨S8x32x128x128, .bf16⟩
  | .hbm, ⟨43, _⟩ => ⟨S512x1, .f32⟩
  | .hbm, ⟨44, _⟩ => ⟨S8x4096x512, .bf16⟩
  | .local _ .vmem, ⟨0, _⟩ => ⟨S1x512x128, .bf16⟩
  | .local _ .vmem, ⟨1, _⟩ => ⟨S1x512x128, .bf16⟩
  | .local _ .vmem, ⟨2, _⟩ => ⟨S1x512x128, .bf16⟩
  | .local _ .vmem, ⟨3, _⟩ => ⟨S1x512x128, .bf16⟩
  | .local _ .vmem, ⟨4, _⟩ => ⟨S1x128x128, .f32⟩
  | .local _ .vmem, ⟨5, _⟩ => ⟨S1x128x128, .f32⟩
  | .local _ .vmem, ⟨6, _⟩ => ⟨S1x256x256, .bf16⟩
  | .local _ .vmem, ⟨7, _⟩ => ⟨S1x256x256, .bf16⟩
  | .local _ .vmem, ⟨8, _⟩ => ⟨S1x128x256, .bf16⟩
  | .local _ .vmem, ⟨9, _⟩ => ⟨S1x128x256, .bf16⟩
  | .local _ .vmem, ⟨10, _⟩ => ⟨S1x4096x128, .bf16⟩
  | .local _ .vmem, ⟨11, _⟩ => ⟨S1x4096x128, .bf16⟩
  | .local _ .vmem, ⟨12, _⟩ => ⟨S1x32x128x128, .bf16⟩
  | .local _ .vmem, ⟨13, _⟩ => ⟨S1x32x128x128, .bf16⟩
  | .local _ .vmem, ⟨14, _⟩ => ⟨S1x4096x128, .bf16⟩
  | .local _ .vmem, ⟨15, _⟩ => ⟨S1x4096x128, .bf16⟩
  | .local _ .vmem, ⟨16, _⟩ => ⟨S1x32x128x128, .bf16⟩
  | .local _ .vmem, ⟨17, _⟩ => ⟨S1x32x128x128, .bf16⟩
  | .local _ .vmem, ⟨18, _⟩ => ⟨S64x256, .bf16⟩
  | .local _ .vmem, ⟨19, _⟩ => ⟨S512x1, .f32⟩
  | .local _ .vmem, ⟨20, _⟩ => ⟨S1x128x512, .bf16⟩
  | .local _ .vmem, ⟨21, _⟩ => ⟨S1x128x512, .bf16⟩
  | .local _ .vmem, ⟨22, _⟩ => ⟨S2x64x128, .f32⟩
  | .local _ .vmem, ⟨23, _⟩ => ⟨S2x1x512, .f32⟩
  | .local _ .vmem, ⟨24, _⟩ => ⟨S2x80x512, .f32⟩
  | .local _ .vmem, ⟨25, _⟩ => ⟨S2x64x512, .f32⟩
  | _, _ => ⟨S8x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_cst_0 : Ref sig .tc := ⟨.hbm, 11, rfl⟩
abbrev main_v0 : Ref sig .tc := ⟨.hbm, 12, rfl⟩
abbrev main_cst_1 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c : Ref sig .tc := ⟨.hbm, 23, rfl⟩
abbrev main_call0_v0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_2 : Ref sig .tc := ⟨.hbm, 28, rfl⟩
abbrev main_call1_v0 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![8, 32], ![false, false]⟩

def k0_cond1 (i : grid0.Coords) : BitVec 1 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c1024_i32 : BitVec 32 := 1024#32
  let v2 : BitVec 32 := Scalar.addi v1 c1024_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c1024_i32_1 : BitVec 32 := 1024#32
  let c0_i32_3 : BitVec 32 := 0#32
  let v10 : BitVec 1 := Scalar.cmpi .sgt c1024_i32_1 c0_i32_3
  let v11 : BitVec 32 := Scalar.extui v10
  let c0_i32_4 : BitVec 32 := 0#32
  let v12 : BitVec 1 := Scalar.cmpi .slt c1024_i32_1 c0_i32_4
  let v13 : BitVec 32 := Scalar.extui v12
  let v14 : BitVec 32 := Scalar.subi v11 v13
  let v15 : BitVec 1 := Scalar.cmpi .ne v9 v14
  let v16 : BitVec 32 := Scalar.remsi v3 c1024_i32_1
  let c0_i32_5 : BitVec 32 := 0#32
  let v17 : BitVec 1 := Scalar.cmpi .ne v16 c0_i32_5
  let v18 : BitVec 1 := Scalar.andi v15 v17
  let v4 : BitVec 32 := Scalar.divsi v3 c1024_i32_1
  let c1_i32_6 : BitVec 32 := 1#32
  let v19 : BitVec 32 := Scalar.subi v4 c1_i32_6
  let v20 : BitVec 32 := Scalar.select v18 v19 v4
  let c1_i32_2512 : BitVec 32 := 1#32
  let v7733 : BitVec 32 := Scalar.subi v20 c1_i32_2512
  let c0_i32_2513 : BitVec 32 := 0#32
  let v7734 : BitVec 32 := Scalar.maxsi v7733 c0_i32_2513
  let c3_i32_2514 : BitVec 32 := 3#32
  let v7735 : BitVec 32 := Scalar.minsi v7734 c3_i32_2514
  let c0_i32_2515 : BitVec 32 := 0#32
  let v7736 : BitVec 1 := Scalar.cmpi .ne v7735 c0_i32_2515
  v7736

def k0_cond2 (i : grid0.Coords) : BitVec 1 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c1024_i32 : BitVec 32 := 1024#32
  let v2 : BitVec 32 := Scalar.addi v1 c1024_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c1024_i32_1 : BitVec 32 := 1024#32
  let c0_i32_3 : BitVec 32 := 0#32
  let v10 : BitVec 1 := Scalar.cmpi .sgt c1024_i32_1 c0_i32_3
  let v11 : BitVec 32 := Scalar.extui v10
  let c0_i32_4 : BitVec 32 := 0#32
  let v12 : BitVec 1 := Scalar.cmpi .slt c1024_i32_1 c0_i32_4
  let v13 : BitVec 32 := Scalar.extui v12
  let v14 : BitVec 32 := Scalar.subi v11 v13
  let v15 : BitVec 1 := Scalar.cmpi .ne v9 v14
  let v16 : BitVec 32 := Scalar.remsi v3 c1024_i32_1
  let c0_i32_5 : BitVec 32 := 0#32
  let v17 : BitVec 1 := Scalar.cmpi .ne v16 c0_i32_5
  let v18 : BitVec 1 := Scalar.andi v15 v17
  let v4 : BitVec 32 := Scalar.divsi v3 c1024_i32_1
  let c1_i32_6 : BitVec 32 := 1#32
  let v19 : BitVec 32 := Scalar.subi v4 c1_i32_6
  let v20 : BitVec 32 := Scalar.select v18 v19 v4
  let c1_i32_2512 : BitVec 32 := 1#32
  let v7733 : BitVec 32 := Scalar.subi v20 c1_i32_2512
  let c0_i32_2513 : BitVec 32 := 0#32
  let v7734 : BitVec 32 := Scalar.maxsi v7733 c0_i32_2513
  let c3_i32_2514 : BitVec 32 := 3#32
  let v7735 : BitVec 32 := Scalar.minsi v7734 c3_i32_2514
  let c1_i32_2536 : BitVec 32 := 1#32
  let v7885 : BitVec 32 := Scalar.subi v7735 c1_i32_2536
  let c0_i32_2537 : BitVec 32 := 0#32
  let v7886 : BitVec 1 := Scalar.cmpi .ne v7885 c0_i32_2537
  v7886

def k0_cond3 (i : grid0.Coords) : BitVec 1 :=
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.addi v0 c128_i32_0
  let c1024_i32 : BitVec 32 := 1024#32
  let v2 : BitVec 32 := Scalar.addi v1 c1024_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c1024_i32_1 : BitVec 32 := 1024#32
  let c0_i32_3 : BitVec 32 := 0#32
  let v10 : BitVec 1 := Scalar.cmpi .sgt c1024_i32_1 c0_i32_3
  let v11 : BitVec 32 := Scalar.extui v10
  let c0_i32_4 : BitVec 32 := 0#32
  let v12 : BitVec 1 := Scalar.cmpi .slt c1024_i32_1 c0_i32_4
  let v13 : BitVec 32 := Scalar.extui v12
  let v14 : BitVec 32 := Scalar.subi v11 v13
  let v15 : BitVec 1 := Scalar.cmpi .ne v9 v14
  let v16 : BitVec 32 := Scalar.remsi v3 c1024_i32_1
  let c0_i32_5 : BitVec 32 := 0#32
  let v17 : BitVec 1 := Scalar.cmpi .ne v16 c0_i32_5
  let v18 : BitVec 1 := Scalar.andi v15 v17
  let v4 : BitVec 32 := Scalar.divsi v3 c1024_i32_1
  let c1_i32_6 : BitVec 32 := 1#32
  let v19 : BitVec 32 := Scalar.subi v4 c1_i32_6
  let v20 : BitVec 32 := Scalar.select v18 v19 v4
  let c1_i32_2512 : BitVec 32 := 1#32
  let v7733 : BitVec 32 := Scalar.subi v20 c1_i32_2512
  let c0_i32_2513 : BitVec 32 := 0#32
  let v7734 : BitVec 32 := Scalar.maxsi v7733 c0_i32_2513
  let c3_i32_2514 : BitVec 32 := 3#32
  let v7735 : BitVec 32 := Scalar.minsi v7734 c3_i32_2514
  let c1_i32_2536 : BitVec 32 := 1#32
  let v7885 : BitVec 32 := Scalar.subi v7735 c1_i32_2536
  let c1_i32_2538 : BitVec 32 := 1#32
  let v7887 : BitVec 32 := Scalar.subi v7885 c1_i32_2538
  let c0_i32_2539 : BitVec 32 := 0#32
  let v7888 : BitVec 1 := Scalar.cmpi .ne v7887 c0_i32_2539
  v7888

def k0_mult1 (i : grid0.Coords) : BitVec 32 :=
  let arg1 : BitVec 32 := BitVec.ofNat 32 (i 1).val
  let c4_i32_2540 : BitVec 32 := 4#32
  let v7889 : BitVec 32 := Scalar.subi arg1 c4_i32_2540
  let c0_i32_2541 : BitVec 32 := 0#32
  let v7890 : BitVec 32 := Scalar.addi v7889 c0_i32_2541
  let c0_i32_2542 : BitVec 32 := 0#32
  let v7891 : BitVec 32 := Scalar.maxsi v7890 c0_i32_2542
  let c128_i32_2543 : BitVec 32 := 128#32
  let v7892 : BitVec 32 := Scalar.muli v7891 c128_i32_2543
  v7892
def k0_off1 (i : grid0.Coords) (c0_i32_2541 : BitVec 32) : Fin 3 → Nat :=
  let c0_2544 : Index := 0#32
  let arg1 : BitVec 32 := BitVec.ofNat 32 (i 1).val
  let c4_i32_2540 : BitVec 32 := 4#32
  let v7889 : BitVec 32 := Scalar.subi arg1 c4_i32_2540
  let v7890 : BitVec 32 := Scalar.addi v7889 c0_i32_2541
  let c0_i32_2542 : BitVec 32 := 0#32
  let v7891 : BitVec 32 := Scalar.maxsi v7890 c0_i32_2542
  let c128_i32_2543 : BitVec 32 := 128#32
  let v7892 : BitVec 32 := Scalar.muli v7891 c128_i32_2543
  let v7893 : BitVec 32 := v7892
  let v7894 : Index := Scalar.indexCast v7893
  let c0_2545 : Index := 0#32
  ![0, v7894.toNat, 0]
def k0_off2 (i : grid0.Coords) (c0_i32_2541 : BitVec 32) : Fin 4 → Nat :=
  let c0_2546 : Index := 0#32
  let arg1 : BitVec 32 := BitVec.ofNat 32 (i 1).val
  let c4_i32_2540 : BitVec 32 := 4#32
  let v7889 : BitVec 32 := Scalar.subi arg1 c4_i32_2540
  let v7890 : BitVec 32 := Scalar.addi v7889 c0_i32_2541
  let c0_i32_2542 : BitVec 32 := 0#32
  let v7891 : BitVec 32 := Scalar.maxsi v7890 c0_i32_2542
  let v7897 : Index := Scalar.indexCast v7891
  let c0_2547 : Index := 0#32
  let c0_2548 : Index := 0#32
  ![0, v7897.toNat, 0, 0]
def k0_mult2 (i : grid0.Coords) : BitVec 32 :=
  let arg1 : BitVec 32 := BitVec.ofNat 32 (i 1).val
  let c4_i32_2554 : BitVec 32 := 4#32
  let v7917 : BitVec 32 := Scalar.subi arg1 c4_i32_2554
  let c1_i32_2555 : BitVec 32 := 1#32
  let v7918 : BitVec 32 := Scalar.addi v7917 c1_i32_2555
  let c0_i32_2556 : BitVec 32 := 0#32
  let v7919 : BitVec 32 := Scalar.maxsi v7918 c0_i32_2556
  let c128_i32_2557 : BitVec 32 := 128#32
  let v7920 : BitVec 32 := Scalar.muli v7919 c128_i32_2557
  v7920
def k0_mult3 (i : grid0.Coords) : BitVec 32 :=
  let arg1 : BitVec 32 := BitVec.ofNat 32 (i 1).val
  let c4_i32_2569 : BitVec 32 := 4#32
  let v7945 : BitVec 32 := Scalar.subi arg1 c4_i32_2569
  let c2_i32_2570 : BitVec 32 := 2#32
  let v7946 : BitVec 32 := Scalar.addi v7945 c2_i32_2570
  let c0_i32_2571 : BitVec 32 := 0#32
  let v7947 : BitVec 32 := Scalar.maxsi v7946 c0_i32_2571
  let c128_i32_2572 : BitVec 32 := 128#32
  let v7948 : BitVec 32 := Scalar.muli v7947 c128_i32_2572
  v7948
def k0_mult4 (i : grid0.Coords) : BitVec 32 :=
  let arg1 : BitVec 32 := BitVec.ofNat 32 (i 1).val
  let c4_i32_2584 : BitVec 32 := 4#32
  let v7973 : BitVec 32 := Scalar.subi arg1 c4_i32_2584
  let c3_i32_2585 : BitVec 32 := 3#32
  let v7974 : BitVec 32 := Scalar.addi v7973 c3_i32_2585
  let c0_i32_2586 : BitVec 32 := 0#32
  let v7975 : BitVec 32 := Scalar.maxsi v7974 c0_i32_2586
  let c128_i32_2587 : BitVec 32 := 128#32
  let v7976 : BitVec 32 := Scalar.muli v7975 c128_i32_2587
  v7976
def k0_mult5 (i : grid0.Coords) : BitVec 32 :=
  let arg1 : BitVec 32 := BitVec.ofNat 32 (i 1).val
  let c4_i32_2599 : BitVec 32 := 4#32
  let v8001 : BitVec 32 := Scalar.subi arg1 c4_i32_2599
  let c4_i32_2600 : BitVec 32 := 4#32
  let v8002 : BitVec 32 := Scalar.addi v8001 c4_i32_2600
  let c0_i32_2601 : BitVec 32 := 0#32
  let v8003 : BitVec 32 := Scalar.maxsi v8002 c0_i32_2601
  let c128_i32_2602 : BitVec 32 := 128#32
  let v8004 : BitVec 32 := Scalar.muli v8003 c128_i32_2602
  v8004
def k0_mult6 (i : grid0.Coords) : BitVec 32 :=
  let arg1 : BitVec 32 := BitVec.ofNat 32 (i 1).val
  let c4_i32_2633 : BitVec 32 := 4#32
  let v8060 : BitVec 32 := Scalar.subi arg1 c4_i32_2633
  let c0_i32_2634 : BitVec 32 := 0#32
  let v8061 : BitVec 32 := Scalar.addi v8060 c0_i32_2634
  let c0_i32_2635 : BitVec 32 := 0#32
  let v8062 : BitVec 32 := Scalar.maxsi v8061 c0_i32_2635
  let c128_i32_2636 : BitVec 32 := 128#32
  let v8063 : BitVec 32 := Scalar.muli v8062 c128_i32_2636
  v8063
def k0_off3 (i : grid0.Coords) (c0_i32_2634 : BitVec 32) : Fin 3 → Nat :=
  let c0_2637 : Index := 0#32
  let arg1 : BitVec 32 := BitVec.ofNat 32 (i 1).val
  let c4_i32_2633 : BitVec 32 := 4#32
  let v8060 : BitVec 32 := Scalar.subi arg1 c4_i32_2633
  let v8061 : BitVec 32 := Scalar.addi v8060 c0_i32_2634
  let c0_i32_2635 : BitVec 32 := 0#32
  let v8062 : BitVec 32 := Scalar.maxsi v8061 c0_i32_2635
  let c128_i32_2636 : BitVec 32 := 128#32
  let v8063 : BitVec 32 := Scalar.muli v8062 c128_i32_2636
  let v8064 : BitVec 32 := v8063
  let v8065 : Index := Scalar.indexCast v8064
  let c64_2638 : Index := 64#32
  ![0, v8065.toNat, 64]
def k0_mult7 (i : grid0.Coords) : BitVec 32 :=
  let arg1 : BitVec 32 := BitVec.ofNat 32 (i 1).val
  let c4_i32_2648 : BitVec 32 := 4#32
  let v8088 : BitVec 32 := Scalar.subi arg1 c4_i32_2648
  let c1_i32_2649 : BitVec 32 := 1#32
  let v8089 : BitVec 32 := Scalar.addi v8088 c1_i32_2649
  let c0_i32_2650 : BitVec 32 := 0#32
  let v8090 : BitVec 32 := Scalar.maxsi v8089 c0_i32_2650
  let c128_i32_2651 : BitVec 32 := 128#32
  let v8091 : BitVec 32 := Scalar.muli v8090 c128_i32_2651
  v8091
def k0_mult8 (i : grid0.Coords) : BitVec 32 :=
  let arg1 : BitVec 32 := BitVec.ofNat 32 (i 1).val
  let c4_i32_2663 : BitVec 32 := 4#32
  let v8116 : BitVec 32 := Scalar.subi arg1 c4_i32_2663
  let c2_i32_2664 : BitVec 32 := 2#32
  let v8117 : BitVec 32 := Scalar.addi v8116 c2_i32_2664
  let c0_i32_2665 : BitVec 32 := 0#32
  let v8118 : BitVec 32 := Scalar.maxsi v8117 c0_i32_2665
  let c128_i32_2666 : BitVec 32 := 128#32
  let v8119 : BitVec 32 := Scalar.muli v8118 c128_i32_2666
  v8119
def k0_mult9 (i : grid0.Coords) : BitVec 32 :=
  let arg1 : BitVec 32 := BitVec.ofNat 32 (i 1).val
  let c4_i32_2678 : BitVec 32 := 4#32
  let v8144 : BitVec 32 := Scalar.subi arg1 c4_i32_2678
  let c3_i32_2679 : BitVec 32 := 3#32
  let v8145 : BitVec 32 := Scalar.addi v8144 c3_i32_2679
  let c0_i32_2680 : BitVec 32 := 0#32
  let v8146 : BitVec 32 := Scalar.maxsi v8145 c0_i32_2680
  let c128_i32_2681 : BitVec 32 := 128#32
  let v8147 : BitVec 32 := Scalar.muli v8146 c128_i32_2681
  v8147
def k0_mult10 (i : grid0.Coords) : BitVec 32 :=
  let arg1 : BitVec 32 := BitVec.ofNat 32 (i 1).val
  let c4_i32_2693 : BitVec 32 := 4#32
  let v8172 : BitVec 32 := Scalar.subi arg1 c4_i32_2693
  let c4_i32_2694 : BitVec 32 := 4#32
  let v8173 : BitVec 32 := Scalar.addi v8172 c4_i32_2694
  let c0_i32_2695 : BitVec 32 := 0#32
  let v8174 : BitVec 32 := Scalar.maxsi v8173 c0_i32_2695
  let c128_i32_2696 : BitVec 32 := 128#32
  let v8175 : BitVec 32 := Scalar.muli v8174 c128_i32_2696
  v8175
def k0_mult11 (i : grid0.Coords) : BitVec 32 :=
  let arg1 : BitVec 32 := BitVec.ofNat 32 (i 1).val
  let c4_i32_2540 : BitVec 32 := 4#32
  let v7889 : BitVec 32 := Scalar.subi arg1 c4_i32_2540
  let c0_i32_2541 : BitVec 32 := 0#32
  let v7890 : BitVec 32 := Scalar.addi v7889 c0_i32_2541
  let c0_i32_2542 : BitVec 32 := 0#32
  let v7891 : BitVec 32 := Scalar.maxsi v7890 c0_i32_2542
  let c128_i32_2543 : BitVec 32 := 128#32
  let v7892 : BitVec 32 := Scalar.muli v7891 c128_i32_2543
  v7892
def k0_off4 (i : grid0.Coords) (c0_i32_2541 : BitVec 32) : Fin 3 → Nat :=
  let c0_2544 : Index := 0#32
  let arg1 : BitVec 32 := BitVec.ofNat 32 (i 1).val
  let c4_i32_2540 : BitVec 32 := 4#32
  let v7889 : BitVec 32 := Scalar.subi arg1 c4_i32_2540
  let v7890 : BitVec 32 := Scalar.addi v7889 c0_i32_2541
  let c0_i32_2542 : BitVec 32 := 0#32
  let v7891 : BitVec 32 := Scalar.maxsi v7890 c0_i32_2542
  let c128_i32_2543 : BitVec 32 := 128#32
  let v7892 : BitVec 32 := Scalar.muli v7891 c128_i32_2543
  let v7893 : BitVec 32 := v7892
  let v7894 : Index := Scalar.indexCast v7893
  let c0_2545 : Index := 0#32
  ![0, v7894.toNat, 0]
def k0_off5 (i : grid0.Coords) (c0_i32_2541 : BitVec 32) : Fin 4 → Nat :=
  let c0_2546 : Index := 0#32
  let arg1 : BitVec 32 := BitVec.ofNat 32 (i 1).val
  let c4_i32_2540 : BitVec 32 := 4#32
  let v7889 : BitVec 32 := Scalar.subi arg1 c4_i32_2540
  let v7890 : BitVec 32 := Scalar.addi v7889 c0_i32_2541
  let c0_i32_2542 : BitVec 32 := 0#32
  let v7891 : BitVec 32 := Scalar.maxsi v7890 c0_i32_2542
  let v7897 : Index := Scalar.indexCast v7891
  let c0_2547 : Index := 0#32
  let c0_2548 : Index := 0#32
  ![0, v7897.toNat, 0, 0]
def k0_mult12 (i : grid0.Coords) : BitVec 32 :=
  let arg1 : BitVec 32 := BitVec.ofNat 32 (i 1).val
  let c4_i32_2554 : BitVec 32 := 4#32
  let v7917 : BitVec 32 := Scalar.subi arg1 c4_i32_2554
  let c1_i32_2555 : BitVec 32 := 1#32
  let v7918 : BitVec 32 := Scalar.addi v7917 c1_i32_2555
  let c0_i32_2556 : BitVec 32 := 0#32
  let v7919 : BitVec 32 := Scalar.maxsi v7918 c0_i32_2556
  let c128_i32_2557 : BitVec 32 := 128#32
  let v7920 : BitVec 32 := Scalar.muli v7919 c128_i32_2557
  v7920
def k0_mult13 (i : grid0.Coords) : BitVec 32 :=
  let arg1 : BitVec 32 := BitVec.ofNat 32 (i 1).val
  let c4_i32_2569 : BitVec 32 := 4#32
  let v7945 : BitVec 32 := Scalar.subi arg1 c4_i32_2569
  let c2_i32_2570 : BitVec 32 := 2#32
  let v7946 : BitVec 32 := Scalar.addi v7945 c2_i32_2570
  let c0_i32_2571 : BitVec 32 := 0#32
  let v7947 : BitVec 32 := Scalar.maxsi v7946 c0_i32_2571
  let c128_i32_2572 : BitVec 32 := 128#32
  let v7948 : BitVec 32 := Scalar.muli v7947 c128_i32_2572
  v7948
def k0_mult14 (i : grid0.Coords) : BitVec 32 :=
  let arg1 : BitVec 32 := BitVec.ofNat 32 (i 1).val
  let c4_i32_2584 : BitVec 32 := 4#32
  let v7973 : BitVec 32 := Scalar.subi arg1 c4_i32_2584
  let c3_i32_2585 : BitVec 32 := 3#32
  let v7974 : BitVec 32 := Scalar.addi v7973 c3_i32_2585
  let c0_i32_2586 : BitVec 32 := 0#32
  let v7975 : BitVec 32 := Scalar.maxsi v7974 c0_i32_2586
  let c128_i32_2587 : BitVec 32 := 128#32
  let v7976 : BitVec 32 := Scalar.muli v7975 c128_i32_2587
  v7976
def k0_mult15 (i : grid0.Coords) : BitVec 32 :=
  let arg1 : BitVec 32 := BitVec.ofNat 32 (i 1).val
  let c4_i32_2599 : BitVec 32 := 4#32
  let v8001 : BitVec 32 := Scalar.subi arg1 c4_i32_2599
  let c4_i32_2600 : BitVec 32 := 4#32
  let v8002 : BitVec 32 := Scalar.addi v8001 c4_i32_2600
  let c0_i32_2601 : BitVec 32 := 0#32
  let v8003 : BitVec 32 := Scalar.maxsi v8002 c0_i32_2601
  let c128_i32_2602 : BitVec 32 := 128#32
  let v8004 : BitVec 32 := Scalar.muli v8003 c128_i32_2602
  v8004
def k0_mult16 (i : grid0.Coords) : BitVec 32 :=
  let arg1 : BitVec 32 := BitVec.ofNat 32 (i 1).val
  let c4_i32_2633 : BitVec 32 := 4#32
  let v8060 : BitVec 32 := Scalar.subi arg1 c4_i32_2633
  let c0_i32_2634 : BitVec 32 := 0#32
  let v8061 : BitVec 32 := Scalar.addi v8060 c0_i32_2634
  let c0_i32_2635 : BitVec 32 := 0#32
  let v8062 : BitVec 32 := Scalar.maxsi v8061 c0_i32_2635
  let c128_i32_2636 : BitVec 32 := 128#32
  let v8063 : BitVec 32 := Scalar.muli v8062 c128_i32_2636
  v8063
def k0_off6 (i : grid0.Coords) (c0_i32_2634 : BitVec 32) : Fin 3 → Nat :=
  let c0_2637 : Index := 0#32
  let arg1 : BitVec 32 := BitVec.ofNat 32 (i 1).val
  let c4_i32_2633 : BitVec 32 := 4#32
  let v8060 : BitVec 32 := Scalar.subi arg1 c4_i32_2633
  let v8061 : BitVec 32 := Scalar.addi v8060 c0_i32_2634
  let c0_i32_2635 : BitVec 32 := 0#32
  let v8062 : BitVec 32 := Scalar.maxsi v8061 c0_i32_2635
  let c128_i32_2636 : BitVec 32 := 128#32
  let v8063 : BitVec 32 := Scalar.muli v8062 c128_i32_2636
  let v8064 : BitVec 32 := v8063
  let v8065 : Index := Scalar.indexCast v8064
  let c64_2638 : Index := 64#32
  ![0, v8065.toNat, 64]
def k0_mult17 (i : grid0.Coords) : BitVec 32 :=
  let arg1 : BitVec 32 := BitVec.ofNat 32 (i 1).val
  let c4_i32_2648 : BitVec 32 := 4#32
  let v8088 : BitVec 32 := Scalar.subi arg1 c4_i32_2648
  let c1_i32_2649 : BitVec 32 := 1#32
  let v8089 : BitVec 32 := Scalar.addi v8088 c1_i32_2649
  let c0_i32_2650 : BitVec 32 := 0#32
  let v8090 : BitVec 32 := Scalar.maxsi v8089 c0_i32_2650
  let c128_i32_2651 : BitVec 32 := 128#32
  let v8091 : BitVec 32 := Scalar.muli v8090 c128_i32_2651
  v8091
def k0_mult18 (i : grid0.Coords) : BitVec 32 :=
  let arg1 : BitVec 32 := BitVec.ofNat 32 (i 1).val
  let c4_i32_2663 : BitVec 32 := 4#32
  let v8116 : BitVec 32 := Scalar.subi arg1 c4_i32_2663
  let c2_i32_2664 : BitVec 32 := 2#32
  let v8117 : BitVec 32 := Scalar.addi v8116 c2_i32_2664
  let c0_i32_2665 : BitVec 32 := 0#32
  let v8118 : BitVec 32 := Scalar.maxsi v8117 c0_i32_2665
  let c128_i32_2666 : BitVec 32 := 128#32
  let v8119 : BitVec 32 := Scalar.muli v8118 c128_i32_2666
  v8119
def k0_mult19 (i : grid0.Coords) : BitVec 32 :=
  let arg1 : BitVec 32 := BitVec.ofNat 32 (i 1).val
  let c4_i32_2678 : BitVec 32 := 4#32
  let v8144 : BitVec 32 := Scalar.subi arg1 c4_i32_2678
  let c3_i32_2679 : BitVec 32 := 3#32
  let v8145 : BitVec 32 := Scalar.addi v8144 c3_i32_2679
  let c0_i32_2680 : BitVec 32 := 0#32
  let v8146 : BitVec 32 := Scalar.maxsi v8145 c0_i32_2680
  let c128_i32_2681 : BitVec 32 := 128#32
  let v8147 : BitVec 32 := Scalar.muli v8146 c128_i32_2681
  v8147
def k0_mult20 (i : grid0.Coords) : BitVec 32 :=
  let arg1 : BitVec 32 := BitVec.ofNat 32 (i 1).val
  let c4_i32_2693 : BitVec 32 := 4#32
  let v8172 : BitVec 32 := Scalar.subi arg1 c4_i32_2693
  let c4_i32_2694 : BitVec 32 := 4#32
  let v8173 : BitVec 32 := Scalar.addi v8172 c4_i32_2694
  let c0_i32_2695 : BitVec 32 := 0#32
  let v8174 : BitVec 32 := Scalar.maxsi v8173 c0_i32_2695
  let c128_i32_2696 : BitVec 32 := 128#32
  let v8175 : BitVec 32 := Scalar.muli v8174 c128_i32_2696
  v8175
def k0_mult21 (i : grid0.Coords) : BitVec 32 :=
  let arg1 : BitVec 32 := BitVec.ofNat 32 (i 1).val
  let c4_i32_2538 : BitVec 32 := 4#32
  let v7887 : BitVec 32 := Scalar.subi arg1 c4_i32_2538
  let c0_i32_2539 : BitVec 32 := 0#32
  let v7888 : BitVec 32 := Scalar.addi v7887 c0_i32_2539
  let c0_i32_2540 : BitVec 32 := 0#32
  let v7889 : BitVec 32 := Scalar.maxsi v7888 c0_i32_2540
  let c128_i32_2541 : BitVec 32 := 128#32
  let v7890 : BitVec 32 := Scalar.muli v7889 c128_i32_2541
  v7890
def k0_off7 (i : grid0.Coords) (c0_i32_2539 : BitVec 32) : Fin 3 → Nat :=
  let c0_2542 : Index := 0#32
  let arg1 : BitVec 32 := BitVec.ofNat 32 (i 1).val
  let c4_i32_2538 : BitVec 32 := 4#32
  let v7887 : BitVec 32 := Scalar.subi arg1 c4_i32_2538
  let v7888 : BitVec 32 := Scalar.addi v7887 c0_i32_2539
  let c0_i32_2540 : BitVec 32 := 0#32
  let v7889 : BitVec 32 := Scalar.maxsi v7888 c0_i32_2540
  let c128_i32_2541 : BitVec 32 := 128#32
  let v7890 : BitVec 32 := Scalar.muli v7889 c128_i32_2541
  let v7891 : BitVec 32 := v7890
  let v7892 : Index := Scalar.indexCast v7891
  let c0_2543 : Index := 0#32
  ![0, v7892.toNat, 0]
def k0_off8 (i : grid0.Coords) (c0_i32_2539 : BitVec 32) : Fin 4 → Nat :=
  let c0_2544 : Index := 0#32
  let arg1 : BitVec 32 := BitVec.ofNat 32 (i 1).val
  let c4_i32_2538 : BitVec 32 := 4#32
  let v7887 : BitVec 32 := Scalar.subi arg1 c4_i32_2538
  let v7888 : BitVec 32 := Scalar.addi v7887 c0_i32_2539
  let c0_i32_2540 : BitVec 32 := 0#32
  let v7889 : BitVec 32 := Scalar.maxsi v7888 c0_i32_2540
  let v7895 : Index := Scalar.indexCast v7889
  let c0_2545 : Index := 0#32
  let c0_2546 : Index := 0#32
  ![0, v7895.toNat, 0, 0]
def k0_mult22 (i : grid0.Coords) : BitVec 32 :=
  let arg1 : BitVec 32 := BitVec.ofNat 32 (i 1).val
  let c4_i32_2552 : BitVec 32 := 4#32
  let v7915 : BitVec 32 := Scalar.subi arg1 c4_i32_2552
  let c1_i32_2553 : BitVec 32 := 1#32
  let v7916 : BitVec 32 := Scalar.addi v7915 c1_i32_2553
  let c0_i32_2554 : BitVec 32 := 0#32
  let v7917 : BitVec 32 := Scalar.maxsi v7916 c0_i32_2554
  let c128_i32_2555 : BitVec 32 := 128#32
  let v7918 : BitVec 32 := Scalar.muli v7917 c128_i32_2555
  v7918
def k0_mult23 (i : grid0.Coords) : BitVec 32 :=
  let arg1 : BitVec 32 := BitVec.ofNat 32 (i 1).val
  let c4_i32_2567 : BitVec 32 := 4#32
  let v7943 : BitVec 32 := Scalar.subi arg1 c4_i32_2567
  let c2_i32_2568 : BitVec 32 := 2#32
  let v7944 : BitVec 32 := Scalar.addi v7943 c2_i32_2568
  let c0_i32_2569 : BitVec 32 := 0#32
  let v7945 : BitVec 32 := Scalar.maxsi v7944 c0_i32_2569
  let c128_i32_2570 : BitVec 32 := 128#32
  let v7946 : BitVec 32 := Scalar.muli v7945 c128_i32_2570
  v7946
def k0_mult24 (i : grid0.Coords) : BitVec 32 :=
  let arg1 : BitVec 32 := BitVec.ofNat 32 (i 1).val
  let c4_i32_2582 : BitVec 32 := 4#32
  let v7971 : BitVec 32 := Scalar.subi arg1 c4_i32_2582
  let c3_i32_2583 : BitVec 32 := 3#32
  let v7972 : BitVec 32 := Scalar.addi v7971 c3_i32_2583
  let c0_i32_2584 : BitVec 32 := 0#32
  let v7973 : BitVec 32 := Scalar.maxsi v7972 c0_i32_2584
  let c128_i32_2585 : BitVec 32 := 128#32
  let v7974 : BitVec 32 := Scalar.muli v7973 c128_i32_2585
  v7974
def k0_mult25 (i : grid0.Coords) : BitVec 32 :=
  let arg1 : BitVec 32 := BitVec.ofNat 32 (i 1).val
  let c4_i32_2597 : BitVec 32 := 4#32
  let v7999 : BitVec 32 := Scalar.subi arg1 c4_i32_2597
  let c4_i32_2598 : BitVec 32 := 4#32
  let v8000 : BitVec 32 := Scalar.addi v7999 c4_i32_2598
  let c0_i32_2599 : BitVec 32 := 0#32
  let v8001 : BitVec 32 := Scalar.maxsi v8000 c0_i32_2599
  let c128_i32_2600 : BitVec 32 := 128#32
  let v8002 : BitVec 32 := Scalar.muli v8001 c128_i32_2600
  v8002
def k0_mult26 (i : grid0.Coords) : BitVec 32 :=
  let arg1 : BitVec 32 := BitVec.ofNat 32 (i 1).val
  let c4_i32_2631 : BitVec 32 := 4#32
  let v8058 : BitVec 32 := Scalar.subi arg1 c4_i32_2631
  let c0_i32_2632 : BitVec 32 := 0#32
  let v8059 : BitVec 32 := Scalar.addi v8058 c0_i32_2632
  let c0_i32_2633 : BitVec 32 := 0#32
  let v8060 : BitVec 32 := Scalar.maxsi v8059 c0_i32_2633
  let c128_i32_2634 : BitVec 32 := 128#32
  let v8061 : BitVec 32 := Scalar.muli v8060 c128_i32_2634
  v8061
def k0_off9 (i : grid0.Coords) (c0_i32_2632 : BitVec 32) : Fin 3 → Nat :=
  let c0_2635 : Index := 0#32
  let arg1 : BitVec 32 := BitVec.ofNat 32 (i 1).val
  let c4_i32_2631 : BitVec 32 := 4#32
  let v8058 : BitVec 32 := Scalar.subi arg1 c4_i32_2631
  let v8059 : BitVec 32 := Scalar.addi v8058 c0_i32_2632
  let c0_i32_2633 : BitVec 32 := 0#32
  let v8060 : BitVec 32 := Scalar.maxsi v8059 c0_i32_2633
  let c128_i32_2634 : BitVec 32 := 128#32
  let v8061 : BitVec 32 := Scalar.muli v8060 c128_i32_2634
  let v8062 : BitVec 32 := v8061
  let v8063 : Index := Scalar.indexCast v8062
  let c64_2636 : Index := 64#32
  ![0, v8063.toNat, 64]
def k0_mult27 (i : grid0.Coords) : BitVec 32 :=
  let arg1 : BitVec 32 := BitVec.ofNat 32 (i 1).val
  let c4_i32_2646 : BitVec 32 := 4#32
  let v8086 : BitVec 32 := Scalar.subi arg1 c4_i32_2646
  let c1_i32_2647 : BitVec 32 := 1#32
  let v8087 : BitVec 32 := Scalar.addi v8086 c1_i32_2647
  let c0_i32_2648 : BitVec 32 := 0#32
  let v8088 : BitVec 32 := Scalar.maxsi v8087 c0_i32_2648
  let c128_i32_2649 : BitVec 32 := 128#32
  let v8089 : BitVec 32 := Scalar.muli v8088 c128_i32_2649
  v8089
def k0_mult28 (i : grid0.Coords) : BitVec 32 :=
  let arg1 : BitVec 32 := BitVec.ofNat 32 (i 1).val
  let c4_i32_2661 : BitVec 32 := 4#32
  let v8114 : BitVec 32 := Scalar.subi arg1 c4_i32_2661
  let c2_i32_2662 : BitVec 32 := 2#32
  let v8115 : BitVec 32 := Scalar.addi v8114 c2_i32_2662
  let c0_i32_2663 : BitVec 32 := 0#32
  let v8116 : BitVec 32 := Scalar.maxsi v8115 c0_i32_2663
  let c128_i32_2664 : BitVec 32 := 128#32
  let v8117 : BitVec 32 := Scalar.muli v8116 c128_i32_2664
  v8117
def k0_mult29 (i : grid0.Coords) : BitVec 32 :=
  let arg1 : BitVec 32 := BitVec.ofNat 32 (i 1).val
  let c4_i32_2676 : BitVec 32 := 4#32
  let v8142 : BitVec 32 := Scalar.subi arg1 c4_i32_2676
  let c3_i32_2677 : BitVec 32 := 3#32
  let v8143 : BitVec 32 := Scalar.addi v8142 c3_i32_2677
  let c0_i32_2678 : BitVec 32 := 0#32
  let v8144 : BitVec 32 := Scalar.maxsi v8143 c0_i32_2678
  let c128_i32_2679 : BitVec 32 := 128#32
  let v8145 : BitVec 32 := Scalar.muli v8144 c128_i32_2679
  v8145
def k0_mult30 (i : grid0.Coords) : BitVec 32 :=
  let arg1 : BitVec 32 := BitVec.ofNat 32 (i 1).val
  let c4_i32_2691 : BitVec 32 := 4#32
  let v8170 : BitVec 32 := Scalar.subi arg1 c4_i32_2691
  let c4_i32_2692 : BitVec 32 := 4#32
  let v8171 : BitVec 32 := Scalar.addi v8170 c4_i32_2692
  let c0_i32_2693 : BitVec 32 := 0#32
  let v8172 : BitVec 32 := Scalar.maxsi v8171 c0_i32_2693
  let c128_i32_2694 : BitVec 32 := 128#32
  let v8173 : BitVec 32 := Scalar.muli v8172 c128_i32_2694
  v8173
def k0_mult31 (i : grid0.Coords) : BitVec 32 :=
  let arg1 : BitVec 32 := BitVec.ofNat 32 (i 1).val
  let c4_i32_2536 : BitVec 32 := 4#32
  let v7885 : BitVec 32 := Scalar.subi arg1 c4_i32_2536
  let c0_i32_2537 : BitVec 32 := 0#32
  let v7886 : BitVec 32 := Scalar.addi v7885 c0_i32_2537
  let c0_i32_2538 : BitVec 32 := 0#32
  let v7887 : BitVec 32 := Scalar.maxsi v7886 c0_i32_2538
  let c128_i32_2539 : BitVec 32 := 128#32
  let v7888 : BitVec 32 := Scalar.muli v7887 c128_i32_2539
  v7888
def k0_off10 (i : grid0.Coords) (c0_i32_2537 : BitVec 32) : Fin 3 → Nat :=
  let c0_2540 : Index := 0#32
  let arg1 : BitVec 32 := BitVec.ofNat 32 (i 1).val
  let c4_i32_2536 : BitVec 32 := 4#32
  let v7885 : BitVec 32 := Scalar.subi arg1 c4_i32_2536
  let v7886 : BitVec 32 := Scalar.addi v7885 c0_i32_2537
  let c0_i32_2538 : BitVec 32 := 0#32
  let v7887 : BitVec 32 := Scalar.maxsi v7886 c0_i32_2538
  let c128_i32_2539 : BitVec 32 := 128#32
  let v7888 : BitVec 32 := Scalar.muli v7887 c128_i32_2539
  let v7889 : BitVec 32 := v7888
  let v7890 : Index := Scalar.indexCast v7889
  let c0_2541 : Index := 0#32
  ![0, v7890.toNat, 0]
def k0_off11 (i : grid0.Coords) (c0_i32_2537 : BitVec 32) : Fin 4 → Nat :=
  let c0_2542 : Index := 0#32
  let arg1 : BitVec 32 := BitVec.ofNat 32 (i 1).val
  let c4_i32_2536 : BitVec 32 := 4#32
  let v7885 : BitVec 32 := Scalar.subi arg1 c4_i32_2536
  let v7886 : BitVec 32 := Scalar.addi v7885 c0_i32_2537
  let c0_i32_2538 : BitVec 32 := 0#32
  let v7887 : BitVec 32 := Scalar.maxsi v7886 c0_i32_2538
  let v7893 : Index := Scalar.indexCast v7887
  let c0_2543 : Index := 0#32
  let c0_2544 : Index := 0#32
  ![0, v7893.toNat, 0, 0]
def k0_mult32 (i : grid0.Coords) : BitVec 32 :=
  let arg1 : BitVec 32 := BitVec.ofNat 32 (i 1).val
  let c4_i32_2550 : BitVec 32 := 4#32
  let v7913 : BitVec 32 := Scalar.subi arg1 c4_i32_2550
  let c1_i32_2551 : BitVec 32 := 1#32
  let v7914 : BitVec 32 := Scalar.addi v7913 c1_i32_2551
  let c0_i32_2552 : BitVec 32 := 0#32
  let v7915 : BitVec 32 := Scalar.maxsi v7914 c0_i32_2552
  let c128_i32_2553 : BitVec 32 := 128#32
  let v7916 : BitVec 32 := Scalar.muli v7915 c128_i32_2553
  v7916
def k0_mult33 (i : grid0.Coords) : BitVec 32 :=
  let arg1 : BitVec 32 := BitVec.ofNat 32 (i 1).val
  let c4_i32_2565 : BitVec 32 := 4#32
  let v7941 : BitVec 32 := Scalar.subi arg1 c4_i32_2565
  let c2_i32_2566 : BitVec 32 := 2#32
  let v7942 : BitVec 32 := Scalar.addi v7941 c2_i32_2566
  let c0_i32_2567 : BitVec 32 := 0#32
  let v7943 : BitVec 32 := Scalar.maxsi v7942 c0_i32_2567
  let c128_i32_2568 : BitVec 32 := 128#32
  let v7944 : BitVec 32 := Scalar.muli v7943 c128_i32_2568
  v7944
def k0_mult34 (i : grid0.Coords) : BitVec 32 :=
  let arg1 : BitVec 32 := BitVec.ofNat 32 (i 1).val
  let c4_i32_2580 : BitVec 32 := 4#32
  let v7969 : BitVec 32 := Scalar.subi arg1 c4_i32_2580
  let c3_i32_2581 : BitVec 32 := 3#32
  let v7970 : BitVec 32 := Scalar.addi v7969 c3_i32_2581
  let c0_i32_2582 : BitVec 32 := 0#32
  let v7971 : BitVec 32 := Scalar.maxsi v7970 c0_i32_2582
  let c128_i32_2583 : BitVec 32 := 128#32
  let v7972 : BitVec 32 := Scalar.muli v7971 c128_i32_2583
  v7972
def k0_mult35 (i : grid0.Coords) : BitVec 32 :=
  let arg1 : BitVec 32 := BitVec.ofNat 32 (i 1).val
  let c4_i32_2595 : BitVec 32 := 4#32
  let v7997 : BitVec 32 := Scalar.subi arg1 c4_i32_2595
  let c4_i32_2596 : BitVec 32 := 4#32
  let v7998 : BitVec 32 := Scalar.addi v7997 c4_i32_2596
  let c0_i32_2597 : BitVec 32 := 0#32
  let v7999 : BitVec 32 := Scalar.maxsi v7998 c0_i32_2597
  let c128_i32_2598 : BitVec 32 := 128#32
  let v8000 : BitVec 32 := Scalar.muli v7999 c128_i32_2598
  v8000
def k0_mult36 (i : grid0.Coords) : BitVec 32 :=
  let arg1 : BitVec 32 := BitVec.ofNat 32 (i 1).val
  let c4_i32_2629 : BitVec 32 := 4#32
  let v8056 : BitVec 32 := Scalar.subi arg1 c4_i32_2629
  let c0_i32_2630 : BitVec 32 := 0#32
  let v8057 : BitVec 32 := Scalar.addi v8056 c0_i32_2630
  let c0_i32_2631 : BitVec 32 := 0#32
  let v8058 : BitVec 32 := Scalar.maxsi v8057 c0_i32_2631
  let c128_i32_2632 : BitVec 32 := 128#32
  let v8059 : BitVec 32 := Scalar.muli v8058 c128_i32_2632
  v8059
def k0_off12 (i : grid0.Coords) (c0_i32_2630 : BitVec 32) : Fin 3 → Nat :=
  let c0_2633 : Index := 0#32
  let arg1 : BitVec 32 := BitVec.ofNat 32 (i 1).val
  let c4_i32_2629 : BitVec 32 := 4#32
  let v8056 : BitVec 32 := Scalar.subi arg1 c4_i32_2629
  let v8057 : BitVec 32 := Scalar.addi v8056 c0_i32_2630
  let c0_i32_2631 : BitVec 32 := 0#32
  let v8058 : BitVec 32 := Scalar.maxsi v8057 c0_i32_2631
  let c128_i32_2632 : BitVec 32 := 128#32
  let v8059 : BitVec 32 := Scalar.muli v8058 c128_i32_2632
  let v8060 : BitVec 32 := v8059
  let v8061 : Index := Scalar.indexCast v8060
  let c64_2634 : Index := 64#32
  ![0, v8061.toNat, 64]
def k0_mult37 (i : grid0.Coords) : BitVec 32 :=
  let arg1 : BitVec 32 := BitVec.ofNat 32 (i 1).val
  let c4_i32_2644 : BitVec 32 := 4#32
  let v8084 : BitVec 32 := Scalar.subi arg1 c4_i32_2644
  let c1_i32_2645 : BitVec 32 := 1#32
  let v8085 : BitVec 32 := Scalar.addi v8084 c1_i32_2645
  let c0_i32_2646 : BitVec 32 := 0#32
  let v8086 : BitVec 32 := Scalar.maxsi v8085 c0_i32_2646
  let c128_i32_2647 : BitVec 32 := 128#32
  let v8087 : BitVec 32 := Scalar.muli v8086 c128_i32_2647
  v8087
def k0_mult38 (i : grid0.Coords) : BitVec 32 :=
  let arg1 : BitVec 32 := BitVec.ofNat 32 (i 1).val
  let c4_i32_2659 : BitVec 32 := 4#32
  let v8112 : BitVec 32 := Scalar.subi arg1 c4_i32_2659
  let c2_i32_2660 : BitVec 32 := 2#32
  let v8113 : BitVec 32 := Scalar.addi v8112 c2_i32_2660
  let c0_i32_2661 : BitVec 32 := 0#32
  let v8114 : BitVec 32 := Scalar.maxsi v8113 c0_i32_2661
  let c128_i32_2662 : BitVec 32 := 128#32
  let v8115 : BitVec 32 := Scalar.muli v8114 c128_i32_2662
  v8115
def k0_mult39 (i : grid0.Coords) : BitVec 32 :=
  let arg1 : BitVec 32 := BitVec.ofNat 32 (i 1).val
  let c4_i32_2674 : BitVec 32 := 4#32
  let v8140 : BitVec 32 := Scalar.subi arg1 c4_i32_2674
  let c3_i32_2675 : BitVec 32 := 3#32
  let v8141 : BitVec 32 := Scalar.addi v8140 c3_i32_2675
  let c0_i32_2676 : BitVec 32 := 0#32
  let v8142 : BitVec 32 := Scalar.maxsi v8141 c0_i32_2676
  let c128_i32_2677 : BitVec 32 := 128#32
  let v8143 : BitVec 32 := Scalar.muli v8142 c128_i32_2677
  v8143
def k0_mult40 (i : grid0.Coords) : BitVec 32 :=
  let arg1 : BitVec 32 := BitVec.ofNat 32 (i 1).val
  let c4_i32_2689 : BitVec 32 := 4#32
  let v8168 : BitVec 32 := Scalar.subi arg1 c4_i32_2689
  let c4_i32_2690 : BitVec 32 := 4#32
  let v8169 : BitVec 32 := Scalar.addi v8168 c4_i32_2690
  let c0_i32_2691 : BitVec 32 := 0#32
  let v8170 : BitVec 32 := Scalar.maxsi v8169 c0_i32_2691
  let c128_i32_2692 : BitVec 32 := 128#32
  let v8171 : BitVec 32 := Scalar.muli v8170 c128_i32_2692
  v8171
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x32x128x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x32x128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S64x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x128x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x4096x512 : Shape := ⟨3, ![8, 4096, 512]⟩
abbrev S8x4096x24 : Shape := ⟨3, ![8, 4096, 24]⟩
abbrev S8x255x128 : Shape := ⟨3, ![8, 255, 128]⟩
abbrev S8x4096x128 : Shape := ⟨3, ![8, 4096, 128]⟩
abbrev S512 : Shape := ⟨1, ![512]⟩
abbrev S8x4096x2x4x64 : Shape := ⟨5, ![8, 4096, 2, 4, 64]⟩
abbrev S_ : Shape := ⟨0, ![]⟩
abbrev S8x4096x2x4x3 : Shape := ⟨5, ![8, 4096, 2, 4, 3]⟩
abbrev S8x255x2x64 : Shape := ⟨4, ![8, 255, 2, 64]⟩
abbrev S8x4096x2x64 : Shape := ⟨4, ![8, 4096, 2, 64]⟩
abbrev S4096 : Shape := ⟨1, ![4096]⟩
abbrev S255 : Shape := ⟨1, ![255]⟩
abbrev S8x2x255x4096x4 : Shape := ⟨5, ![8, 2, 255, 4096, 4]⟩
abbrev S8x4096x2x4x255 : Shape := ⟨5, ![8, 4096, 2, 4, 255]⟩
abbrev S1x255 : Shape := ⟨2, ![1, 255]⟩
abbrev S4096x1 : Shape := ⟨2, ![4096, 1]⟩
abbrev S4096x255 : Shape := ⟨2, ![4096, 255]⟩
abbrev S1x4096x1x1x255 : Shape := ⟨5, ![1, 4096, 1, 1, 255]⟩
abbrev S8x4096x2x4 : Shape := ⟨4, ![8, 4096, 2, 4]⟩
abbrev S8x4096x2x4x1 : Shape := ⟨5, ![8, 4096, 2, 4, 1]⟩
abbrev S8x2x64x4096x4 : Shape := ⟨5, ![8, 2, 64, 4096, 4]⟩
abbrev S64 : Shape := ⟨1, ![64]⟩
abbrev S255x1 : Shape := ⟨2, ![255, 1]⟩
abbrev S1x64 : Shape := ⟨2, ![1, 64]⟩
abbrev S255x64 : Shape := ⟨2, ![255, 64]⟩
abbrev S8x4096x2x255 : Shape := ⟨4, ![8, 4096, 2, 255]⟩
abbrev S4096x64 : Shape := ⟨2, ![4096, 64]⟩
abbrev S1x4096x1x64 : Shape := ⟨4, ![1, 4096, 1, 64]⟩
abbrev S8x4096x2x16 : Shape := ⟨4, ![8, 4096, 2, 16]⟩
abbrev S8x4096x2x16x1 : Shape := ⟨5, ![8, 4096, 2, 16, 1]⟩
abbrev S1x1x1x1x64 : Shape := ⟨5, ![1, 1, 1, 1, 64]⟩
abbrev S8x4096x2x16x64 : Shape := ⟨5, ![8, 4096, 2, 16, 64]⟩
abbrev S8x4096x2x1024 : Shape := ⟨4, ![8, 4096, 2, 1024]⟩
abbrev S8 : Shape := ⟨1, ![8]⟩
abbrev S8x1x1x1 : Shape := ⟨4, ![8, 1, 1, 1]⟩
abbrev S2 : Shape := ⟨1, ![2]⟩
abbrev S1x1x2x1 : Shape := ⟨4, ![1, 1, 2, 1]⟩
abbrev S8x4096x2x1024x1 : Shape := ⟨5, ![8, 4096, 2, 1024, 1]⟩
abbrev S8x4096x2x1024x3 : Shape := ⟨5, ![8, 4096, 2, 1024, 3]⟩
abbrev S8x4096x2x1024x64 : Shape := ⟨5, ![8, 4096, 2, 1024, 64]⟩
abbrev S8x4096x2x4x1024 : Shape := ⟨5, ![8, 4096, 2, 4, 1024]⟩
abbrev S1x4096x1x1 : Shape := ⟨4, ![1, 4096, 1, 1]⟩
abbrev S8x4096x2x1x1024 : Shape := ⟨5, ![8, 4096, 2, 1, 1024]⟩
abbrev S1x4096 : Shape := ⟨2, ![1, 4096]⟩
abbrev S4096x4096 : Shape := ⟨2, ![4096, 4096]⟩
abbrev S8x2x4096x4096x4 : Shape := ⟨5, ![8, 2, 4096, 4096, 4]⟩
abbrev S8x4096x2x4x4096 : Shape := ⟨5, ![8, 4096, 2, 4, 4096]⟩
abbrev S1x4096x1x1x4096 : Shape := ⟨5, ![1, 4096, 1, 1, 4096]⟩
abbrev S8x4096 : Shape := ⟨2, ![8, 4096]⟩
abbrev S8x4096x1 : Shape := ⟨3, ![8, 4096, 1]⟩
abbrev S1x1x512 : Shape := ⟨3, ![1, 1, 512]⟩

abbrev nBuf : Space → Nat
  | .hbm => 337
  | .vmem => 0
  | .smem => 0
  | _ => 0

abbrev hbmTy0_0 (i : Nat) : BufTy := match i % 128 with
  | 0 => ⟨S8x4096x512, .f32⟩
  | 1 => ⟨S8x4096x512, .f32⟩
  | 2 => ⟨S8x4096x24, .f32⟩
  | 3 => ⟨S8x255x128, .f32⟩
  | 4 => ⟨S8x255x128, .f32⟩
  | 5 => ⟨S8x4096x128, .f32⟩
  | 6 => ⟨S8x4096x128, .f32⟩
  | 7 => ⟨S8x4096x128, .f32⟩
  | 8 => ⟨S8x4096x128, .f32⟩
  | 9 => ⟨S512, .f32⟩
  | 10 => ⟨S8x4096x2x4x64, .f32⟩
  | 11 => ⟨S8x4096x2x4x64, .f32⟩
  | 12 => ⟨S8x4096x24, .f32⟩
  | 13 => ⟨S8x4096x24, .f32⟩
  | 14 => ⟨S_, .f32⟩
  | 15 => ⟨S8x4096x24, .f32⟩
  | 16 => ⟨S8x4096x24, .f32⟩
  | 17 => ⟨S_, .f32⟩
  | 18 => ⟨S8x4096x24, .f32⟩
  | 19 => ⟨S8x4096x24, .f32⟩
  | 20 => ⟨S8x4096x2x4x3, .f32⟩
  | 21 => ⟨S8x255x2x64, .f32⟩
  | 22 => ⟨S8x255x2x64, .f32⟩
  | 23 => ⟨S8x4096x2x64, .f32⟩
  | 24 => ⟨S8x4096x2x64, .f32⟩
  | 25 => ⟨S8x4096x2x64, .f32⟩
  | 26 => ⟨S8x4096x2x64, .f32⟩
  | 27 => ⟨S4096, .i32⟩
  | 28 => ⟨S255, .i32⟩
  | 29 => ⟨S_, .i32⟩
  | 30 => ⟨S255, .i32⟩
  | 31 => ⟨S255, .i32⟩
  | 32 => ⟨S_, .i32⟩
  | 33 => ⟨S255, .i32⟩
  | 34 => ⟨S255, .i32⟩
  | 35 => ⟨S8x2x255x4096x4, .f32⟩
  | 36 => ⟨S8x4096x2x4x255, .f32⟩
  | 37 => ⟨S_, .f32⟩
  | 38 => ⟨S8x4096x2x4x255, .f32⟩
  | 39 => ⟨S8x4096x2x4x255, .f32⟩
  | 40 => ⟨S1x255, .i32⟩
  | 41 => ⟨S4096x1, .i32⟩
  | 42 => ⟨S4096x255, .i32⟩
  | 43 => ⟨S4096x255, .i32⟩
  | 44 => ⟨S4096x255, .i1⟩
  | 45 => ⟨S1x4096x1x1x255, .i1⟩
  | 46 => ⟨S_, .f32⟩
  | 47 => ⟨S_, .f32⟩
  | 48 => ⟨S8x4096x2x4x255, .i1⟩
  | 49 => ⟨S8x4096x2x4x255, .f32⟩
  | 50 => ⟨S8x4096x2x4x255, .f32⟩
  | 51 => ⟨S_, .f32⟩
  | 52 => ⟨S8x4096x2x4, .f32⟩
  | 53 => ⟨S_, .f32⟩
  | 54 => ⟨S8x4096x2x4, .f32⟩
  | 55 => ⟨S8x4096x2x4, .f32⟩
  | 56 => ⟨S8x4096x2x4x1, .f32⟩
  | 57 => ⟨S8x4096x2x4x255, .f32⟩
  | 58 => ⟨S8x4096x2x4x255, .f32⟩
  | 59 => ⟨S8x4096x2x4x255, .f32⟩
  | 60 => ⟨S_, .f32⟩
  | 61 => ⟨S8x4096x2x4, .f32⟩
  | 62 => ⟨S8x4096x2x4x1, .f32⟩
  | 63 => ⟨S8x4096x2x4x255, .f32⟩
  | 64 => ⟨S8x4096x2x4x255, .f32⟩
  | 65 => ⟨S_, .f32⟩
  | 66 => ⟨S_, .f32⟩
  | 67 => ⟨S8x4096x2x4x255, .i1⟩
  | 68 => ⟨S8x4096x2x4x255, .f32⟩
  | 69 => ⟨S8x4096x2x4x255, .f32⟩
  | 70 => ⟨S8x2x64x4096x4, .f32⟩
  | 71 => ⟨S8x4096x2x4x64, .f32⟩
  | 72 => ⟨S64, .i32⟩
  | 73 => ⟨S_, .i32⟩
  | 74 => ⟨S64, .i32⟩
  | 75 => ⟨S64, .i32⟩
  | 76 => ⟨S255x1, .i32⟩
  | 77 => ⟨S_, .i32⟩
  | 78 => ⟨S255x1, .i32⟩
  | 79 => ⟨S255x1, .i32⟩
  | 80 => ⟨S1x64, .i32⟩
  | 81 => ⟨S_, .i32⟩
  | 82 => ⟨S1x64, .i32⟩
  | 83 => ⟨S1x64, .i32⟩
  | 84 => ⟨S255x64, .i32⟩
  | 85 => ⟨S255x64, .i32⟩
  | 86 => ⟨S255x64, .i32⟩
  | 87 => ⟨S255x1, .i32⟩
  | 88 => ⟨S1x64, .i32⟩
  | 89 => ⟨S255x64, .i32⟩
  | 90 => ⟨S255x64, .i32⟩
  | 91 => ⟨S255x64, .i32⟩
  | 92 => ⟨S255x64, .i32⟩
  | 93 => ⟨S_, .i32⟩
  | 94 => ⟨S255x64, .i32⟩
  | 95 => ⟨S255x64, .i32⟩
  | 96 => ⟨S255x64, .f32⟩
  | 97 => ⟨S_, .f32⟩
  | 98 => ⟨S255x64, .f32⟩
  | 99 => ⟨S255x64, .f32⟩
  | 100 => ⟨S_, .f32⟩
  | 101 => ⟨S8x4096x2x255, .f32⟩
  | 102 => ⟨S8x4096x2x64, .f32⟩
  | 103 => ⟨S_, .i32⟩
  | 104 => ⟨S_, .i32⟩
  | 105 => ⟨S4096, .i32⟩
  | 106 => ⟨S4096, .i32⟩
  | 107 => ⟨S4096, .i32⟩
  | 108 => ⟨S_, .i32⟩
  | 109 => ⟨S4096, .i32⟩
  | 110 => ⟨S4096, .i1⟩
  | 111 => ⟨S4096, .i32⟩
  | 112 => ⟨S4096, .i32⟩
  | 113 => ⟨S_, .i32⟩
  | 114 => ⟨S4096, .i32⟩
  | 115 => ⟨S4096, .i1⟩
  | 116 => ⟨S4096, .i1⟩
  | 117 => ⟨S_, .i32⟩
  | 118 => ⟨S4096, .i32⟩
  | 119 => ⟨S4096, .i32⟩
  | 120 => ⟨S4096, .i32⟩
  | 121 => ⟨S4096x1, .i32⟩
  | 122 => ⟨S1x64, .i32⟩
  | 123 => ⟨S_, .i32⟩
  | 124 => ⟨S1x64, .i32⟩
  | 125 => ⟨S1x64, .i1⟩
  | 126 => ⟨S1x64, .i32⟩
  | 127 => ⟨S4096x64, .i32⟩
  | _ => ⟨S8x4096x512, .f32⟩

abbrev hbmTy0_1 (i : Nat) : BufTy := match i % 128 with
  | 0 => ⟨S4096x64, .i32⟩
  | 1 => ⟨S4096x64, .i1⟩
  | 2 => ⟨S4096x64, .i1⟩
  | 3 => ⟨S4096x64, .i1⟩
  | 4 => ⟨S1x64, .i32⟩
  | 5 => ⟨S_, .i32⟩
  | 6 => ⟨S4096x1, .i32⟩
  | 7 => ⟨S4096x1, .i32⟩
  | 8 => ⟨S4096x64, .i32⟩
  | 9 => ⟨S4096x64, .i32⟩
  | 10 => ⟨S4096x64, .i1⟩
  | 11 => ⟨S4096x64, .i1⟩
  | 12 => ⟨S1x4096x1x64, .i1⟩
  | 13 => ⟨S_, .f32⟩
  | 14 => ⟨S_, .f32⟩
  | 15 => ⟨S8x4096x2x64, .i1⟩
  | 16 => ⟨S8x4096x2x64, .f32⟩
  | 17 => ⟨S8x4096x2x64, .f32⟩
  | 18 => ⟨S1x64, .i32⟩
  | 19 => ⟨S4096x1, .i32⟩
  | 20 => ⟨S4096x64, .i32⟩
  | 21 => ⟨S4096x64, .i32⟩
  | 22 => ⟨S4096x64, .i1⟩
  | 23 => ⟨S1x4096x1x64, .i1⟩
  | 24 => ⟨S_, .f32⟩
  | 25 => ⟨S_, .f32⟩
  | 26 => ⟨S8x4096x2x64, .i1⟩
  | 27 => ⟨S8x4096x2x64, .f32⟩
  | 28 => ⟨S8x4096x2x64, .f32⟩
  | 29 => ⟨S8x4096x2x16, .f32⟩
  | 30 => ⟨S8x4096x2x16, .i32⟩
  | 31 => ⟨S8x4096x2x16x1, .i32⟩
  | 32 => ⟨S_, .i32⟩
  | 33 => ⟨S8x4096x2x16x1, .i32⟩
  | 34 => ⟨S8x4096x2x16x1, .i32⟩
  | 35 => ⟨S64, .i32⟩
  | 36 => ⟨S1x1x1x1x64, .i32⟩
  | 37 => ⟨S8x4096x2x16x64, .i32⟩
  | 38 => ⟨S8x4096x2x16x64, .i32⟩
  | 39 => ⟨S8x4096x2x16x64, .i32⟩
  | 40 => ⟨S8x4096x2x1024, .i32⟩
  | 41 => ⟨S8, .i32⟩
  | 42 => ⟨S8x1x1x1, .i32⟩
  | 43 => ⟨S2, .i32⟩
  | 44 => ⟨S1x1x2x1, .i32⟩
  | 45 => ⟨S_, .i32⟩
  | 46 => ⟨S8x1x1x1, .i32⟩
  | 47 => ⟨S8x1x1x1, .i1⟩
  | 48 => ⟨S_, .i32⟩
  | 49 => ⟨S8x1x1x1, .i32⟩
  | 50 => ⟨S8x1x1x1, .i32⟩
  | 51 => ⟨S8x1x1x1, .i32⟩
  | 52 => ⟨S_, .i32⟩
  | 53 => ⟨S8x4096x2x1024, .i32⟩
  | 54 => ⟨S8x4096x2x1024, .i1⟩
  | 55 => ⟨S_, .i32⟩
  | 56 => ⟨S8x4096x2x1024, .i32⟩
  | 57 => ⟨S8x4096x2x1024, .i32⟩
  | 58 => ⟨S8x4096x2x1024, .i32⟩
  | 59 => ⟨S_, .i32⟩
  | 60 => ⟨S1x1x2x1, .i32⟩
  | 61 => ⟨S1x1x2x1, .i1⟩
  | 62 => ⟨S_, .i32⟩
  | 63 => ⟨S1x1x2x1, .i32⟩
  | 64 => ⟨S1x1x2x1, .i32⟩
  | 65 => ⟨S1x1x2x1, .i32⟩
  | 66 => ⟨S8x4096x2x1024, .i32⟩
  | 67 => ⟨S8x4096x2x1024, .i32⟩
  | 68 => ⟨S8x4096x2x1024x1, .i32⟩
  | 69 => ⟨S8x4096x2x1024x1, .i32⟩
  | 70 => ⟨S8x4096x2x1024x1, .i32⟩
  | 71 => ⟨S8x4096x2x1024x3, .i32⟩
  | 72 => ⟨S8x4096x2x1024x64, .f32⟩
  | 73 => ⟨S_, .i32⟩
  | 74 => ⟨S8x1x1x1, .i32⟩
  | 75 => ⟨S8x1x1x1, .i1⟩
  | 76 => ⟨S_, .i32⟩
  | 77 => ⟨S8x1x1x1, .i32⟩
  | 78 => ⟨S8x1x1x1, .i32⟩
  | 79 => ⟨S8x1x1x1, .i32⟩
  | 80 => ⟨S_, .i32⟩
  | 81 => ⟨S8x4096x2x1024, .i32⟩
  | 82 => ⟨S8x4096x2x1024, .i1⟩
  | 83 => ⟨S_, .i32⟩
  | 84 => ⟨S8x4096x2x1024, .i32⟩
  | 85 => ⟨S8x4096x2x1024, .i32⟩
  | 86 => ⟨S8x4096x2x1024, .i32⟩
  | 87 => ⟨S_, .i32⟩
  | 88 => ⟨S1x1x2x1, .i32⟩
  | 89 => ⟨S1x1x2x1, .i1⟩
  | 90 => ⟨S_, .i32⟩
  | 91 => ⟨S1x1x2x1, .i32⟩
  | 92 => ⟨S1x1x2x1, .i32⟩
  | 93 => ⟨S1x1x2x1, .i32⟩
  | 94 => ⟨S8x4096x2x1024, .i32⟩
  | 95 => ⟨S8x4096x2x1024, .i32⟩
  | 96 => ⟨S8x4096x2x1024x1, .i32⟩
  | 97 => ⟨S8x4096x2x1024x1, .i32⟩
  | 98 => ⟨S8x4096x2x1024x1, .i32⟩
  | 99 => ⟨S8x4096x2x1024x3, .i32⟩
  | 100 => ⟨S8x4096x2x1024x64, .f32⟩
  | 101 => ⟨S8x4096x2x4x1024, .f32⟩
  | 102 => ⟨S_, .f32⟩
  | 103 => ⟨S8x4096x2x4x1024, .f32⟩
  | 104 => ⟨S8x4096x2x4x1024, .f32⟩
  | 105 => ⟨S1x4096x1x1, .i32⟩
  | 106 => ⟨S8x4096x2x1024, .i32⟩
  | 107 => ⟨S8x4096x2x1024, .i1⟩
  | 108 => ⟨S8x4096x2x1x1024, .i1⟩
  | 109 => ⟨S_, .f32⟩
  | 110 => ⟨S_, .f32⟩
  | 111 => ⟨S8x4096x2x4x1024, .i1⟩
  | 112 => ⟨S8x4096x2x4x1024, .f32⟩
  | 113 => ⟨S8x4096x2x4x1024, .f32⟩
  | 114 => ⟨S_, .f32⟩
  | 115 => ⟨S8x4096x2x4, .f32⟩
  | 116 => ⟨S_, .f32⟩
  | 117 => ⟨S8x4096x2x4, .f32⟩
  | 118 => ⟨S8x4096x2x4, .f32⟩
  | 119 => ⟨S8x4096x2x4x1, .f32⟩
  | 120 => ⟨S8x4096x2x4x1024, .f32⟩
  | 121 => ⟨S8x4096x2x4x1024, .f32⟩
  | 122 => ⟨S8x4096x2x4x1024, .f32⟩
  | 123 => ⟨S_, .f32⟩
  | 124 => ⟨S8x4096x2x4, .f32⟩
  | 125 => ⟨S8x4096x2x4x1, .f32⟩
  | 126 => ⟨S8x4096x2x4x1024, .f32⟩
  | 127 => ⟨S8x4096x2x4x1024, .f32⟩
  | _ => ⟨S8x4096x512, .f32⟩

abbrev hbmTy0_2 (i : Nat) : BufTy := match i % 128 with
  | 0 => ⟨S_, .f32⟩
  | 1 => ⟨S_, .f32⟩
  | 2 => ⟨S8x4096x2x4x1024, .i1⟩
  | 3 => ⟨S8x4096x2x4x1024, .f32⟩
  | 4 => ⟨S8x4096x2x4x1024, .f32⟩
  | 5 => ⟨S8x4096x2x4x64, .f32⟩
  | 6 => ⟨S1x4096, .i32⟩
  | 7 => ⟨S4096x1, .i32⟩
  | 8 => ⟨S4096x4096, .i32⟩
  | 9 => ⟨S4096x4096, .i32⟩
  | 10 => ⟨S4096x4096, .i1⟩
  | 11 => ⟨S1x4096, .i32⟩
  | 12 => ⟨S4096x1, .i32⟩
  | 13 => ⟨S_, .i32⟩
  | 14 => ⟨S4096x1, .i32⟩
  | 15 => ⟨S4096x1, .i32⟩
  | 16 => ⟨S4096x4096, .i32⟩
  | 17 => ⟨S4096x4096, .i32⟩
  | 18 => ⟨S4096x4096, .i1⟩
  | 19 => ⟨S4096x4096, .i1⟩
  | 20 => ⟨S8x2x4096x4096x4, .f32⟩
  | 21 => ⟨S8x4096x2x4x4096, .f32⟩
  | 22 => ⟨S_, .f32⟩
  | 23 => ⟨S8x4096x2x4x4096, .f32⟩
  | 24 => ⟨S8x4096x2x4x4096, .f32⟩
  | 25 => ⟨S1x4096x1x1x4096, .i1⟩
  | 26 => ⟨S_, .f32⟩
  | 27 => ⟨S_, .f32⟩
  | 28 => ⟨S8x4096x2x4x4096, .i1⟩
  | 29 => ⟨S8x4096x2x4x4096, .f32⟩
  | 30 => ⟨S8x4096x2x4x4096, .f32⟩
  | 31 => ⟨S_, .f32⟩
  | 32 => ⟨S8x4096x2x4, .f32⟩
  | 33 => ⟨S_, .f32⟩
  | 34 => ⟨S8x4096x2x4, .f32⟩
  | 35 => ⟨S8x4096x2x4, .f32⟩
  | 36 => ⟨S8x4096x2x4x1, .f32⟩
  | 37 => ⟨S8x4096x2x4x4096, .f32⟩
  | 38 => ⟨S8x4096x2x4x4096, .f32⟩
  | 39 => ⟨S8x4096x2x4x4096, .f32⟩
  | 40 => ⟨S_, .f32⟩
  | 41 => ⟨S8x4096x2x4, .f32⟩
  | 42 => ⟨S8x4096x2x4x1, .f32⟩
  | 43 => ⟨S8x4096x2x4x4096, .f32⟩
  | 44 => ⟨S8x4096x2x4x4096, .f32⟩
  | 45 => ⟨S_, .f32⟩
  | 46 => ⟨S_, .f32⟩
  | 47 => ⟨S8x4096x2x4x4096, .i1⟩
  | 48 => ⟨S8x4096x2x4x4096, .f32⟩
  | 49 => ⟨S8x4096x2x4x4096, .f32⟩
  | 50 => ⟨S8x2x64x4096x4, .f32⟩
  | 51 => ⟨S8x4096x2x4x64, .f32⟩
  | 52 => ⟨S8x4096x2x4x1, .f32⟩
  | 53 => ⟨S8x4096x2x4x64, .f32⟩
  | 54 => ⟨S8x4096x2x4x64, .f32⟩
  | 55 => ⟨S8x4096x2x4x1, .f32⟩
  | 56 => ⟨S8x4096x2x4x64, .f32⟩
  | 57 => ⟨S8x4096x2x4x64, .f32⟩
  | 58 => ⟨S8x4096x2x4x64, .f32⟩
  | 59 => ⟨S8x4096x2x4x1, .f32⟩
  | 60 => ⟨S8x4096x2x4x64, .f32⟩
  | 61 => ⟨S8x4096x2x4x64, .f32⟩
  | 62 => ⟨S8x4096x2x4x64, .f32⟩
  | 63 => ⟨S8x4096x512, .f32⟩
  | 64 => ⟨S8x4096x512, .f32⟩
  | 65 => ⟨S_, .f32⟩
  | 66 => ⟨S8x4096, .f32⟩
  | 67 => ⟨S8x4096x1, .f32⟩
  | 68 => ⟨S_, .f32⟩
  | 69 => ⟨S8x4096x1, .f32⟩
  | 70 => ⟨S8x4096x1, .f32⟩
  | 71 => ⟨S_, .f32⟩
  | 72 => ⟨S8x4096x1, .f32⟩
  | 73 => ⟨S8x4096x1, .f32⟩
  | 74 => ⟨S8x4096x1, .f32⟩
  | 75 => ⟨S8x4096x512, .f32⟩
  | 76 => ⟨S8x4096x512, .f32⟩
  | 77 => ⟨S1x1x512, .f32⟩
  | 78 => ⟨S8x4096x512, .f32⟩
  | 79 => ⟨S8x4096x512, .f32⟩
  | 80 => ⟨S8x4096x512, .bf16⟩
  | _ => ⟨S8x4096x512, .f32⟩

abbrev hbmTy (i : Nat) : BufTy := match i / 128 with
  | 0 => hbmTy0_0 i
  | 1 => hbmTy0_1 i
  | 2 => hbmTy0_2 i
  | _ => ⟨S8x4096x512, .f32⟩

abbrev bufTy : (tb : Table) → Fin (tcTables nBuf tb) → BufTy
  | .hbm, ⟨i, _⟩ => hbmTy i
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_3 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_v31 : Ref sig .tc := ⟨.hbm, 50, rfl⟩
abbrev main_cst_4 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_7 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_c_8 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_c_9 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_c_10 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_11 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_12 : Ref sig .tc := ⟨.hbm, 97, rfl⟩
abbrev main_v67 : Ref sig .tc := ⟨.hbm, 98, rfl⟩
abbrev main_v68 : Ref sig .tc := ⟨.hbm, 99, rfl⟩
abbrev main_cst_13 : Ref sig .tc := ⟨.hbm, 100, rfl⟩
abbrev main_v69 : Ref sig .tc := ⟨.hbm, 101, rfl⟩
abbrev main_v70 : Ref sig .tc := ⟨.hbm, 102, rfl⟩
abbrev main_c_14 : Ref sig .tc := ⟨.hbm, 103, rfl⟩
abbrev main_call2_v0 : Ref sig .tc := ⟨.hbm, 104, rfl⟩
abbrev main_call2_v1 : Ref sig .tc := ⟨.hbm, 105, rfl⟩
abbrev main_call2_v2 : Ref sig .tc := ⟨.hbm, 106, rfl⟩
abbrev main_call2_v3 : Ref sig .tc := ⟨.hbm, 107, rfl⟩
abbrev main_call2_v4 : Ref sig .tc := ⟨.hbm, 108, rfl⟩
abbrev main_call2_v5 : Ref sig .tc := ⟨.hbm, 109, rfl⟩
abbrev main_call2_v6 : Ref sig .tc := ⟨.hbm, 110, rfl⟩
abbrev main_call2_v7 : Ref sig .tc := ⟨.hbm, 111, rfl⟩
abbrev main_call2_v8 : Ref sig .tc := ⟨.hbm, 112, rfl⟩
abbrev main_call2_c : Ref sig .tc := ⟨.hbm, 113, rfl⟩
abbrev main_call2_v9 : Ref sig .tc := ⟨.hbm, 114, rfl⟩
abbrev main_call2_v10 : Ref sig .tc := ⟨.hbm, 115, rfl⟩
abbrev main_call2_v11 : Ref sig .tc := ⟨.hbm, 116, rfl⟩
abbrev main_call2_c_0 : Ref sig .tc := ⟨.hbm, 117, rfl⟩
abbrev main_call2_v12 : Ref sig .tc := ⟨.hbm, 118, rfl⟩
abbrev main_call2_v13 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_c_15 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_c_16 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_cst_17 : Ref sig .tc := ⟨.hbm, 141, rfl⟩
abbrev main_call3_v0 : Ref sig .tc := ⟨.hbm, 142, rfl⟩
abbrev main_call3_v1 : Ref sig .tc := ⟨.hbm, 143, rfl⟩
abbrev main_call3_v2 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_cst_18 : Ref sig .tc := ⟨.hbm, 152, rfl⟩
abbrev main_call4_v0 : Ref sig .tc := ⟨.hbm, 153, rfl⟩
abbrev main_call4_v1 : Ref sig .tc := ⟨.hbm, 154, rfl⟩
abbrev main_call4_v2 : Ref sig .tc := ⟨.hbm, 155, rfl⟩
abbrev main_v97 : Ref sig .tc := ⟨.hbm, 156, rfl⟩
abbrev main_values : Ref sig .tc := ⟨.hbm, 157, rfl⟩
abbrev main_indices : Ref sig .tc := ⟨.hbm, 158, rfl⟩
abbrev main_v98 : Ref sig .tc := ⟨.hbm, 159, rfl⟩
abbrev main_c_19 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_v102 : Ref sig .tc := ⟨.hbm, 164, rfl⟩
abbrev main_v103 : Ref sig .tc := ⟨.hbm, 165, rfl⟩
abbrev main_v104 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_c_20 : Ref sig .tc := ⟨.hbm, 173, rfl⟩
abbrev main_v111 : Ref sig .tc := ⟨.hbm, 174, rfl⟩
abbrev main_v112 : Ref sig .tc := ⟨.hbm, 175, rfl⟩
abbrev main_c_21 : Ref sig .tc := ⟨.hbm, 176, rfl⟩
abbrev main_v113 : Ref sig .tc := ⟨.hbm, 177, rfl⟩
abbrev main_v114 : Ref sig .tc := ⟨.hbm, 178, rfl⟩
abbrev main_v115 : Ref sig .tc := ⟨.hbm, 179, rfl⟩
abbrev main_c_22 : Ref sig .tc := ⟨.hbm, 180, rfl⟩
abbrev main_v116 : Ref sig .tc := ⟨.hbm, 181, rfl⟩
abbrev main_v117 : Ref sig .tc := ⟨.hbm, 182, rfl⟩
abbrev main_c_23 : Ref sig .tc := ⟨.hbm, 183, rfl⟩
abbrev main_v118 : Ref sig .tc := ⟨.hbm, 184, rfl⟩
abbrev main_v119 : Ref sig .tc := ⟨.hbm, 185, rfl⟩
abbrev main_v120 : Ref sig .tc := ⟨.hbm, 186, rfl⟩
abbrev main_c_24 : Ref sig .tc := ⟨.hbm, 187, rfl⟩
abbrev main_v121 : Ref sig .tc := ⟨.hbm, 188, rfl⟩
abbrev main_v122 : Ref sig .tc := ⟨.hbm, 189, rfl⟩
abbrev main_c_25 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_v130 : Ref sig .tc := ⟨.hbm, 198, rfl⟩
abbrev main_v131 : Ref sig .tc := ⟨.hbm, 199, rfl⟩
abbrev main_v132 : Ref sig .tc := ⟨.hbm, 200, rfl⟩
abbrev main_c_26 : Ref sig .tc := ⟨.hbm, 201, rfl⟩
abbrev main_v133 : Ref sig .tc := ⟨.hbm, 202, rfl⟩
abbrev main_v134 : Ref sig .tc := ⟨.hbm, 203, rfl⟩
abbrev main_c_27 : Ref sig .tc := ⟨.hbm, 204, rfl⟩
abbrev main_v135 : Ref sig .tc := ⟨.hbm, 205, rfl⟩
abbrev main_v136 : Ref sig .tc := ⟨.hbm, 206, rfl⟩
abbrev main_v137 : Ref sig .tc := ⟨.hbm, 207, rfl⟩
abbrev main_c_28 : Ref sig .tc := ⟨.hbm, 208, rfl⟩
abbrev main_v138 : Ref sig .tc := ⟨.hbm, 209, rfl⟩
abbrev main_v139 : Ref sig .tc := ⟨.hbm, 210, rfl⟩
abbrev main_c_29 : Ref sig .tc := ⟨.hbm, 211, rfl⟩
abbrev main_v140 : Ref sig .tc := ⟨.hbm, 212, rfl⟩
abbrev main_v141 : Ref sig .tc := ⟨.hbm, 213, rfl⟩
abbrev main_v142 : Ref sig .tc := ⟨.hbm, 214, rfl⟩
abbrev main_c_30 : Ref sig .tc := ⟨.hbm, 215, rfl⟩
abbrev main_v143 : Ref sig .tc := ⟨.hbm, 216, rfl⟩
abbrev main_v144 : Ref sig .tc := ⟨.hbm, 217, rfl⟩
abbrev main_c_31 : Ref sig .tc := ⟨.hbm, 218, rfl⟩
abbrev main_v145 : Ref sig .tc := ⟨.hbm, 219, rfl⟩
abbrev main_v146 : Ref sig .tc := ⟨.hbm, 220, rfl⟩
abbrev main_v147 : Ref sig .tc := ⟨.hbm, 221, rfl⟩
abbrev main_v148 : Ref sig .tc := ⟨.hbm, 222, rfl⟩
abbrev main_v149 : Ref sig .tc := ⟨.hbm, 223, rfl⟩
abbrev main_v150 : Ref sig .tc := ⟨.hbm, 224, rfl⟩
abbrev main_v151 : Ref sig .tc := ⟨.hbm, 225, rfl⟩
abbrev main_v152 : Ref sig .tc := ⟨.hbm, 226, rfl⟩
abbrev main_v153 : Ref sig .tc := ⟨.hbm, 227, rfl⟩
abbrev main_v154 : Ref sig .tc := ⟨.hbm, 228, rfl⟩
abbrev main_v155 : Ref sig .tc := ⟨.hbm, 229, rfl⟩
abbrev main_cst_32 : Ref sig .tc := ⟨.hbm, 230, rfl⟩
abbrev main_v156 : Ref sig .tc := ⟨.hbm, 231, rfl⟩
abbrev main_v157 : Ref sig .tc := ⟨.hbm, 232, rfl⟩
abbrev main_v158 : Ref sig .tc := ⟨.hbm, 233, rfl⟩
abbrev main_v159 : Ref sig .tc := ⟨.hbm, 234, rfl⟩
abbrev main_v160 : Ref sig .tc := ⟨.hbm, 235, rfl⟩
abbrev main_v161 : Ref sig .tc := ⟨.hbm, 236, rfl⟩
abbrev main_cst_33 : Ref sig .tc := ⟨.hbm, 237, rfl⟩
abbrev main_call5_v0 : Ref sig .tc := ⟨.hbm, 238, rfl⟩
abbrev main_call5_v1 : Ref sig .tc := ⟨.hbm, 239, rfl⟩
abbrev main_call5_v2 : Ref sig .tc := ⟨.hbm, 240, rfl⟩
abbrev main_v162 : Ref sig .tc := ⟨.hbm, 241, rfl⟩
abbrev main_cst_34 : Ref sig .tc := ⟨.hbm, 242, rfl⟩
abbrev main_v163 : Ref sig .tc := ⟨.hbm, 243, rfl⟩
abbrev main_cst_35 : Ref sig .tc := ⟨.hbm, 244, rfl⟩
abbrev main_v164 : Ref sig .tc := ⟨.hbm, 245, rfl⟩
abbrev main_v165 : Ref sig .tc := ⟨.hbm, 246, rfl⟩
abbrev main_v166 : Ref sig .tc := ⟨.hbm, 247, rfl⟩
abbrev main_v167 : Ref sig .tc := ⟨.hbm, 248, rfl⟩
abbrev main_v168 : Ref sig .tc := ⟨.hbm, 249, rfl⟩
abbrev main_v169 : Ref sig .tc := ⟨.hbm, 250, rfl⟩
abbrev main_cst_36 : Ref sig .tc := ⟨.hbm, 251, rfl⟩
abbrev main_v170 : Ref sig .tc := ⟨.hbm, 252, rfl⟩
abbrev main_v171 : Ref sig .tc := ⟨.hbm, 253, rfl⟩
abbrev main_v172 : Ref sig .tc := ⟨.hbm, 254, rfl⟩
abbrev main_v173 : Ref sig .tc := ⟨.hbm, 255, rfl⟩
abbrev main_cst_37 : Ref sig .tc := ⟨.hbm, 256, rfl⟩
abbrev main_call6_v0 : Ref sig .tc := ⟨.hbm, 257, rfl⟩
abbrev main_call6_v1 : Ref sig .tc := ⟨.hbm, 258, rfl⟩
abbrev main_call6_v2 : Ref sig .tc := ⟨.hbm, 259, rfl⟩
abbrev main_v174 : Ref sig .tc := ⟨.hbm, 260, rfl⟩
abbrev main_v175 : Ref sig .tc := ⟨.hbm, 261, rfl⟩
abbrev main_v176 : Ref sig .tc := ⟨.hbm, 262, rfl⟩
abbrev main_v177 : Ref sig .tc := ⟨.hbm, 263, rfl⟩
abbrev main_v178 : Ref sig .tc := ⟨.hbm, 264, rfl⟩
abbrev main_v179 : Ref sig .tc := ⟨.hbm, 265, rfl⟩
abbrev main_v180 : Ref sig .tc := ⟨.hbm, 266, rfl⟩
abbrev main_v181 : Ref sig .tc := ⟨.hbm, 267, rfl⟩
abbrev main_v182 : Ref sig .tc := ⟨.hbm, 268, rfl⟩
abbrev main_c_38 : Ref sig .tc := ⟨.hbm, 269, rfl⟩
abbrev main_v183 : Ref sig .tc := ⟨.hbm, 270, rfl⟩
abbrev main_v184 : Ref sig .tc := ⟨.hbm, 271, rfl⟩
abbrev main_v185 : Ref sig .tc := ⟨.hbm, 272, rfl⟩
abbrev main_v186 : Ref sig .tc := ⟨.hbm, 273, rfl⟩
abbrev main_v187 : Ref sig .tc := ⟨.hbm, 274, rfl⟩
abbrev main_v188 : Ref sig .tc := ⟨.hbm, 275, rfl⟩
abbrev main_v189 : Ref sig .tc := ⟨.hbm, 276, rfl⟩
abbrev main_v190 : Ref sig .tc := ⟨.hbm, 277, rfl⟩
abbrev main_cst_39 : Ref sig .tc := ⟨.hbm, 278, rfl⟩
abbrev main_v191 : Ref sig .tc := ⟨.hbm, 279, rfl⟩
abbrev main_v192 : Ref sig .tc := ⟨.hbm, 280, rfl⟩
abbrev main_v193 : Ref sig .tc := ⟨.hbm, 281, rfl⟩
abbrev main_cst_40 : Ref sig .tc := ⟨.hbm, 282, rfl⟩
abbrev main_call7_v0 : Ref sig .tc := ⟨.hbm, 283, rfl⟩
abbrev main_call7_v1 : Ref sig .tc := ⟨.hbm, 284, rfl⟩
abbrev main_call7_v2 : Ref sig .tc := ⟨.hbm, 285, rfl⟩
abbrev main_v194 : Ref sig .tc := ⟨.hbm, 286, rfl⟩
abbrev main_cst_41 : Ref sig .tc := ⟨.hbm, 287, rfl⟩
abbrev main_v195 : Ref sig .tc := ⟨.hbm, 288, rfl⟩
abbrev main_cst_42 : Ref sig .tc := ⟨.hbm, 289, rfl⟩
abbrev main_v196 : Ref sig .tc := ⟨.hbm, 290, rfl⟩
abbrev main_v197 : Ref sig .tc := ⟨.hbm, 291, rfl⟩
abbrev main_v198 : Ref sig .tc := ⟨.hbm, 292, rfl⟩
abbrev main_v199 : Ref sig .tc := ⟨.hbm, 293, rfl⟩
abbrev main_v200 : Ref sig .tc := ⟨.hbm, 294, rfl⟩
abbrev main_v201 : Ref sig .tc := ⟨.hbm, 295, rfl⟩
abbrev main_cst_43 : Ref sig .tc := ⟨.hbm, 296, rfl⟩
abbrev main_v202 : Ref sig .tc := ⟨.hbm, 297, rfl⟩
abbrev main_v203 : Ref sig .tc := ⟨.hbm, 298, rfl⟩
abbrev main_v204 : Ref sig .tc := ⟨.hbm, 299, rfl⟩
abbrev main_v205 : Ref sig .tc := ⟨.hbm, 300, rfl⟩
abbrev main_cst_44 : Ref sig .tc := ⟨.hbm, 301, rfl⟩
abbrev main_call8_v0 : Ref sig .tc := ⟨.hbm, 302, rfl⟩
abbrev main_call8_v1 : Ref sig .tc := ⟨.hbm, 303, rfl⟩
abbrev main_call8_v2 : Ref sig .tc := ⟨.hbm, 304, rfl⟩
abbrev main_v206 : Ref sig .tc := ⟨.hbm, 305, rfl⟩
abbrev main_v207 : Ref sig .tc := ⟨.hbm, 306, rfl⟩
abbrev main_v208 : Ref sig .tc := ⟨.hbm, 307, rfl⟩
abbrev main_v209 : Ref sig .tc := ⟨.hbm, 308, rfl⟩
abbrev main_v210 : Ref sig .tc := ⟨.hbm, 309, rfl⟩
abbrev main_v211 : Ref sig .tc := ⟨.hbm, 310, rfl⟩
abbrev main_v212 : Ref sig .tc := ⟨.hbm, 311, rfl⟩
abbrev main_v213 : Ref sig .tc := ⟨.hbm, 312, rfl⟩
abbrev main_v214 : Ref sig .tc := ⟨.hbm, 313, rfl⟩
abbrev main_v215 : Ref sig .tc := ⟨.hbm, 314, rfl⟩
abbrev main_v216 : Ref sig .tc := ⟨.hbm, 315, rfl⟩
abbrev main_v217 : Ref sig .tc := ⟨.hbm, 316, rfl⟩
abbrev main_v218 : Ref sig .tc := ⟨.hbm, 317, rfl⟩
abbrev main_v219 : Ref sig .tc := ⟨.hbm, 318, rfl⟩
abbrev main_v220 : Ref sig .tc := ⟨.hbm, 319, rfl⟩
abbrev main_v221 : Ref sig .tc := ⟨.hbm, 320, rfl⟩
abbrev main_cst_45 : Ref sig .tc := ⟨.hbm, 321, rfl⟩
abbrev main_v222 : Ref sig .tc := ⟨.hbm, 322, rfl⟩
abbrev main_v223 : Ref sig .tc := ⟨.hbm, 323, rfl⟩
abbrev main_cst_46 : Ref sig .tc := ⟨.hbm, 324, rfl⟩
abbrev main_v224 : Ref sig .tc := ⟨.hbm, 325, rfl⟩
abbrev main_v225 : Ref sig .tc := ⟨.hbm, 326, rfl⟩
abbrev main_cst_47 : Ref sig .tc := ⟨.hbm, 327, rfl⟩
abbrev main_v226 : Ref sig .tc := ⟨.hbm, 328, rfl⟩
abbrev main_v227 : Ref sig .tc := ⟨.hbm, 329, rfl⟩
abbrev main_v228 : Ref sig .tc := ⟨.hbm, 330, rfl⟩
abbrev main_v229 : Ref sig .tc := ⟨.hbm, 331, rfl⟩
abbrev main_v230 : Ref sig .tc := ⟨.hbm, 332, rfl⟩
abbrev main_v231 : Ref sig .tc := ⟨.hbm, 333, rfl⟩
abbrev main_v232 : Ref sig .tc := ⟨.hbm, 334, rfl⟩
abbrev main_v233 : Ref sig .tc := ⟨.hbm, 335, rfl⟩
abbrev main_v234 : Ref sig .tc := ⟨.hbm, 336, rfl⟩

abbrev nD : Nat := 1
abbrev τ : Topo := Topo.v7x

variable {F : FTy → Type} [FloatOps F]
-- ==== Kernel2.lean ====
abbrev S8x4096x1024 : Shape := ⟨3, ![8, 4096, 1024]⟩
abbrev S8x4096x256 : Shape := ⟨3, ![8, 4096, 256]⟩
abbrev S8x4096x512 : Shape := ⟨3, ![8, 4096, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S4096x8x256 : Shape := ⟨3, ![4096, 8, 256]⟩
abbrev S4096x2048 : Shape := ⟨2, ![4096, 2048]⟩
abbrev S1x1024 : Shape := ⟨2, ![1, 1024]⟩
abbrev S1x1024x1024 : Shape := ⟨3, ![1, 1024, 1024]⟩
abbrev S1x1024x256 : Shape := ⟨3, ![1, 1024, 256]⟩
abbrev S1024x256 : Shape := ⟨2, ![1024, 256]⟩
abbrev S1x1024x512 : Shape := ⟨3, ![1, 1024, 512]⟩
abbrev S256x1024 : Shape := ⟨2, ![256, 1024]⟩
abbrev S1024x512 : Shape := ⟨2, ![1024, 512]⟩
abbrev S512x1024 : Shape := ⟨2, ![512, 1024]⟩
abbrev S1024x1 : Shape := ⟨2, ![1024, 1]⟩

abbrev nBuf : Space → Nat
  | .hbm => 20
  | .vmem => 20
  | .smem => 0
  | _ => 0

abbrev bufTy : (tb : Table) → Fin (tcTables nBuf tb) → BufTy
  | .hbm, ⟨0, _⟩ => ⟨S8x4096x1024, .f32⟩
  | .hbm, ⟨1, _⟩ => ⟨S8x4096x256, .f32⟩
  | .hbm, ⟨2, _⟩ => ⟨S8x4096x256, .f32⟩
  | .hbm, ⟨3, _⟩ => ⟨S8x4096x512, .f32⟩
  | .hbm, ⟨4, _⟩ => ⟨S1024x1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024, .f32⟩
  | .hbm, ⟨9, _⟩ => ⟨S4096x8x256, .f32⟩
  | .hbm, ⟨10, _⟩ => ⟨S4096x2048, .f32⟩
  | .hbm, ⟨11, _⟩ => ⟨S8x4096x256, .bf16⟩
  | .hbm, ⟨12, _⟩ => ⟨S4096x2048, .bf16⟩
  | .hbm, ⟨13, _⟩ => ⟨S8x4096x512, .bf16⟩
  | .hbm, ⟨14, _⟩ => ⟨S1024x1024, .bf16⟩
  | .hbm, ⟨15, _⟩ => ⟨S1x1024, .f32⟩
  | .hbm, ⟨16, _⟩ => ⟨S1024x4096, .bf16⟩
  | .hbm, ⟨17, _⟩ => ⟨S4096x1024, .bf16⟩
  | .hbm, ⟨18, _⟩ => ⟨S1x1024, .f32⟩
  | .hbm, ⟨19, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x256, .bf16⟩
  | .local _ .vmem, ⟨3, _⟩ => ⟨S1x1024x256, .bf16⟩
  | .local _ .vmem, ⟨4, _⟩ => ⟨S1024x256, .bf16⟩
  | .local _ .vmem, ⟨5, _⟩ => ⟨S1024x256, .bf16⟩
  | .local _ .vmem, ⟨6, _⟩ => ⟨S1x1024x512, .bf16⟩
  | .local _ .vmem, ⟨7, _⟩ => ⟨S1x1024x512, .bf16⟩
  | .local _ .vmem, ⟨8, _⟩ => ⟨S1024x1024, .bf16⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S1x1024x1024, .f32⟩
  | .local _ .vmem, ⟨16, _⟩ => ⟨S1x1024x1024, .f32⟩
  | .local _ .vmem, ⟨17, _⟩ => ⟨S1024x1024, .f32⟩
  | .local _ .vmem, ⟨18, _⟩ => ⟨S1024x1024, .bf16⟩
  | .local _ .vmem, ⟨19, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_12 : BitVec 32 := 0#32
  let v21 : BitVec 1 := Scalar.cmpi .ne v20 c0_i32_12
  v21

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg0 c4_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg0 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![v9.toNat, v26.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference2Ideal.lean ====
abbrev S8x4096x1024 : Shape := ⟨3, ![8, 4096, 1024]⟩
abbrev S8x4096x256 : Shape := ⟨3, ![8, 4096, 256]⟩
abbrev S8x4096x512 : Shape := ⟨3, ![8, 4096, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4096 : Shape := ⟨3, ![8, 4096, 4096]⟩

abbrev nBuf : Space → Nat
  | .hbm => 51
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x256, .f32⟩
  | .hbm, ⟨2, _⟩ => ⟨S8x4096x256, .f32⟩
  | .hbm, ⟨3, _⟩ => ⟨S8x4096x512, .f32⟩
  | .hbm, ⟨4, _⟩ => ⟨S1024x1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024, .f32⟩
  | .hbm, ⟨9, _⟩ => ⟨S8x4096x1024, .f32⟩
  | .hbm, ⟨10, _⟩ => ⟨S8x4096x1024, .f32⟩
  | .hbm, ⟨11, _⟩ => ⟨S8x4096x1024, .f32⟩
  | .hbm, ⟨12, _⟩ => ⟨S8x4096x1024, .f32⟩
  | .hbm, ⟨13, _⟩ => ⟨S_, .f32⟩
  | .hbm, ⟨14, _⟩ => ⟨S8x4096, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S8x4096x1, .f32⟩
  | .hbm, ⟨23, _⟩ => ⟨S8x4096x1024, .f32⟩
  | .hbm, ⟨24, _⟩ => ⟨S8x4096x1024, .f32⟩
  | .hbm, ⟨25, _⟩ => ⟨S1x1x1024, .f32⟩
  | .hbm, ⟨26, _⟩ => ⟨S8x4096x1024, .f32⟩
  | .hbm, ⟨27, _⟩ => ⟨S8x4096x1024, .f32⟩
  | .hbm, ⟨28, _⟩ => ⟨S8x4096x4096, .f32⟩
  | .hbm, ⟨29, _⟩ => ⟨S_, .f32⟩
  | .hbm, ⟨30, _⟩ => ⟨S8x4096x4096, .f32⟩
  | .hbm, ⟨31, _⟩ => ⟨S8x4096x4096, .f32⟩
  | .hbm, ⟨32, _⟩ => ⟨S8x4096x4096, .f32⟩
  | .hbm, ⟨33, _⟩ => ⟨S8x4096x1024, .f32⟩
  | .hbm, ⟨34, _⟩ => ⟨S8x4096x1024, .f32⟩
  | .hbm, ⟨35, _⟩ => ⟨S8x4096x1024, .f32⟩
  | .hbm, ⟨36, _⟩ => ⟨S_, .f32⟩
  | .hbm, ⟨37, _⟩ => ⟨S8x4096, .f32⟩
  | .hbm, ⟨38, _⟩ => ⟨S8x4096x1, .f32⟩
  | .hbm, ⟨39, _⟩ => ⟨S_, .f32⟩
  | .hbm, ⟨40, _⟩ => ⟨S8x4096x1, .f32⟩
  | .hbm, ⟨41, _⟩ => ⟨S8x4096x1, .f32⟩
  | .hbm, ⟨42, _⟩ => ⟨S_, .f32⟩
  | .hbm, ⟨43, _⟩ => ⟨S8x4096x1, .f32⟩
  | .hbm, ⟨44, _⟩ => ⟨S8x4096x1, .f32⟩
  | .hbm, ⟨45, _⟩ => ⟨S8x4096x1, .f32⟩
  | .hbm, ⟨46, _⟩ => ⟨S8x4096x1024, .f32⟩
  | .hbm, ⟨47, _⟩ => ⟨S8x4096x1024, .f32⟩
  | .hbm, ⟨48, _⟩ => ⟨S1x1x1024, .f32⟩
  | .hbm, ⟨49, _⟩ => ⟨S8x4096x1024, .f32⟩
  | .hbm, ⟨50, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call0_cst : Ref sig .tc := ⟨.hbm, 29, rfl⟩
abbrev main_call0_v0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x4096x256 : Shape := ⟨3, ![8, 4096, 256]⟩
abbrev S8x4096x512 : Shape := ⟨3, ![8, 4096, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S4096x8x256 : Shape := ⟨3, ![4096, 8, 256]⟩
abbrev S4096x2048 : Shape := ⟨2, ![4096, 2048]⟩
abbrev S1x1024 : Shape := ⟨2, ![1, 1024]⟩
abbrev S1x1024x1024 : Shape := ⟨3, ![1, 1024, 1024]⟩
abbrev S1x1024x256 : Shape := ⟨3, ![1, 1024, 256]⟩
abbrev S1024x256 : Shape := ⟨2, ![1024, 256]⟩
abbrev S1x1024x512 : Shape := ⟨3, ![1, 1024, 512]⟩
abbrev S256x1024 : Shape := ⟨2, ![256, 1024]⟩
abbrev S1024x512 : Shape := ⟨2, ![1024, 512]⟩
abbrev S512x1024 : Shape := ⟨2, ![512, 1024]⟩
abbrev S1024x1 : Shape := ⟨2, ![1024, 1]⟩

abbrev nBuf : Space → Nat
  | .hbm => 20
  | .vmem => 20
  | .smem => 0
  | _ => 0

abbrev bufTy : (tb : Table) → Fin (tcTables nBuf tb) → BufTy
  | .hbm, ⟨0, _⟩ => ⟨S8x4096x1024, .f32⟩
  | .hbm, ⟨1, _⟩ => ⟨S8x4096x256, .f32⟩
  | .hbm, ⟨2, _⟩ => ⟨S8x4096x256, .f32⟩
  | .hbm, ⟨3, _⟩ => ⟨S8x4096x512, .f32⟩
  | .hbm, ⟨4, _⟩ => ⟨S1024x1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024, .f32⟩
  | .hbm, ⟨9, _⟩ => ⟨S4096x8x256, .f32⟩
  | .hbm, ⟨10, _⟩ => ⟨S4096x2048, .f32⟩
  | .hbm, ⟨11, _⟩ => ⟨S8x4096x256, .bf16⟩
  | .hbm, ⟨12, _⟩ => ⟨S4096x2048, .bf16⟩
  | .hbm, ⟨13, _⟩ => ⟨S8x4096x512, .bf16⟩
  | .hbm, ⟨14, _⟩ => ⟨S1024x1024, .bf16⟩
  | .hbm, ⟨15, _⟩ => ⟨S1x1024, .f32⟩
  | .hbm, ⟨16, _⟩ => ⟨S1024x4096, .bf16⟩
  | .hbm, ⟨17, _⟩ => ⟨S4096x1024, .bf16⟩
  | .hbm, ⟨18, _⟩ => ⟨S1x1024, .f32⟩
  | .hbm, ⟨19, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x256, .bf16⟩
  | .local _ .vmem, ⟨3, _⟩ => ⟨S1x1024x256, .bf16⟩
  | .local _ .vmem, ⟨4, _⟩ => ⟨S1024x256, .bf16⟩
  | .local _ .vmem, ⟨5, _⟩ => ⟨S1024x256, .bf16⟩
  | .local _ .vmem, ⟨6, _⟩ => ⟨S1x1024x512, .bf16⟩
  | .local _ .vmem, ⟨7, _⟩ => ⟨S1x1024x512, .bf16⟩
  | .local _ .vmem, ⟨8, _⟩ => ⟨S1024x1024, .bf16⟩
  | .local _ .vmem, ⟨9, _⟩ => ⟨S1x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S1x1024x1024, .f32⟩
  | .local _ .vmem, ⟨16, _⟩ => ⟨S1x1024x1024, .f32⟩
  | .local _ .vmem, ⟨17, _⟩ => ⟨S1024x1024, .f32⟩
  | .local _ .vmem, ⟨18, _⟩ => ⟨S1024x1024, .bf16⟩
  | .local _ .vmem, ⟨19, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_12 : BitVec 32 := 0#32
  let v21 : BitVec 1 := Scalar.cmpi .ne v20 c0_i32_12
  v21

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg0 c4_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg0 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  ![v9.toNat, v26.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference3Ideal.lean ====
abbrev S8x4096x1024 : Shape := ⟨3, ![8, 4096, 1024]⟩
abbrev S8x4096x256 : Shape := ⟨3, ![8, 4096, 256]⟩
abbrev S8x4096x512 : Shape := ⟨3, ![8, 4096, 512]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4096 : Shape := ⟨3, ![8, 4096, 4096]⟩

abbrev nBuf : Space → Nat
  | .hbm => 35
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x256, .f32⟩
  | .hbm, ⟨2, _⟩ => ⟨S8x4096x256, .f32⟩
  | .hbm, ⟨3, _⟩ => ⟨S8x4096x512, .f32⟩
  | .hbm, ⟨4, _⟩ => ⟨S1024x1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S1024, .f32⟩
  | .hbm, ⟨9, _⟩ => ⟨S8x4096x1024, .f32⟩
  | .hbm, ⟨10, _⟩ => ⟨S8x4096x1024, .f32⟩
  | .hbm, ⟨11, _⟩ => ⟨S8x4096x1024, .f32⟩
  | .hbm, ⟨12, _⟩ => ⟨S8x4096x1024, .f32⟩
  | .hbm, ⟨13, _⟩ => ⟨S_, .f32⟩
  | .hbm, ⟨14, _⟩ => ⟨S8x4096, .f32⟩
  | .hbm, ⟨15, _⟩ => ⟨S8x4096x1, .f32⟩
  | .hbm, ⟨16, _⟩ => ⟨S_, .f32⟩
  | .hbm, ⟨17, _⟩ => ⟨S8x4096x1, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S8x4096x1, .f32⟩
  | .hbm, ⟨23, _⟩ => ⟨S8x4096x1024, .f32⟩
  | .hbm, ⟨24, _⟩ => ⟨S8x4096x1024, .f32⟩
  | .hbm, ⟨25, _⟩ => ⟨S1x1x1024, .f32⟩
  | .hbm, ⟨26, _⟩ => ⟨S8x4096x1024, .f32⟩
  | .hbm, ⟨27, _⟩ => ⟨S8x4096x1024, .f32⟩
  | .hbm, ⟨28, _⟩ => ⟨S8x4096x4096, .f32⟩
  | .hbm, ⟨29, _⟩ => ⟨S_, .f32⟩
  | .hbm, ⟨30, _⟩ => ⟨S8x4096x4096, .f32⟩
  | .hbm, ⟨31, _⟩ => ⟨S8x4096x4096, .f32⟩
  | .hbm, ⟨32, _⟩ => ⟨S8x4096x4096, .f32⟩
  | .hbm, ⟨33, _⟩ => ⟨S8x4096x1024, .f32⟩
  | .hbm, ⟨34, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call0_cst : Ref sig .tc := ⟨.hbm, 29, rfl⟩
abbrev main_call0_v0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩

abbrev nD : Nat := 1
abbrev τ : Topo := Topo.v7x

variable {F : FTy → Type} [FloatOps F]
-- ==== Proof.Body.lean ====
module

public import proofs.«01_k».proof.Proof.Gen.KernelIdeal.Frame.RunA
public import Idealize.ShloMosaic.Lib.Pointwise

/-! The body of the kernel written once, with the group, the key chunk and the block as variables. -/

@[expose] public section

set_option maxRecDepth 16384

noncomputable section

namespace Cert.Nsa

open Idealize.ShloMosaic Idealize.ShloMosaic.TcCoe
open Cert.KernelIdeal Cert.KernelIdeal.Gen

variable {F : FTy → Type} [FloatOps F] [Named F]

/-- What the body reads: each input block and each scratch buffer, through a rectangle. -/
structure Rd (F : FTy → Type) [FloatOps F] [Named F] where
  q : (r : Rect S1x512x128) → FVec F r.shape .bf16
  qr : (r : Rect S1x512x128) → FVec F r.shape .bf16
  misc : (r : Rect S1x128x128) → FVec F r.shape .f32
  cm : (r : Rect S1x256x256) → FVec F r.shape .bf16
  vc : (r : Rect S1x128x256) → FVec F r.shape .bf16
  ks : (r : Rect S1x4096x128) → FVec F r.shape .bf16
  vs : (r : Rect S1x32x128x128) → FVec F r.shape .bf16
  kw : (r : Rect S1x4096x128) → FVec F r.shape .bf16
  vw : (r : Rect S1x32x128x128) → FVec F r.shape .bf16
  ov : (r : Rect S64x256) → FVec F r.shape .bf16
  gain : (r : Rect S512x1) → FVec F r.shape .f32
  sel : List (View.Piece (Elt F) S2x64x128 .f32) → (r : Rect S2x64x128) → FVec F r.shape .f32
  m : List (View.Piece (Elt F) S2x1x512 .f32) → (r : Rect S2x1x512) → FVec F r.shape .f32
  acc : List (View.Piece (Elt F) S2x80x512 .f32) → (r : Rect S2x80x512) → FVec F r.shape .f32
  win : List (View.Piece (Elt F) S2x64x512 .f32) → (r : Rect S2x64x512) → FVec F r.shape .f32

/-- The mask's fill. -/
def fill : F .f32 := Named.named κ "mask" 0xF149F2CA#32

/-- The query positions of the block. -/
def tl (i : grid0.Coords) : IVec S1x128 32 :=
  addi (broadcast S1x128 (Scalar.muli (BitVec.ofNat 32 (i 1).val) 128#32)) (iota Kind.tc S1x128 32 [1] (by decide))

theorem inbH (g : Fin 2) (h : Fin 4) : ∀ a, (![0, 64 * (4 * g.val + h.val), 0] : Fin 3 → Nat) a + S1x64x128.size a ≤ S1x512x128.size a := by
  revert g h; decide

/-- The four query heads of a group side by side. -/
def heads (q : (r : Rect S1x512x128) → FVec F r.shape .bf16) (g : Fin 2) : FVec F S64x512 .bf16 :=
  concatenate S64x512 1 (List.ofFn fun h : Fin 4 => (⟨S64x128, shapeCast S64x128
      (q (Rect.unit (s := S1x512x128) ![0, 64 * (4 * g.val + h.val), 0] S1x64x128.size (inbH g h))) shapeCasts_S1x64x128_S64x128⟩ :
        (s : Shape) × (s.Idx → F .bf16)))
    concatenates_S64x128_S64x128_S64x128_S64x128_S64x512_d1

/-- Four copies side by side. -/
def tile4 {α : Type} (s t : Shape) (a : Fin t.rank) (x : s.Idx → α) (h : Shape.Concatenates [s, s, s, s] t a) : t.Idx → α :=
  concatenate t a [⟨s, x⟩, ⟨s, x⟩, ⟨s, x⟩, ⟨s, x⟩] h

theorem inbC (g : Fin 2) : ∀ a, (![0, 0, 64 * g.val] : Fin 3 → Nat) a + S1x256x64.size a ≤ S1x256x256.size a := by
  revert g; decide
theorem inbV (g : Fin 2) : ∀ a, (![0, 64 * g.val, 0] : Fin 3 → Nat) a + S1x64x256.size a ≤ S1x128x256.size a := by
  revert g; decide

/-- Which compressed keys a query sees. -/
def vis (i : grid0.Coords) : IVec S256x512 1 :=
  cmpi .sgt (tile4 S256x128 S256x512 1 (select (cmpi .sle (addi (muli (iota Kind.tc S256x128 32 [0] (by decide)) (broadcast S256x128 16#32))
        (broadcast S256x128 31#32)) (broadcastTo S256x128 (tl i) broadcasts_S1x128_S256x128))
      (broadcast S256x128 1#32) (broadcast S256x128 0#32)) concatenates_S256x128_S256x128_S256x128_S256x128_S256x512_d1)
    (broadcast S256x512 0#32)

/-- The compressed scores, masked. -/
def scM (rd : Rd F) (i : grid0.Coords) (g : Fin 2) : FVec F S256x512 .f32 :=
  select (vis i)
    (matmul dot_S256x64_S64x512_S256x512_1_0_0_1_n_n none
      (shapeCast S256x64 (rd.cm (Rect.unit (s := S1x256x256) ![0, 0, 64 * g.val] S1x256x64.size (inbC g))) shapeCasts_S1x256x64_S256x64)
      (heads rd.q g) (constant S256x512 .f32 0x00000000#32))
    (broadcast S256x512 fill)

/-- Their exponentials. -/
def ecM (rd : Rd F) (i : grid0.Coords) (g : Fin 2) : FVec F S256x512 .f32 :=
  select (vis i)
    (exp2 (subf (scM rd i g) (broadcastTo S256x512 (shapeCast S1x512
      (multiReduction .maximumf [0] S512 (scM rd i g) 0xFF800000#32 reduces_S256x512_S512 (.inl rfl) rfl) shapeCasts_S512_S1x512)
      broadcasts_S1x512_S256x512)))
    (broadcast S256x512 (Scalar.ofBits .f32 0x00000000#32))

/-- The compressed probabilities. -/
def pcM (rd : Rd F) (i : grid0.Coords) (g : Fin 2) : FVec F S256x512 .f32 :=
  mulf (ecM rd i g) (broadcastTo S256x512 (divf (broadcast S1x512 (Scalar.ofBits .f32 0x3F800000#32))
    (maximumf (shapeCast S1x512 (multiReduction .add [0] S512 (ecM rd i g) 0x00000000#32 reduces_S256x512_S512 (.inl rfl) rfl)
        shapeCasts_S512_S1x512) (broadcast S1x512 (Scalar.ofBits .f32 0x0DA24260#32))))
    broadcasts_S1x512_S256x512)

/-- The compressed branch. -/
def ocM (rd : Rd F) (i : grid0.Coords) (g : Fin 2) : FVec F S64x512 .f32 :=
  matmul dot_S64x256_S256x512_S64x512_1_0_0_1_n_n none
    (shapeCast S64x256 (rd.vc (Rect.unit (s := S1x128x256) ![0, 64 * g.val, 0] S1x64x256.size (inbV g))) shapeCasts_S1x64x256_S64x256)
    (truncf .bf16 (pcM rd i g) bitsLt_bf16_f32) (constant S64x512 .f32 0x00000000#32)

/-- The probabilities summed over the group's heads. -/
def psM (rd : Rd F) (i : grid0.Coords) (g : Fin 2) : FVec F S256x128 .f32 :=
  addf (addf (addf (extractStridedSlice S256x128 ![0, 0] (pcM rd i g) slices_S256x512_o0_0_S256x128)
      (extractStridedSlice S256x128 ![0, 128] (pcM rd i g) slices_S256x512_o0_128_S256x128))
      (extractStridedSlice S256x128 ![0, 256] (pcM rd i g) slices_S256x512_o0_256_S256x128))
    (extractStridedSlice S256x128 ![0, 384] (pcM rd i g) slices_S256x512_o0_384_S256x128)

def ovM (rd : Rd F) : FVec F S64x256 .bf16 := rd.ov (Rect.unit (s := S64x256) ![0, 0] S64x256.size inb_S64x256_S64x256_0_0)

/-- The blocks' importance before forcing. -/
def irM (rd : Rd F) (i : grid0.Coords) (g : Fin 2) : FVec F S64x128 .f32 :=
  addf (matmul dot_S64x256_S256x128_S64x128_1_0_0_1_n_n none (ovM rd) (truncf .bf16 (psM rd i g) bitsLt_bf16_f32) (constant S64x128 .f32 0x00000000#32))
    (matmul dot_S64x256_S256x128_S64x128_1_0_0_1_n_n none (ovM rd)
      (truncf .bf16 (subf (psM rd i g) (extf .f32 (truncf .bf16 (psM rd i g) bitsLt_bf16_f32) bitsLt_bf16_f32)) bitsLt_bf16_f32)
      (constant S64x128 .f32 0x00000000#32))

def iotaB : IVec S64x128 32 := iota Kind.tc S64x128 32 [0] (by decide)

/-- The block a query lies in: the quotient by the block's length, rounded down. -/
def curM (i : grid0.Coords) : IVec S1x128 32 :=
  let d := broadcast S1x128 64#32
  let z := broadcast S1x128 0#32
  let o := broadcast S1x128 1#32
  select (andi (cmpi .ne (subi (extui 32 (cmpi .sgt (tl i) z) (by decide)) (extui 32 (cmpi .slt (tl i) z) (by decide))) o)
      (cmpi .ne (remsi (tl i) d) z))
    (subi (divsi (tl i) d) o) (divsi (tl i) d)

/-- Which blocks are always taken. -/
def forcedM (i : grid0.Coords) : IVec S64x128 32 :=
  select (cmpi .eq iotaB (broadcast S64x128 0#32)) (broadcast S64x128 1#32)
    (select (cmpi .eq iotaB (broadcastTo S64x128 (curM i) broadcasts_S1x128_S64x128)) (broadcast S64x128 1#32)
      (select (cmpi .eq iotaB (broadcastTo S64x128 (subi (curM i) (broadcast S1x128 1#32)) broadcasts_S1x128_S64x128))
        (broadcast S64x128 1#32) (broadcast S64x128 0#32)))

/-- The blocks' importance. -/
def impM (rd : Rd F) (i : grid0.Coords) (g : Fin 2) : FVec F S64x128 .f32 :=
  select (cmpi .sle (muli iotaB (broadcast S64x128 64#32)) (broadcastTo S64x128 (tl i) broadcasts_S1x128_S64x128))
    (select (cmpi .sgt (forcedM i) (broadcast S64x128 0#32)) (broadcast S64x128 (Scalar.ofBits .f32 0x4E6E6B28#32)) (irM rd i g))
    (broadcast S64x128 (Scalar.ofBits .f32 0xFF800000#32))

theorem slR (p : Nat) (h : p < 64) : S64x128.Slices ![p, 0] S1x128 := by
  refine ⟨rfl, fun a => ?_⟩
  fin_cases a
  · show p + 1 ≤ 64; omega
  · show 0 + 128 ≤ 128; omega
theorem slG (v : Fin 8) : S64x128.Slices ![8 * v.val, 0] S8x128 := by
  revert v; decide

def zR : IVec S8x128 32 := broadcast S8x128 0#32
def oR : IVec S8x128 32 := broadcast S8x128 1#32

/-- Whether block `p` comes before the blocks of tile `v`. -/
def beatsM (x : FVec F S64x128 .f32) (v : Fin 8) (p : Nat) (h : p < 64) : IVec S8x128 32 :=
  let row := broadcastTo S8x128 (extractStridedSlice S1x128 ![p, 0] x (slR p h)) broadcasts_S1x128_S8x128
  let grp := extractStridedSlice S8x128 ![8 * v.val, 0] x (slG v)
  bif Nat.blt (p / 8) v.val then select (cmpf .oge row grp) oR zR
  else bif Nat.blt v.val (p / 8) then select (cmpf .ogt row grp) oR zR
  else select (cmpf .ogt row grp) oR (select (cmpf .oeq row grp)
    (select (cmpi .sgt (extractStridedSlice S8x128 ![8 * v.val, 0] iotaB (slG v)) (broadcast S8x128 (BitVec.ofNat 32 p))) oR zR) zR)

/-- How many of the first `n` blocks come before each block of tile `v`. -/
def rankM (x : FVec F S64x128 .f32) (v : Fin 8) : (n : Nat) → n ≤ 64 → IVec S8x128 32
  | 0, _ => zR
  | n + 1, h => addi (rankM x v n (Nat.le_of_succ_le h)) (beatsM x v n h)

/-- The blocks taken, as a bias: zero where taken. -/
def selM (x : FVec F S64x128 .f32) : FVec F S64x128 .f32 :=
  select (cmpi .slt (concatenate S64x128 0 (List.ofFn fun v : Fin 8 => (⟨S8x128, rankM x v 64 le_rfl⟩ : (s : Shape) × (s.Idx → BitVec 32)))
      concatenates_S8x128_S8x128_S8x128_S8x128_S8x128_S8x128_S8x128_S8x128_S64x128_d0) (broadcast S64x128 16#32))
    (broadcast S64x128 (Scalar.ofBits .f32 0x00000000#32)) (broadcast S64x128 fill)

/-- The selection scratch. -/
def selL (rd : Rd F) (i : grid0.Coords) : List (View.Piece (Elt F) S2x64x128 .f32) :=
  [⟨Rect.unit ![1, 0, 0] S1x64x128.size inb_S2x64x128_S1x64x128_1_0_0, shapeCast S1x64x128 (selM (impM rd i 1)) shapeCasts_S64x128_S1x64x128⟩,
   ⟨Rect.unit ![0, 0, 0] S1x64x128.size inb_S2x64x128_S1x64x128_0_0_0, shapeCast S1x64x128 (selM (impM rd i 0)) shapeCasts_S64x128_S1x64x128⟩]

/-- The running maximum and the accumulator, as lists of stores. -/
abbrev St (F : FTy → Type) [FloatOps F] [Named F] :=
  List (View.Piece (Elt F) S2x1x512 .f32) × List (View.Piece (Elt F) S2x80x512 .f32)

def st0 : St F :=
  ([⟨Rect.unit ![0, 0, 0] S2x1x512.size inb_S2x1x512_S2x1x512_0_0_0, shapeCast S2x1x512 (broadcast S2x1x512 fill) shapeCasts_S2x1x512_S2x1x512⟩],
   [⟨Rect.unit ![0, 0, 0] S2x80x512.size inb_S2x80x512_S2x80x512_0_0_0,
      shapeCast S2x80x512 (broadcast S2x80x512 (Scalar.ofBits .f32 0x00000000#32)) shapeCasts_S2x80x512_S2x80x512⟩])

theorem inbK (g : Fin 2) (c : Fin 4) : ∀ a, (![0, 1024 * c.val, 64 * g.val] : Fin 3 → Nat) a + S1x1024x64.size a ≤ S1x4096x128.size a := by
  revert g c; decide
theorem inbS (g : Fin 2) (c : Fin 4) : ∀ a, (![g.val, 16 * c.val, 0] : Fin 3 → Nat) a + S1x16x128.size a ≤ S2x64x128.size a := by
  revert g c; decide
theorem inbU (c : Fin 4) (j : Fin 8) : ∀ a, (![0, 8 * c.val + j.val, 0, 0] : Fin 4 → Nat) a + S1x1x128x128.size a ≤ S1x32x128x128.size a := by
  revert c j; decide
theorem inbM (g : Fin 2) : ∀ a, (![g.val, 0, 0] : Fin 3 → Nat) a + S1x1x512.size a ≤ S2x1x512.size a := by
  revert g; decide
theorem inbA (g : Fin 2) : ∀ a, (![g.val, 0, 0] : Fin 3 → Nat) a + S1x80x512.size a ≤ S2x80x512.size a := by
  revert g; decide
theorem inbW (g : Fin 2) : ∀ a, (![g.val, 0, 0] : Fin 3 → Nat) a + S1x64x512.size a ≤ S2x64x512.size a := by
  revert g; decide
theorem slS (j : Fin 16) : S16x128.Slices ![j.val, 0] S1x128 := by
  revert j; decide
theorem slV (g : Fin 2) : S128x128.Slices ![64 * g.val, 0] S64x128 := by
  revert g; decide

/-- The selected keys' bias over a chunk. -/
def biasM (rd : Rd F) (i : grid0.Coords) (g : Fin 2) (c : Fin 4) : FVec F S1024x128 .f32 :=
  concatenate S1024x128 0 (List.ofFn fun j : Fin 16 => (⟨S64x128, broadcastTo S64x128 (shapeCast S1x128
      (extractStridedSlice S1x128 ![j.val, 0] (shapeCast S16x128
        (rd.sel (selL rd i) (Rect.unit (s := S2x64x128) ![g.val, 16 * c.val, 0] S1x16x128.size (inbS g c))) shapeCasts_S1x16x128_S16x128) (slS j))
      shapeCasts_S1x128_S1x128) broadcasts_S1x128_S64x128⟩ : (s : Shape) × (s.Idx → F .f32)))
    concatenates_S64x128_S64x128_S64x128_S64x128_S64x128_S64x128_S64x128_S64x128_S64x128_S64x128_S64x128_S64x128_S64x128_S64x128_S64x128_S64x128_S1024x128_d0

/-- The bias of the chunk the block lies in: the keys after the query are masked too. -/
def diagM (i : grid0.Coords) (c : Fin 4) (b : FVec F S1024x128 .f32) : FVec F S1024x128 .f32 :=
  select (cmpi .sle (addi (iota Kind.tc S1024x128 32 [0] (by decide)) (broadcast S1024x128 (BitVec.ofNat 32 (1024 * c.val))))
      (broadcastTo S1024x128 (tl i) broadcasts_S1x128_S1024x128)) b (broadcast S1024x128 fill)

/-- The chunk's scores. -/
def ssM (rd : Rd F) (g : Fin 2) (c : Fin 4) (b : FVec F S1024x128 .f32) : FVec F S1024x512 .f32 :=
  addf (matmul dot_S1024x64_S64x512_S1024x512_1_0_0_1_n_n none
      (shapeCast S1024x64 (rd.ks (Rect.unit (s := S1x4096x128) ![0, 1024 * c.val, 64 * g.val] S1x1024x64.size (inbK g c))) shapeCasts_S1x1024x64_S1024x64)
      (heads rd.qr g) (constant S1024x512 .f32 0x00000000#32))
    (tile4 S1024x128 S1024x512 1 b concatenates_S1024x128_S1024x128_S1024x128_S1024x128_S1024x512_d1)

/-- The chunk's values with the row of ones below. -/
def veM (rd : Rd F) (g : Fin 2) (c : Fin 4) : FVec F S80x1024 .bf16 :=
  concatenate S80x1024 0 [⟨S64x1024, concatenate S64x1024 1 (List.ofFn fun j : Fin 8 => (⟨S64x128, extractStridedSlice S64x128 ![64 * g.val, 0]
      (shapeCast S128x128 (rd.vs (Rect.unit (s := S1x32x128x128) ![0, 8 * c.val + j.val, 0, 0] S1x1x128x128.size (inbU c j)))
        shapeCasts_S1x1x128x128_S128x128) (slV g)⟩ : (s : Shape) × (s.Idx → F .bf16)))
      concatenates_S64x128_S64x128_S64x128_S64x128_S64x128_S64x128_S64x128_S64x128_S64x1024_d1⟩,
    ⟨S16x1024, broadcast S16x1024 (Scalar.ofBits .bf16 0x3F80#16)⟩] concatenates_S64x1024_S16x1024_S80x1024_d0

/-- The new maximum. -/
def mNew (m : FVec F S1x512 .f32) (s : FVec F S1024x512 .f32) : FVec F S1x512 .f32 :=
  maximumf m (shapeCast S1x512 (multiReduction .maximumf [0] S512 s 0xFF800000#32 reduces_S1024x512_S512 (.inl rfl) rfl) shapeCasts_S512_S1x512)

/-- The new accumulator. -/
def aNew (m : FVec F S1x512 .f32) (a : FVec F S80x512 .f32) (s : FVec F S1024x512 .f32) (v : FVec F S80x1024 .bf16) : FVec F S80x512 .f32 :=
  addf (mulf (broadcastTo S80x512 (exp2 (subf m (mNew m s))) broadcasts_S1x512_S80x512) a)
    (matmul dot_S80x1024_S1024x512_S80x512_1_0_0_1_n_n none v
      (truncf .bf16 (exp2 (subf s (broadcastTo S1024x512 (mNew m s) broadcasts_S1x512_S1024x512))) bitsLt_bf16_f32)
      (constant S80x512 .f32 0x00000000#32))

def mRd (rd : Rd F) (g : Fin 2) (L : List (View.Piece (Elt F) S2x1x512 .f32)) : FVec F S1x512 .f32 :=
  shapeCast S1x512 (rd.m L (Rect.unit (s := S2x1x512) ![g.val, 0, 0] S1x1x512.size (inbM g))) shapeCasts_S1x1x512_S1x512
def aRd (rd : Rd F) (g : Fin 2) (L : List (View.Piece (Elt F) S2x80x512 .f32)) : FVec F S80x512 .f32 :=
  shapeCast S80x512 (rd.acc L (Rect.unit (s := S2x80x512) ![g.val, 0, 0] S1x80x512.size (inbA g))) shapeCasts_S1x80x512_S80x512

/-- One group's step over a chunk. -/
def half (rd : Rd F) (g : Fin 2) (c : Fin 4) (b : FVec F S1024x128 .f32) (st : St F) : St F :=
  (⟨Rect.unit ![g.val, 0, 0] S1x1x512.size (inbM g), shapeCast S1x1x512 (mNew (mRd rd g st.1) (ssM rd g c b)) shapeCasts_S1x512_S1x1x512⟩ :: st.1,
   ⟨Rect.unit ![g.val, 0, 0] S1x80x512.size (inbA g),
      shapeCast S1x80x512 (aNew (mRd rd g st.1) (aRd rd g st.2) (ssM rd g c b) (veM rd g c)) shapeCasts_S80x512_S1x80x512⟩ :: st.2)

/-- A chunk before the block's own. -/
def chunk (rd : Rd F) (i : grid0.Coords) (c : Fin 4) (st : St F) : St F :=
  half rd 1 c (biasM rd i 1 c) (half rd 0 c (biasM rd i 0 c) st)
/-- The block's own chunk. -/
def chunkD (rd : Rd F) (i : grid0.Coords) (c : Fin 4) (st : St F) : St F :=
  half rd 1 c (diagM i c (biasM rd i 1 c)) (half rd 0 c (diagM i c (biasM rd i 0 c)) st)

/-- The number of the window's part `j`. -/
def cjM (i : grid0.Coords) (j : Fin 5) : BitVec 32 := Scalar.addi (Scalar.subi (BitVec.ofNat 32 (i 1).val) 4#32) (BitVec.ofNat 32 j.val)

/-- The window's bias on part `j`. -/
def wbM (i : grid0.Coords) (j : Fin 5) : FVec F S128x128 .f32 :=
  let k := addi (iota Kind.tc S128x128 32 [0] (by decide)) (broadcast S128x128 (Scalar.muli (Scalar.maxsi (cjM i j) 0#32) 128#32))
  Scalar.select (Scalar.cmpi .sge (cjM i j) 0#32)
    (select (cmpi .sle k (broadcastTo S128x128 (tl i) broadcasts_S1x128_S128x128))
      (select (cmpi .sgt k (broadcastTo S128x128 (subi (tl i) (broadcast S1x128 512#32)) broadcasts_S1x128_S128x128))
        (broadcast S128x128 (Scalar.ofBits .f32 0x00000000#32)) (broadcast S128x128 fill))
      (broadcast S128x128 fill))
    (broadcast S128x128 fill)

/-- Where part `j`'s keys start. -/
def koff (i : grid0.Coords) (g : Fin 2) (j : Fin 5) : Fin 3 → Nat :=
  ![0, (Scalar.indexCast (Scalar.muli (Scalar.maxsi (cjM i j) 0#32) 128#32)).toNat, 64 * g.val]
/-- Where part `j`'s values start. -/
def voff (i : grid0.Coords) (j : Fin 5) : Fin 4 → Nat :=
  ![0, (Scalar.indexCast (Scalar.maxsi (cjM i j) 0#32)).toNat, 0, 0]

theorem koff_inb (i : grid0.Coords) (g : Fin 2) (j : Fin 5) : ∀ a, koff i g j a + S1x128x64.size a ≤ S1x4096x128.size a := by
  have h : ∀ (b : Fin 32) (g : Fin 2) (j : Fin 5) (a : Fin 3), (![0, (Scalar.indexCast (Scalar.muli (Scalar.maxsi
      (Scalar.addi (Scalar.subi (BitVec.ofNat 32 b.val) 4#32) (BitVec.ofNat 32 j.val)) 0#32) 128#32)).toNat, 64 * g.val] : Fin 3 → Nat) a
        + S1x128x64.size a ≤ S1x4096x128.size a := by decide +kernel
  exact h (i 1) g j
theorem voff_inb (i : grid0.Coords) (j : Fin 5) : ∀ a, voff i j a + S1x1x128x128.size a ≤ S1x32x128x128.size a := by
  have h : ∀ (b : Fin 32) (j : Fin 5) (a : Fin 4), (![0, (Scalar.indexCast (Scalar.maxsi
      (Scalar.addi (Scalar.subi (BitVec.ofNat 32 b.val) 4#32) (BitVec.ofNat 32 j.val)) 0#32)).toNat, 0, 0] : Fin 4 → Nat) a
        + S1x1x128x128.size a ≤ S1x32x128x128.size a := by decide +kernel
  exact h (i 1) j

/-- The window's scores. -/
def swM (rd : Rd F) (i : grid0.Coords) (g : Fin 2) : FVec F S640x512 .f32 :=
  addf (matmul dot_S640x64_S64x512_S640x512_1_0_0_1_n_n none
      (concatenate S640x64 0 (List.ofFn fun j : Fin 5 => (⟨S128x64, shapeCast S128x64
        (rd.kw (Rect.unit (s := S1x4096x128) (koff i g j) S1x128x64.size (koff_inb i g j))) shapeCasts_S1x128x64_S128x64⟩ : (s : Shape) × (s.Idx → F .bf16)))
        concatenates_S128x64_S128x64_S128x64_S128x64_S128x64_S640x64_d0)
      (heads rd.qr g) (constant S640x512 .f32 0x00000000#32))
    (tile4 S640x128 S640x512 1 (concatenate S640x128 0 (List.ofFn fun j : Fin 5 => (⟨S128x128, wbM i j⟩ : (s : Shape) × (s.Idx → F .f32)))
      concatenates_S128x128_S128x128_S128x128_S128x128_S128x128_S640x128_d0) concatenates_S640x128_S640x128_S640x128_S640x128_S640x512_d1)

/-- The window's values with the row of ones below. -/
def vwM (rd : Rd F) (i : grid0.Coords) (g : Fin 2) : FVec F S80x640 .bf16 :=
  concatenate S80x640 0 [⟨S64x640, concatenate S64x640 1 (List.ofFn fun j : Fin 5 => (⟨S64x128, extractStridedSlice S64x128 ![64 * g.val, 0]
      (shapeCast S128x128 (rd.vw (Rect.unit (s := S1x32x128x128) (voff i j) S1x1x128x128.size (voff_inb i j)))
        shapeCasts_S1x1x128x128_S128x128) (slV g)⟩ : (s : Shape) × (s.Idx → F .bf16)))
      concatenates_S64x128_S64x128_S64x128_S64x128_S64x128_S64x640_d1⟩,
    ⟨S16x640, broadcast S16x640 (Scalar.ofBits .bf16 0x3F80#16)⟩] concatenates_S64x640_S16x640_S80x640_d0

/-- A softmax numerator over its denominator: rows 0 to 63 over row 64. -/
def quot (a : FVec F S80x512 .f32) : FVec F S64x512 .f32 :=
  divf (extractStridedSlice S64x512 ![0, 0] a slices_S80x512_o0_0_S64x512)
    (broadcastTo S64x512 (extractStridedSlice S1x512 ![64, 0] a slices_S80x512_o64_0_S1x512) broadcasts_S1x512_S64x512)

/-- The window branch. -/
def owM (rd : Rd F) (i : grid0.Coords) (g : Fin 2) : FVec F S64x512 .f32 :=
  quot (matmul dot_S80x640_S640x512_S80x512_1_0_0_1_n_n none (vwM rd i g)
    (truncf .bf16 (exp2 (subf (swM rd i g) (broadcastTo S640x512 (shapeCast S1x512
      (multiReduction .maximumf [0] S512 (swM rd i g) 0xFF800000#32 reduces_S640x512_S512 (.inl rfl) rfl) shapeCasts_S512_S1x512)
      broadcasts_S1x512_S640x512))) bitsLt_bf16_f32) (constant S80x512 .f32 0x00000000#32))

/-- The window scratch. -/
def winL (w0 w1 : FVec F S64x512 .f32) : List (View.Piece (Elt F) S2x64x512 .f32) :=
  [⟨Rect.unit ![1, 0, 0] S1x64x512.size inb_S2x64x512_S1x64x512_1_0_0, shapeCast S1x64x512 w1 shapeCasts_S64x512_S1x64x512⟩,
   ⟨Rect.unit ![0, 0, 0] S1x64x512.size inb_S2x64x512_S1x64x512_0_0_0, shapeCast S1x64x512 w0 shapeCasts_S64x512_S1x64x512⟩]

/-- The gates. -/
def gatesM (rd : Rd F) : FVec F S24x128 .f32 :=
  logistic (shapeCast S24x128 (rd.misc (Rect.unit (s := S1x128x128) ![0, 36, 0] S1x24x128.size inb_S1x128x128_S1x24x128_0_36_0)) shapeCasts_S1x24x128_S24x128)

theorem slT (r : Nat) (h : r < 24) : S24x128.Slices ![r, 0] S1x128 := by
  refine ⟨rfl, fun a => ?_⟩
  fin_cases a
  · show r + 1 ≤ 24; omega
  · show 0 + 128 ≤ 128; omega
theorem slO (h : Fin 4) : S64x512.Slices ![0, 128 * h.val] S64x128 := by
  revert h; decide

/-- Head `h` of a branch under its gate. -/
def gated (gt : FVec F S24x128 .f32) (r : Nat) (hr : r < 24) (o : FVec F S64x512 .f32) (h : Fin 4) : FVec F S64x128 .f32 :=
  mulf (broadcastTo S64x128 (extractStridedSlice S1x128 ![r, 0] gt (slT r hr)) broadcasts_S1x128_S64x128)
    (extractStridedSlice S64x128 ![0, 128 * h.val] o (slO h))

/-- One head of the sum of the three branches. -/
def slab (gt : FVec F S24x128 .f32) (oc os ow : Fin 2 → FVec F S64x512 .f32) (n : Fin 8) : FVec F S64x128 .f32 :=
  let g : Fin 2 := ⟨n.val / 4, by omega⟩
  let h : Fin 4 := ⟨n.val % 4, by omega⟩
  addf (addf (gated gt (3 * n.val) (by omega) (oc g) h) (gated gt (3 * n.val + 1) (by omega) (os g) h))
    (gated gt (3 * n.val + 2) (by omega) (ow g) h)

/-- The heads stacked. -/
def stackM (gt : FVec F S24x128 .f32) (oc os ow : Fin 2 → FVec F S64x512 .f32) : FVec F S512x128 .f32 :=
  concatenate S512x128 0 (List.ofFn fun n : Fin 8 => (⟨S64x128, slab gt oc os ow n⟩ : (s : Shape) × (s.Idx → F .f32)))
    concatenates_S64x128_S64x128_S64x128_S64x128_S64x128_S64x128_S64x128_S64x128_S512x128_d0

/-- The output of the block. -/
def finM (rd : Rd F) (x : FVec F S512x128 .f32) : FVec F S1x128x512 .bf16 :=
  shapeCast S1x128x512 (truncf .bf16 (transpose S128x512 [1, 0]
    (mulf (mulf x (broadcastTo S512x128 (rsqrt (addf (divf (shapeCast S1x128
        (multiReduction .add [0] S128 (mulf x x) 0x00000000#32 reduces_S512x128_S128 (.inl rfl) rfl) shapeCasts_S128_S1x128)
        (broadcast S1x128 (Scalar.ofBits .f32 0x44000000#32))) (broadcast S1x128 (Scalar.ofBits .f32 0x358637BD#32))))
        broadcasts_S1x128_S512x128))
      (broadcastTo S512x128 (shapeCast S512x1 (rd.gain (Rect.unit (s := S512x1) ![0, 0] S512x1.size inb_S512x1_S512x1_0_0)) shapeCasts_S512x1_S512x1)
        broadcasts_S512x1_S512x128)) transposes_S512x128_p1_0_S128x512) bitsLt_bf16_f32) shapeCasts_S128x512_S1x128x512

/-- What the body stores. -/
def outM (rd : Rd F) (i : grid0.Coords) (st : St F) : FVec F S1x128x512 .bf16 :=
  finM rd (stackM (gatesM rd) (ocM rd i)
    (fun g => quot (aRd rd g st.2))
    (fun g => shapeCast S64x512 (rd.win (winL (owM rd i 0) (owM rd i 1)) (Rect.unit (s := S2x64x512) ![g.val, 0, 0] S1x64x512.size (inbW g))) shapeCasts_S1x64x512_S64x512))

end Cert.Nsa
-- ==== Proof.Runs.lean ====
module

public import proofs.«01_k».proof.Proof.Body
public import proofs.«01_k».proof.Proof.Gen.KernelIdeal.Value

/-! The generated runs of the body are the body of `Body.lean`, case by case. -/

@[expose] public section

set_option maxRecDepth 16384

noncomputable section

namespace Cert.Nsa
open Idealize.ShloMosaic Idealize.ShloMosaic.TcCoe Idealize.ShloMosaic.Tactic
open Cert.KernelIdeal Cert.KernelIdeal.Gen
variable {F : FTy → Type} [FloatOps F] [Named F]
/-- The readers of a body run on its staging buffers. -/
def rdOf (arg2 : Memref sig .tc .vmem S1x512x128 .bf16) (harg2 : arg2.IsWhole) (arg3 : Memref sig .tc .vmem S1x512x128 .bf16) (harg3 : arg3.IsWhole) (arg4 : Memref sig .tc .vmem S1x128x128 .f32) (harg4 : arg4.IsWhole) (arg5 : Memref sig .tc .vmem S1x256x256 .bf16) (harg5 : arg5.IsWhole) (arg6 : Memref sig .tc .vmem S1x128x256 .bf16) (harg6 : arg6.IsWhole) (arg7 : Memref sig .tc .vmem S1x4096x128 .bf16) (harg7 : arg7.IsWhole) (arg8 : Memref sig .tc .vmem S1x32x128x128 .bf16) (harg8 : arg8.IsWhole) (arg9 : Memref sig .tc .vmem S1x4096x128 .bf16) (harg9 : arg9.IsWhole) (arg10 : Memref sig .tc .vmem S1x32x128x128 .bf16) (harg10 : arg10.IsWhole) (arg11 : Memref sig .tc .vmem S64x256 .bf16) (harg11 : arg11.IsWhole) (arg12 : Memref sig .tc .vmem S512x1 .f32) (harg12 : arg12.IsWhole) (arg14 : Memref sig .tc .vmem S2x64x128 .f32) (arg15 : Memref sig .tc .vmem S2x1x512 .f32) (arg16 : Memref sig .tc .vmem S2x80x512 .f32) (arg17 : Memref sig .tc .vmem S2x64x512 .f32)
    (x0 : Vec F S1x512x128 .bf16) (x1 : Vec F S1x512x128 .bf16) (x2 : Vec F S1x128x128 .f32) (x3 : Vec F S1x256x256 .bf16) (x4 : Vec F S1x128x256 .bf16) (x5 : Vec F S1x4096x128 .bf16) (x6 : Vec F S1x32x128x128 .bf16) (x7 : Vec F S1x4096x128 .bf16) (x8 : Vec F S1x32x128x128 .bf16) (x9 : Vec F S64x256 .bf16) (x10 : Vec F S512x1 .f32) : Rd F where
  q r := View.readAt (Elt F) arg2.view r.toLoadRect (harg2.unread x0)
  qr r := View.readAt (Elt F) arg3.view r.toLoadRect (harg3.unread x1)
  misc r := View.readAt (Elt F) arg4.view r.toLoadRect (harg4.unread x2)
  cm r := View.readAt (Elt F) arg5.view r.toLoadRect (harg5.unread x3)
  vc r := View.readAt (Elt F) arg6.view r.toLoadRect (harg6.unread x4)
  ks r := View.readAt (Elt F) arg7.view r.toLoadRect (harg7.unread x5)
  vs r := View.readAt (Elt F) arg8.view r.toLoadRect (harg8.unread x6)
  kw r := View.readAt (Elt F) arg9.view r.toLoadRect (harg9.unread x7)
  vw r := View.readAt (Elt F) arg10.view r.toLoadRect (harg10.unread x8)
  ov r := View.readAt (Elt F) arg11.view r.toLoadRect (harg11.unread x9)
  gain r := View.readAt (Elt F) arg12.view r.toLoadRect (harg12.unread x10)
  sel L r := arg14.view.readCov L r.toLoadRect
  m L r := arg15.view.readCov L r.toLoadRect
  acc L r := arg16.view.readCov L r.toLoadRect
  win L r := arg17.view.readCov L r.toLoadRect

variable (c : Dev nD) (i : grid0.Coords) (arg2 : Memref sig .tc .vmem S1x512x128 .bf16) (harg2 : arg2.IsWhole) (arg3 : Memref sig .tc .vmem S1x512x128 .bf16) (harg3 : arg3.IsWhole) (arg4 : Memref sig .tc .vmem S1x128x128 .f32) (harg4 : arg4.IsWhole) (arg5 : Memref sig .tc .vmem S1x256x256 .bf16) (harg5 : arg5.IsWhole) (arg6 : Memref sig .tc .vmem S1x128x256 .bf16) (harg6 : arg6.IsWhole) (arg7 : Memref sig .tc .vmem S1x4096x128 .bf16) (harg7 : arg7.IsWhole) (arg8 : Memref sig .tc .vmem S1x32x128x128 .bf16) (harg8 : arg8.IsWhole) (arg9 : Memref sig .tc .vmem S1x4096x128 .bf16) (harg9 : arg9.IsWhole) (arg10 : Memref sig .tc .vmem S1x32x128x128 .bf16) (harg10 : arg10.IsWhole) (arg11 : Memref sig .tc .vmem S64x256 .bf16) (harg11 : arg11.IsWhole) (arg12 : Memref sig .tc .vmem S512x1 .f32) (harg12 : arg12.IsWhole) (arg13 : Memref sig .tc .vmem S1x128x512 .bf16) (harg13 : arg13.IsWhole) (arg14 : Memref sig .tc .vmem S2x64x128 .f32) (harg14 : arg14.IsWhole) (arg15 : Memref sig .tc .vmem S2x1x512 .f32) (harg15 : arg15.IsWhole) (arg16 : Memref sig .tc .vmem S2x80x512 .f32) (harg16 : arg16.IsWhole) (arg17 : Memref sig .tc .vmem S2x64x512 .f32) (harg17 : arg17.IsWhole)
    (x0 : Vec F S1x512x128 .bf16) (x1 : Vec F S1x512x128 .bf16) (x2 : Vec F S1x128x128 .f32) (x3 : Vec F S1x256x256 .bf16) (x4 : Vec F S1x128x256 .bf16) (x5 : Vec F S1x4096x128 .bf16) (x6 : Vec F S1x32x128x128 .bf16) (x7 : Vec F S1x4096x128 .bf16) (x8 : Vec F S1x32x128x128 .bf16) (x9 : Vec F S64x256 .bf16) (x10 : Vec F S512x1 .f32)

/-- What the body stores in case A. -/
theorem runA (hc0 : ¬cond0_0 i) :
    (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10).1
    = let rd := rdOf arg2 harg2 arg3 harg3 arg4 harg4 arg5 harg5 arg6 harg6 arg7 harg7 arg8 harg8 arg9 harg9 arg10 harg10 arg11 harg11 arg12 harg12 arg14 arg15 arg16 arg17 x0 x1 x2 x3 x4 x5 x6 x7 x8 x9 x10
      [⟨Rect.unit ![0, 0, 0] S1x128x512.size inb_S1x128x512_S1x128x512_0_0_0, outM rd i (chunkD rd i 0 st0)⟩] := by
  sl_kernel_rfl
/-- What the body stores in case B. -/
theorem runB (hc0 : cond0_0 i) (hc1 : ¬cond0_1 i) :
    (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10).1
    = let rd := rdOf arg2 harg2 arg3 harg3 arg4 harg4 arg5 harg5 arg6 harg6 arg7 harg7 arg8 harg8 arg9 harg9 arg10 harg10 arg11 harg11 arg12 harg12 arg14 arg15 arg16 arg17 x0 x1 x2 x3 x4 x5 x6 x7 x8 x9 x10
      [⟨Rect.unit ![0, 0, 0] S1x128x512.size inb_S1x128x512_S1x128x512_0_0_0, outM rd i (chunkD rd i 1 (chunk rd i 0 st0))⟩] := by
  sl_kernel_rfl
/-- What the body stores in case C. -/
theorem runC (hc0 : cond0_0 i) (hc1 : cond0_1 i) (hc2 : ¬cond0_2 i) :
    (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10).1
    = let rd := rdOf arg2 harg2 arg3 harg3 arg4 harg4 arg5 harg5 arg6 harg6 arg7 harg7 arg8 harg8 arg9 harg9 arg10 harg10 arg11 harg11 arg12 harg12 arg14 arg15 arg16 arg17 x0 x1 x2 x3 x4 x5 x6 x7 x8 x9 x10
      [⟨Rect.unit ![0, 0, 0] S1x128x512.size inb_S1x128x512_S1x128x512_0_0_0, outM rd i (chunkD rd i 2 (chunk rd i 1 (chunk rd i 0 st0)))⟩] := by
  sl_kernel_rfl
/-- What the body stores in case D. -/
theorem runD (hc0 : cond0_0 i) (hc1 : cond0_1 i) (hc2 : cond0_2 i) :
    (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10).1
    = let rd := rdOf arg2 harg2 arg3 harg3 arg4 harg4 arg5 harg5 arg6 harg6 arg7 harg7 arg8 harg8 arg9 harg9 arg10 harg10 arg11 harg11 arg12 harg12 arg14 arg15 arg16 arg17 x0 x1 x2 x3 x4 x5 x6 x7 x8 x9 x10
      [⟨Rect.unit ![0, 0, 0] S1x128x512.size inb_S1x128x512_S1x128x512_0_0_0, outM rd i (chunkD rd i 3 (chunk rd i 2 (chunk rd i 1 (chunk rd i 0 st0))))⟩] := by
  sl_kernel_rfl

end Cert.Nsa
-- ==== Proof.Blk.lean ====
module

public import proofs.«01_k».proof.Proof.Runs
public import Idealize.ShloMosaic.Lib.Pipeline.ValueKit

/-! What each grid point writes back, with the body read straight off its input blocks. -/

@[expose] public section

set_option maxRecDepth 16384

noncomputable section

namespace Cert.Nsa
open Idealize.ShloMosaic Idealize.ShloMosaic.TcCoe Idealize.ShloMosaic.Tactic
open Cert.KernelIdeal Cert.KernelIdeal.Gen
variable {F : FTy → Type} [FloatOps F] [Named F]

/-- The readers of a body run, on the blocks themselves. -/
def rdD (x0 : Vec F S1x512x128 .bf16) (x1 : Vec F S1x512x128 .bf16) (x2 : Vec F S1x128x128 .f32) (x3 : Vec F S1x256x256 .bf16) (x4 : Vec F S1x128x256 .bf16) (x5 : Vec F S1x4096x128 .bf16) (x6 : Vec F S1x32x128x128 .bf16) (x7 : Vec F S1x4096x128 .bf16) (x8 : Vec F S1x32x128x128 .bf16) (x9 : Vec F S64x256 .bf16) (x10 : Vec F S512x1 .f32) : Rd F where
  q r := View.ld x0 r
  qr r := View.ld x1 r
  misc r := View.ld x2 r
  cm r := View.ld x3 r
  vc r := View.ld x4 r
  ks r := View.ld x5 r
  vs r := View.ld x6 r
  kw r := View.ld x7 r
  vw r := View.ld x8 r
  ov r := View.ld x9 r
  gain r := View.ld x10 r
  sel L r := fun j => View.canon L (r.toLoadRect.idx j)
  m L r := fun j => View.canon L (r.toLoadRect.idx j)
  acc L r := fun j => View.canon L (r.toLoadRect.idx j)
  win L r := fun j => View.canon L (r.toLoadRect.idx j)

variable (c : Dev nD) (i : grid0.Coords) (arg2 : Memref sig .tc .vmem S1x512x128 .bf16) (harg2 : arg2.IsWhole) (arg3 : Memref sig .tc .vmem S1x512x128 .bf16) (harg3 : arg3.IsWhole) (arg4 : Memref sig .tc .vmem S1x128x128 .f32) (harg4 : arg4.IsWhole) (arg5 : Memref sig .tc .vmem S1x256x256 .bf16) (harg5 : arg5.IsWhole) (arg6 : Memref sig .tc .vmem S1x128x256 .bf16) (harg6 : arg6.IsWhole) (arg7 : Memref sig .tc .vmem S1x4096x128 .bf16) (harg7 : arg7.IsWhole) (arg8 : Memref sig .tc .vmem S1x32x128x128 .bf16) (harg8 : arg8.IsWhole) (arg9 : Memref sig .tc .vmem S1x4096x128 .bf16) (harg9 : arg9.IsWhole) (arg10 : Memref sig .tc .vmem S1x32x128x128 .bf16) (harg10 : arg10.IsWhole) (arg11 : Memref sig .tc .vmem S64x256 .bf16) (harg11 : arg11.IsWhole) (arg12 : Memref sig .tc .vmem S512x1 .f32) (harg12 : arg12.IsWhole) (arg13 : Memref sig .tc .vmem S1x128x512 .bf16) (harg13 : arg13.IsWhole) (arg14 : Memref sig .tc .vmem S2x64x128 .f32) (harg14 : arg14.IsWhole) (arg15 : Memref sig .tc .vmem S2x1x512 .f32) (harg15 : arg15.IsWhole) (arg16 : Memref sig .tc .vmem S2x80x512 .f32) (harg16 : arg16.IsWhole) (arg17 : Memref sig .tc .vmem S2x64x512 .f32) (harg17 : arg17.IsWhole)
    (x0 : Vec F S1x512x128 .bf16) (x1 : Vec F S1x512x128 .bf16) (x2 : Vec F S1x128x128 .f32) (x3 : Vec F S1x256x256 .bf16) (x4 : Vec F S1x128x256 .bf16) (x5 : Vec F S1x4096x128 .bf16) (x6 : Vec F S1x32x128x128 .bf16) (x7 : Vec F S1x4096x128 .bf16) (x8 : Vec F S1x32x128x128 .bf16) (x9 : Vec F S64x256 .bf16) (x10 : Vec F S512x1 .f32)

theorem rdOf_eq : rdOf arg2 harg2 arg3 harg3 arg4 harg4 arg5 harg5 arg6 harg6 arg7 harg7 arg8 harg8 arg9 harg9 arg10 harg10 arg11 harg11 arg12 harg12 arg14 arg15 arg16 arg17 x0 x1 x2 x3 x4 x5 x6 x7 x8 x9 x10 = rdD x0 x1 x2 x3 x4 x5 x6 x7 x8 x9 x10 := by
  unfold rdOf rdD
  simp only [View.readAt_eq_ld, Memref.IsWhole.read_unread, View.readCov_eq_canon']

/-- The state before chunk `n`. -/
def bef (rd : Rd F) (i : grid0.Coords) : Nat → St F
  | 0 => st0
  | n + 1 => chunk rd i ⟨n % 4, Nat.mod_lt _ (by decide)⟩ (bef rd i n)

/-- The chunk a block lies in. -/
def own (i : grid0.Coords) : Fin 4 := ⟨(i 1).val / 8, by have : (i 1).val < 32 := (i 1).isLt; omega⟩

/-- What the body stores at a grid point. -/
def outB (rd : Rd F) (i : grid0.Coords) : FVec F S1x128x512 .bf16 := outM rd i (chunkD rd i (own i) (bef rd i (own i).val))

theorem outA (hc0 : ¬cond0_0 i) (ho : own i = 0) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 = outB (rdD x0 x1 x2 x3 x4 x5 x6 x7 x8 x9 x10) i := by
  unfold out0_A_11 outB
  rw [View.read_writes_junk_eq_canon, runA, rdOf_eq, ho]
  exact View.canon_cons_unit_lit _ _ _ (by decide)
theorem outB' (hc0 : cond0_0 i) (hc1 : ¬cond0_1 i) (ho : own i = 1) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 x10 = outB (rdD x0 x1 x2 x3 x4 x5 x6 x7 x8 x9 x10) i := by
  unfold out0_B_11 outB
  rw [View.read_writes_junk_eq_canon, runB, rdOf_eq, ho]
  exact View.canon_cons_unit_lit _ _ _ (by decide)
theorem outC (hc0 : cond0_0 i) (hc1 : cond0_1 i) (hc2 : ¬cond0_2 i) (ho : own i = 2) :
    out0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 = outB (rdD x0 x1 x2 x3 x4 x5 x6 x7 x8 x9 x10) i := by
  unfold out0_C_11 outB
  rw [View.read_writes_junk_eq_canon, runC, rdOf_eq, ho]
  exact View.canon_cons_unit_lit _ _ _ (by decide)
theorem outD (hc0 : cond0_0 i) (hc1 : cond0_1 i) (hc2 : cond0_2 i) (ho : own i = 3) :
    out0_D_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 hc2 x0 x1 x2 x3 x4 x5 x6 x7 x8 x9 x10 = outB (rdD x0 x1 x2 x3 x4 x5 x6 x7 x8 x9 x10) i := by
  unfold out0_D_11 outB
  rw [View.read_writes_junk_eq_canon, runD, rdOf_eq, ho]
  exact View.canon_cons_unit_lit _ _ _ (by decide)

theorem coords_val : ∀ t : Fin cfg0.N, (grid0.coords t 1).val = t.val % 32 ∧ (grid0.coords t 0).val = t.val / 32 :=
  (by decide +kernel : ∀ t : Fin grid0.N, (grid0.coords t 1).val = t.val % 32 ∧ (grid0.coords t 0).val = t.val / 32)

theorem own_coords (t : Fin cfg0.N) (n : Fin 4) (h : t.val % 32 / 8 = n.val) : own (grid0.coords t) = n := by
  apply Fin.ext
  show (grid0.coords t 1).val / 8 = n.val
  rw [(coords_val t).1, h]

/-- What a grid point writes back. -/
theorem flushed_eq (m : (ℓ : Loc nD τ sig) → Buf (Elt F) ℓ) (c : Dev nD) (t : Fin cfg0.N) :
    (dats m 0 c).flushed 11 t = (cfg0.win 11).cut (grid0.coords t)
      (outB (rdD (iblk m c 0 t) (iblk m c 1 t) (iblk m c 2 t) (iblk m c 3 t) (iblk m c 4 t) (iblk m c 5 t) (iblk m c 6 t) (iblk m c 7 t) (iblk m c 8 t) (iblk m c 9 t) (iblk m c 10 t)) (grid0.coords t)) := by
  by_cases h0 : 8 ≤ t.val % 32
  · by_cases h1 : ¬(8 ≤ t.val % 32 ∧ t.val % 32 ≤ 15)
    · by_cases h2 : ¬(16 ≤ t.val % 32 ∧ t.val % 32 ≤ 23)
      · rw [Value.flushed11_D m c t h0 h1 h2, outD]
        exact own_coords t 3 (by show _ = 3; omega)
      · rw [Value.flushed11_C m c t h0 h1 (by simpa using h2), outC]
        exact own_coords t 2 (by show _ = 2; omega)
    · rw [Value.flushed11_B m c t h0 h1, outB']
      exact own_coords t 1 (by show _ = 1; omega)
  · rw [Value.flushed11_A m c t h0, outA]
    exact own_coords t 0 (by show _ = 0; omega)

end Cert.Nsa
-- ==== Proof.Soft.lean ====
module

public import Idealize.ShloMosaic.PureOps.Ideal.Laws

@[expose] public section

noncomputable section

namespace Cert.Nsa

open Idealize.ShloMosaic Finset

variable {ι κ : Type} [DecidableEq ι] [DecidableEq κ]

/-- The weight of key `k` among the keys of `A`: its exponential over the sum of theirs. -/
def wt (A : Finset ι) (s : ι → ℝ) (k : ι) : ℝ := Real.exp (s k) / ∑ j ∈ A, Real.exp (s j)

/-- Attention over the keys of `A`: the weighted sum of their values. -/
def soft (A : Finset ι) (s : ι → ℝ) (v : ι → EReal) : EReal := ∑ k ∈ A, v k * ((wt A s k : ℝ) : EReal)

theorem wt_nonneg (A : Finset ι) (s : ι → ℝ) (k : ι) : 0 ≤ wt A s k :=
  div_nonneg (Real.exp_pos _).le (sum_nonneg fun _ _ => (Real.exp_pos _).le)

theorem sum_exp_pos {A : Finset ι} (hA : A.Nonempty) (s : ι → ℝ) : 0 < ∑ j ∈ A, Real.exp (s j) :=
  sum_pos (fun _ _ => Real.exp_pos _) hA

omit [DecidableEq ι] in
/-- A nonnegative real factor goes inside a sum of extended reals. -/
theorem sum_mul_coe (A : Finset ι) (f : ι → EReal) (c : ℝ) (hc : 0 ≤ c) :
    (∑ k ∈ A, f k) * (c : EReal) = ∑ k ∈ A, f k * (c : EReal) := by
  classical
  induction A using Finset.induction_on with
  | empty => simp
  | insert a A ha ih =>
    rw [sum_insert ha, sum_insert ha, EReal.right_distrib_of_nonneg_of_ne_top (EReal.coe_nonneg.2 hc) (EReal.coe_ne_top c), ih]

omit [DecidableEq ι] in
theorem coe_mul_sum (A : Finset ι) (f : ι → EReal) (c : ℝ) (hc : 0 ≤ c) :
    (c : EReal) * (∑ k ∈ A, f k) = ∑ k ∈ A, (c : EReal) * f k := by
  rw [mul_comm, sum_mul_coe A f c hc]
  exact sum_congr rfl fun k _ => mul_comm _ _

omit [DecidableEq ι] in
theorem coe_sum (A : Finset ι) (f : ι → ℝ) : ((∑ k ∈ A, f k : ℝ) : EReal) = ∑ k ∈ A, ((f k : ℝ) : EReal) := by
  classical
  induction A using Finset.induction_on with
  | empty => simp
  | insert a A ha ih => rw [sum_insert ha, sum_insert ha, EReal.coe_add, ih]

/-- Two score functions that differ by a constant on `A` give the same weights. -/
theorem wt_eq_of_shift (A : Finset ι) (s : ι → ℝ) (c : ℝ) (k : ι) :
    Real.exp (s k - c) / ∑ j ∈ A, Real.exp (s j - c) = wt A s k := by
  simp only [wt, Real.exp_sub, ← Finset.sum_div]
  have := Real.exp_pos c
  field_simp

/-- Masked scores: the real score on `N`, minus infinity off it. -/
def Masked (N : Finset κ) (σ : κ → ℝ) (s : κ → EReal) : Prop := ∀ k, s k = if k ∈ N then ((σ k : ℝ) : EReal) else ⊥

section
variable [Fintype κ]

theorem Masked.sup_empty {σ : κ → ℝ} {s : κ → EReal} (h : Masked ∅ σ s) : univ.sup s = ⊥ := by
  rw [Finset.sup_eq_bot_iff]
  intro k _
  rw [h k, if_neg (notMem_empty k)]

theorem Masked.sup_coe {N : Finset κ} {σ : κ → ℝ} {s : κ → EReal} (h : Masked N σ s) (hN : N.Nonempty) :
    ∃ μ : ℝ, univ.sup s = (μ : EReal) := by
  obtain ⟨k0, hk0⟩ := hN
  have hne : (univ : Finset κ).Nonempty := ⟨k0, mem_univ _⟩
  obtain ⟨k, -, hk⟩ := exists_mem_eq_sup univ hne s
  have hle : ((σ k0 : ℝ) : EReal) ≤ univ.sup s := by
    have := Finset.le_sup (f := s) (mem_univ k0)
    rwa [h k0, if_pos hk0] at this
  rw [hk, h k] at hle ⊢
  by_cases hkN : k ∈ N
  · exact ⟨σ k, if_pos hkN⟩
  · rw [if_neg hkN] at hle
    exact absurd hle (by simp)

end

/-- The running state of an online softmax in base two after the keys of `B`: nothing yet, or a real level `m` and the
    sum of the values weighted relative to it. -/
def Good (B : Finset ι) (σ : ι → ℝ) (v : ι → EReal) (m a : EReal) : Prop :=
  (B = ∅ ∧ m = ⊥ ∧ a = 0) ∨
    (B.Nonempty ∧ ∃ μ : ℝ, m = (μ : EReal) ∧ a = ∑ k ∈ B, v k * ((Real.rpow 2 (σ k - μ) : ℝ) : EReal))

theorem good_empty (σ : ι → ℝ) (v : ι → EReal) : Good ∅ σ v ⊥ 0 := Or.inl ⟨rfl, rfl, rfl⟩

theorem exp2_bot_sub (x : EReal) : Ideal.exp2 (⊥ - x) = 0 := by
  rw [sub_eq_add_neg, EReal.bot_add]; rfl

theorem exp2_coe_sub (a b : ℝ) : Ideal.exp2 ((a : EReal) - (b : EReal)) = ((Real.rpow 2 (a - b) : ℝ) : EReal) := by
  rw [← EReal.coe_sub]; rfl

theorem rpow_sub_mul (a b c : ℝ) : Real.rpow 2 (a - b) * Real.rpow 2 (b - c) = Real.rpow 2 (a - c) := by
  show (2 : ℝ) ^ (a - b) * (2 : ℝ) ^ (b - c) = (2 : ℝ) ^ (a - c)
  rw [← Real.rpow_add two_pos]; congr 1; ring

/-- One step of the online softmax: the new keys `N` of the step's index type, named by `e` among all keys. -/
theorem good_step [Fintype κ] {B : Finset ι} {σ : ι → ℝ} {v : ι → EReal} {m a : EReal} (hB : Good B σ v m a)
    (N : Finset κ) (e : κ → ι) (he : Set.InjOn e N) (hd : Disjoint B (N.image e))
    (s : κ → EReal) (hs : Masked N (fun k => σ (e k)) s) (w : κ → EReal) (hw : ∀ k ∈ N, w k = v (e k)) :
    Good (B ∪ N.image e) σ v (max m (univ.sup s))
      (Ideal.exp2 (m - max m (univ.sup s)) * a + ∑ k, w k * Ideal.exp2 (s k - max m (univ.sup s))) := by
  by_cases hN : N = ∅
  · subst hN
    rw [hs.sup_empty, image_empty, union_empty, max_eq_left bot_le]
    have hz : ∑ k, w k * Ideal.exp2 (s k - m) = 0 := sum_eq_zero fun k _ => by
      rw [hs k, if_neg (notMem_empty k), exp2_bot_sub, mul_zero]
    rw [hz, add_zero]
    rcases hB with ⟨h0, rfl, rfl⟩ | ⟨hne, μ, rfl, ha⟩
    · exact Or.inl ⟨h0, rfl, mul_zero _⟩
    · refine Or.inr ⟨hne, μ, rfl, ?_⟩
      rw [exp2_coe_sub, sub_self]
      show ((2 ^ (0 : ℝ) : ℝ) : EReal) * a = _
      rw [Real.rpow_zero, EReal.coe_one, one_mul, ha]
  · have hN' := nonempty_iff_ne_empty.2 hN
    obtain ⟨M, hM⟩ := hs.sup_coe hN'
    have hnew : ∀ μ : ℝ, ∑ k, w k * Ideal.exp2 (s k - (μ : EReal))
        = ∑ k ∈ N.image e, v k * ((Real.rpow 2 (σ k - μ) : ℝ) : EReal) := by
      intro μ
      rw [sum_image he]
      symm
      apply sum_subset_zero_on_sdiff (subset_univ N)
      · intro k hk
        rw [hs k, if_neg (mem_sdiff.1 hk).2, exp2_bot_sub, mul_zero]
      · intro k hk
        rw [hs k, if_pos hk, exp2_coe_sub, hw k hk]
    refine Or.inr ⟨Finset.Nonempty.inr (hN'.image e), ?_⟩
    rcases hB with ⟨rfl, rfl, rfl⟩ | ⟨hne, μ, rfl, ha⟩
    · refine ⟨M, by rw [hM, max_eq_right bot_le], ?_⟩
      rw [hM, max_eq_right bot_le, mul_zero, zero_add, hnew, empty_union]
    · have hmx : max (μ : EReal) (M : EReal) = ((max μ M : ℝ) : EReal) := (EReal.coe_strictMono.monotone.map_max).symm
      refine ⟨max μ M, by rw [hM, hmx], ?_⟩
      rw [hM, hmx, hnew, sum_union hd, ha, exp2_coe_sub,
        coe_mul_sum _ _ (Real.rpow 2 (μ - max μ M)) (Real.rpow_nonneg (by norm_num) _)]
      congr 1
      refine sum_congr rfl fun k _ => ?_
      rw [mul_left_comm, ← EReal.coe_mul, mul_comm (Real.rpow 2 _), rpow_sub_mul]

/-- The final division of an online softmax is attention over the keys seen. -/
theorem good_div {B : Finset ι} {s σ : ι → ℝ} (hσ : ∀ k, σ k = s k / Real.log 2) {v : ι → EReal} {m a l : EReal}
    (ha : Good B σ v m a) (hl : Good B σ (fun _ => 1) m l) (hB : B.Nonempty) : Ideal.div a l = soft B s v := by
  rcases ha with ⟨h0, -⟩ | ⟨-, μ, hm, ha⟩
  · exact absurd h0 hB.ne_empty
  rcases hl with ⟨h0, -⟩ | ⟨-, ν, hm', hl⟩
  · exact absurd h0 hB.ne_empty
  have hμ : μ = ν := EReal.coe_injective (hm.symm.trans hm')
  subst hμ
  have hlog : Real.log 2 ≠ 0 := (Real.log_pos (by norm_num)).ne'
  have hp : ∀ k, Real.rpow 2 (σ k - μ) = Real.exp (s k - μ * Real.log 2) := by
    intro k
    show (2 : ℝ) ^ (σ k - μ) = _
    rw [Real.rpow_def_of_pos two_pos, hσ k]
    congr 1; field_simp
  have hL : l = ((∑ k ∈ B, Real.exp (s k - μ * Real.log 2) : ℝ) : EReal) := by
    rw [hl, coe_sum]
    exact sum_congr rfl fun k _ => by rw [one_mul, hp]
  have hpos := sum_exp_pos hB (fun k => s k - μ * Real.log 2)
  rw [hL, Ideal.div_coe hpos.ne', ha, sum_mul_coe _ _ _ (one_div_nonneg.2 hpos.le), soft]
  refine sum_congr rfl fun k _ => ?_
  rw [mul_assoc, ← EReal.coe_mul, hp, mul_one_div, wt_eq_of_shift]

/-- Attention over the image of a set under a map that is injective on it. -/
theorem soft_image {N : Finset κ} {e : κ → ι} (he : Set.InjOn e N) (s : ι → ℝ) (v : ι → EReal) :
    soft (N.image e) s v = soft N (fun k => s (e k)) (fun k => v (e k)) := by
  simp only [soft, wt]
  rw [sum_image he, sum_image he]

section
variable [Fintype κ]

theorem exp_bot_sub (x : EReal) : Ideal.exp (⊥ - x) = 0 := by
  rw [sub_eq_add_neg, EReal.bot_add]; rfl

theorem exp_coe_sub (a b : ℝ) : Ideal.exp ((a : EReal) - (b : EReal)) = ((Real.exp (a - b) : ℝ) : EReal) := by
  rw [← EReal.coe_sub]; rfl

/-- The softmax of masked scores, at a key of the mask, is the key's weight. -/
theorem softmax_masked {N : Finset κ} {σ : κ → ℝ} {s : κ → EReal} (hs : Masked N σ s) {k : κ} (hk : k ∈ N) :
    Ideal.div (Ideal.exp (s k - univ.sup s)) (∑ j, Ideal.exp (s j - univ.sup s)) = ((wt N σ k : ℝ) : EReal) := by
  obtain ⟨μ, hμ⟩ := hs.sup_coe ⟨k, hk⟩
  have hsum : ∑ j, Ideal.exp (s j - univ.sup s) = ((∑ j ∈ N, Real.exp (σ j - μ) : ℝ) : EReal) := by
    rw [coe_sum]
    symm
    apply sum_subset_zero_on_sdiff (subset_univ N)
    · intro j hj
      rw [hs j, if_neg (mem_sdiff.1 hj).2, exp_bot_sub]
    · intro j hj
      rw [hs j, if_pos hj, hμ, exp_coe_sub]
  rw [hsum, Ideal.div_coe (sum_exp_pos ⟨k, hk⟩ _).ne', hs k, if_pos hk, hμ, exp_coe_sub, ← EReal.coe_mul, mul_one_div,
    wt_eq_of_shift]

/-- A sum of values against weights that vanish off `N` is attention over `N`. -/
theorem sum_eq_soft (N : Finset κ) (σ : κ → ℝ) (v p : κ → EReal) (hp : ∀ k, p k = if k ∈ N then ((wt N σ k : ℝ) : EReal) else 0) :
    ∑ k, v k * p k = soft N σ v := by
  symm
  apply sum_subset_zero_on_sdiff (subset_univ N)
  · intro k hk
    rw [hp k, if_neg (mem_sdiff.1 hk).2, mul_zero]
  · intro k hk
    rw [hp k, if_pos hk]

/-- The softmax in base two, taken at once, with zeros off the mask and the sum held away from zero. -/
theorem softmax2_masked {N : Finset κ} {s σ : κ → ℝ} (hσ : ∀ k, σ k = s k / Real.log 2) {x : κ → EReal} (hx : Masked N σ x)
    (p : κ → EReal) (hp : ∀ k, p k = if k ∈ N then Ideal.exp2 (x k - univ.sup x) else 0) (ε : ℝ) (hε : ε ≤ 1) (k : κ) :
    p k * Ideal.div 1 (max (∑ j, p j) (ε : EReal)) = if k ∈ N then ((wt N s k : ℝ) : EReal) else 0 := by
  by_cases hk : k ∈ N
  swap
  · rw [hp k, if_neg hk, if_neg hk, zero_mul]
  obtain ⟨μ, hμ⟩ := hx.sup_coe ⟨k, hk⟩
  have hlog : Real.log 2 ≠ 0 := (Real.log_pos (by norm_num)).ne'
  have hp2 : ∀ j, Real.rpow 2 (σ j - μ) = Real.exp (s j - μ * Real.log 2) := by
    intro j
    show (2 : ℝ) ^ (σ j - μ) = _
    rw [Real.rpow_def_of_pos two_pos, hσ j]
    congr 1; field_simp
  have hpj : ∀ j ∈ N, p j = ((Real.exp (s j - μ * Real.log 2) : ℝ) : EReal) := by
    intro j hj
    rw [hp j, if_pos hj, hx j, if_pos hj, hμ, exp2_coe_sub, hp2]
  have hsum : ∑ j, p j = ((∑ j ∈ N, Real.exp (s j - μ * Real.log 2) : ℝ) : EReal) := by
    rw [coe_sum]
    symm
    apply sum_subset_zero_on_sdiff (subset_univ N)
    · intro j hj
      rw [hp j, if_neg (mem_sdiff.1 hj).2]
    · intro j hj
      rw [hpj j hj]
  -- the greatest score is reached, and its term is one
  have hge : 1 ≤ ∑ j ∈ N, Real.exp (s j - μ * Real.log 2) := by
    obtain ⟨j, -, hj⟩ := exists_mem_eq_sup univ ⟨k, mem_univ k⟩ x
    have hjN : j ∈ N := by
      by_contra hjN
      rw [hμ, hx j, if_neg hjN] at hj
      exact absurd hj (by simp)
    rw [hμ, hx j, if_pos hjN] at hj
    have hσj : μ = σ j := EReal.coe_injective hj
    have h1 : Real.exp (s j - μ * Real.log 2) = 1 := by
      rw [← hp2, ← hσj, sub_self]; exact Real.rpow_zero 2
    rw [← h1]
    exact single_le_sum (f := fun j => Real.exp (s j - μ * Real.log 2)) (fun _ _ => (Real.exp_pos _).le) hjN
  rw [hsum, max_eq_left (EReal.coe_le_coe_iff.2 (hε.trans hge)), Ideal.div_coe (by linarith), one_mul, hpj k hk,
    ← EReal.coe_mul, mul_one_div, wt_eq_of_shift, if_pos hk]

end

end Cert.Nsa

end
-- ==== Proof.Rank.lean ====
module

public import Idealize.ShloMosaic.Lib.SortPrefix
public import Idealize.ShloMosaic.PureOps.Ideal.Laws

@[expose] public section

noncomputable section

namespace Cert.Nsa

open Idealize.ShloMosaic Finset

/-- Entry `p` comes before entry `q`: it is greater, or equal and at the lower index. -/
def Beats {n : ℕ} (x : Fin n → EReal) (p q : Fin n) : Prop := x q < x p ∨ (x p = x q ∧ p < q)

instance {n : ℕ} (x : Fin n → EReal) (p q : Fin n) : Decidable (Beats x p q) := Classical.propDecidable _

/-- How many entries come before entry `q`. -/
def rank {n : ℕ} (x : Fin n → EReal) (q : Fin n) : ℕ := #{p | Beats x p q}

/-- The entries among the `k` greatest, equal ones in index order. -/
def sel {n : ℕ} (x : Fin n → EReal) (k : ℕ) : Finset (Fin n) := {q | rank x q < k}

theorem mem_sel {n : ℕ} {x : Fin n → EReal} {k : ℕ} {q : Fin n} : q ∈ sel x k ↔ rank x q < k := by simp [sel]

/-- A stable sort by the keys alone is the sort by the keys and then the positions. -/
theorem stableSort_eq {n : ℕ} (x : Fin n → EReal) (R : Fin n → Fin n → Bool) (hR : ∀ p q, R p q = decide (x q < x p))
    (l : List (Fin n)) (hl : l.Pairwise (· < ·)) : stableSort R l = stableSort (fun p q => decide (Beats x p q)) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    rw [hR]
    refine decide_eq_decide.2 ⟨Or.inl, ?_⟩
    rintro (h | ⟨-, h⟩)
    · exact h
    · exact absurd h (not_lt.2 hab.le)

theorem beats_total {n : ℕ} (x : Fin n → EReal) : StrictTotalBefore fun p q : Fin n => decide (Beats x p q) where
  irrefl p := by simp [Beats]
  trans a b c hab hbc := by
    rw [decide_eq_true_eq] at hab hbc ⊢
    rcases hab with hab | ⟨eab, lab⟩ <;> rcases hbc with hbc | ⟨ebc, lbc⟩
    · exact Or.inl (hbc.trans hab)
    · exact Or.inl (ebc ▸ hab)
    · exact Or.inl (eab ▸ hbc)
    · exact Or.inr ⟨eab.trans ebc, lab.trans lbc⟩
  total a b hne := by
    rw [decide_eq_true_eq, decide_eq_true_eq]
    rcases lt_trichotomy (x a) (x b) with h | h | h
    · exact Or.inr (Or.inl h)
    · rcases lt_or_gt_of_ne hne with hlt | hgt
      · exact Or.inl (Or.inr ⟨h, hlt⟩)
      · exact Or.inr (Or.inr ⟨h.symm, hgt⟩)
    · exact Or.inl (Or.inl h)

theorem sortedFrom_eq {n : ℕ} (x : Fin n → EReal) (R : Fin n → Fin n → Bool) (hR : ∀ p q, R p q = decide (x q < x p)) :
    sortedFrom R = sortedFrom (fun p q => decide (Beats x p q)) := by
  funext k
  unfold sortedFrom sortPositions
  simp only [List.get_eq_getElem, stableSort_eq x R hR _ (List.pairwise_lt_finRange n)]
  rfl

/-- The entry a descending stable sort puts at position `i` has rank `i`. -/
theorem rank_sortedFrom {n : ℕ} (x : Fin n → EReal) (R : Fin n → Fin n → Bool) (hR : ∀ p q, R p q = decide (x q < x p))
    (i : Fin n) : rank x (sortedFrom R i) = i.val := by
  rw [sortedFrom_eq x R hR]
  set B : Fin n → Fin n → Bool := fun p q => decide (Beats x p q) with hBdef
  have hB := beats_total x
  have hinj := sortedFrom_injective B
  have hord : ∀ i j : Fin n, i < j → Beats x (sortedFrom B i) (sortedFrom B j) := by
    intro i j hij
    have h := sortedFrom_noInversion B B (fun a b h => hB.asymm a b h) (fun _ _ h => h) hB.negTrans i j hij
    rcases hB.total (sortedFrom B i) (sortedFrom B j) (fun h => hij.ne (hinj h)) with h' | h'
    · exact of_decide_eq_true h'
    · exact absurd (h'.symm.trans h) (by decide)
  have himg : ({p | Beats x p (sortedFrom B i)} : Finset (Fin n)) = (univ.filter (· < i)).image (sortedFrom B) := by
    ext p
    obtain ⟨j, rfl⟩ := sortedFrom_surjective B p
    simp only [mem_filter, mem_univ, true_and, mem_image]
    constructor
    · intro h
      refine ⟨j, ?_, rfl⟩
      by_contra hji
      rcases eq_or_lt_of_le (not_lt.1 hji) with rfl | hlt
      · have := hB.irrefl (sortedFrom B i)
        exact absurd h (of_decide_eq_false this)
      · have := hB.asymm _ _ (decide_eq_true (hord i j hlt))
        exact absurd h (of_decide_eq_false this)
    · rintro ⟨k, hk, hkj⟩
      rw [← hkj]
      exact hord k i hk
  rw [rank, himg, card_image_of_injective _ hinj]
  have : (univ.filter (· < i) : Finset (Fin n)) = Iio i := by ext; simp
  rw [this, Fin.card_Iio]

/-- The first `k` positions of a descending stable sort are the `k` greatest entries. -/
theorem image_sortedFrom {n k : ℕ} (hk : k ≤ n) (x : Fin n → EReal) (R : Fin n → Fin n → Bool)
    (hR : ∀ p q, R p q = decide (x q < x p)) : univ.image (fun i : Fin k => sortedFrom R (i.castLE hk)) = sel x k := by
  ext p
  simp only [mem_image, mem_univ, true_and, mem_sel]
  constructor
  · rintro ⟨i, rfl⟩
    rw [rank_sortedFrom x R hR]
    exact i.isLt
  · intro h
    obtain ⟨j, rfl⟩ := sortedFrom_surjective R p
    rw [rank_sortedFrom x R hR] at h
    exact ⟨⟨j, h⟩, rfl⟩

/-- The greatest entry ranks first, so it is selected. -/
theorem rank_lt_of_few {n k : ℕ} (x : Fin n → EReal) (q : Fin n) (S : Finset (Fin n)) (hS : #S < k)
    (h : ∀ p, Beats x p q → p ∈ S) : q ∈ sel x k := by
  rw [mem_sel]
  refine lt_of_le_of_lt (card_le_card fun p hp => ?_) hS
  exact h p (by simpa using hp)

end Cert.Nsa

end
-- ==== Proof.Spec.lean ====
module

public import proofs.«01_k».proof.Proof.Soft
public import proofs.«01_k».proof.Proof.Rank

/-! The layer's attention for one sequence, as mathematics: three softmax branches under gates, normalised. -/

@[expose] public section

noncomputable section

namespace Cert.Nsa
open Finset Idealize.ShloMosaic

/-- The inputs of one sequence: real queries and keys, extended real values, gates and gains. -/
structure Data where
  q : Fin 4096 → Fin 512 → ℝ
  qr : Fin 4096 → Fin 512 → ℝ
  gate : Fin 4096 → Fin 24 → EReal
  kc : Fin 255 → Fin 128 → ℝ
  vc : Fin 255 → Fin 128 → EReal
  ks : Fin 4096 → Fin 128 → ℝ
  vs : Fin 4096 → Fin 128 → EReal
  kw : Fin 4096 → Fin 128 → ℝ
  vw : Fin 4096 → Fin 128 → EReal
  gain : Fin 512 → EReal

/-- A query head's column. -/
def hcol (g : Fin 2) (h : Fin 4) (d : Fin 64) : Fin 512 := ⟨64 * (4 * g.val + h.val) + d.val, by omega⟩
/-- A group's column. -/
def gcol (g : Fin 2) (d : Fin 64) : Fin 128 := ⟨64 * g.val + d.val, by omega⟩
/-- A gate's column. -/
def tcol (g : Fin 2) (h : Fin 4) (r : Fin 3) : Fin 24 := ⟨3 * (4 * g.val + h.val) + r.val, by omega⟩

namespace Data
variable (D : Data) (t : Fin 4096) (g : Fin 2) (h : Fin 4)

/-- A score: the inner product over the head's dimensions, scaled. -/
def score {n : ℕ} (q : Fin 4096 → Fin 512 → ℝ) (k : Fin n → Fin 128 → ℝ) (j : Fin n) : ℝ :=
  (∑ d, q t (hcol g h d) * k j (gcol g d)) * (1 / 8)

/-- The compressed blocks wholly in the past. -/
def setC : Finset (Fin 255) := {n | 16 * n.val + 31 ≤ t.val}
/-- The compressed probabilities. -/
def pC (n : Fin 255) : ℝ := if n ∈ setC t then wt (setC t) (score t g h D.q D.kc) n else 0
/-- How much of selection block `m` compressed block `n` covers. -/
def ovl (n : Fin 255) (m : Fin 64) : ℝ :=
  max ((min (16 * (n.val : ℤ) + 32) (64 * (m.val : ℤ) + 64) - max (16 * (n.val : ℤ)) (64 * (m.val : ℤ)) : ℤ) : ℝ) 0 / 32
/-- The selection blocks' importance. -/
def imp (m : Fin 64) : EReal :=
  if 64 * m.val ≤ t.val then
    if m.val = 0 ∨ m.val = t.val / 64 ∨ m.val + 1 = t.val / 64 then ((1000000000 : ℝ) : EReal)
    else ((∑ n, (∑ h, D.pC t g h n) * ovl n m : ℝ) : EReal)
  else ⊥
/-- The keys of the blocks taken, up to the query. -/
def setS : Finset (Fin 4096) := {k | (⟨k.val / 64, by omega⟩ : Fin 64) ∈ sel (D.imp t g) 16 ∧ k.val ≤ t.val}
/-- The keys of the window. -/
def setW : Finset (Fin 4096) := {k | k.val ≤ t.val ∧ t.val < k.val + 512}

def oC (d : Fin 64) : EReal := soft (setC t) (score t g h D.q D.kc) fun n => D.vc n (gcol g d)
def oS (d : Fin 64) : EReal := soft (D.setS t g) (score t g h D.qr D.ks) fun k => D.vs k (gcol g d)
def oW (d : Fin 64) : EReal := soft (setW t) (score t g h D.qr D.kw) fun k => D.vw k (gcol g d)

/-- The three branches under their gates. -/
def o (d : Fin 64) : EReal :=
  Ideal.logistic (D.gate t (tcol g h 0)) * D.oC t g h d + Ideal.logistic (D.gate t (tcol g h 1)) * D.oS t g h d
    + Ideal.logistic (D.gate t (tcol g h 2)) * D.oW t g h d

/-- The same by column. -/
def oCol (c : Fin 512) : EReal :=
  D.o t ⟨c.val / 64 / 4, by omega⟩ ⟨c.val / 64 % 4, by omega⟩ ⟨c.val % 64, by omega⟩

/-- The normalised output; `ε` the normalisation's constant. -/
def out (ε : EReal) (c : Fin 512) : EReal :=
  D.oCol t c * Ideal.rsqrt (Ideal.div (∑ c, D.oCol t c * D.oCol t c) ((512 : ℝ) : EReal) + ε) * D.gain c

end Data
end Cert.Nsa
-- ==== Proof.Base.lean ====
module

public import proofs.«01_k».proof.Proof.Blk
public import proofs.«01_k».proof.Proof.Spec
public import Idealize.ShloMosaic.Lib.Pipeline.ValueKit

/-! Small readings the block's proof rests on: words, columns, constants, and what a block's inputs hold. -/

@[expose] public section

set_option maxRecDepth 16384

noncomputable section

namespace Cert.Nsa

open Idealize.ShloMosaic Idealize.ShloMosaic.TcCoe Finset
open Cert.KernelIdeal Cert.KernelIdeal.Gen

/-! ## Words -/

theorem select_ite {α : Type} (c : BitVec 1) (x y : α) : Scalar.select c x y = if c = 1#1 then x else y := rfl

theorem addi_ofNat (a b : ℕ) : IntOp.addi (BitVec.ofNat 32 a) (BitVec.ofNat 32 b) = BitVec.ofNat 32 (a + b) := by
  show BitVec.ofNat 32 a + BitVec.ofNat 32 b = _
  rw [BitVec.ofNat_add]
theorem muli_ofNat (a b : ℕ) : IntOp.muli (BitVec.ofNat 32 a) (BitVec.ofNat 32 b) = BitVec.ofNat 32 (a * b) := by
  show BitVec.ofNat 32 a * BitVec.ofNat 32 b = _
  rw [BitVec.ofNat_mul]

theorem toInt_small (a : ℕ) (h : a < 2 ^ 31) : (BitVec.ofNat 32 a).toInt = a := by
  rw [BitVec.toInt_ofNat', Int.bmod_eq_of_le] <;> omega

theorem sle_ofNat {a b : ℕ} (ha : a < 2 ^ 31) (hb : b < 2 ^ 31) :
    IntOp.cmpi .sle (BitVec.ofNat 32 a) (BitVec.ofNat 32 b) = 1#1 ↔ a ≤ b := by
  rw [IntOp.cmpi_sle, toInt_small _ ha, toInt_small _ hb]; omega
theorem sgt_ofNat {a b : ℕ} (ha : a < 2 ^ 31) (hb : b < 2 ^ 31) :
    IntOp.cmpi .sgt (BitVec.ofNat 32 a) (BitVec.ofNat 32 b) = 1#1 ↔ b < a := by
  rw [IntOp.cmpi_sgt, toInt_small _ ha, toInt_small _ hb]; omega
theorem slt_ofNat {a b : ℕ} (ha : a < 2 ^ 31) (hb : b < 2 ^ 31) :
    IntOp.cmpi .slt (BitVec.ofNat 32 a) (BitVec.ofNat 32 b) = 1#1 ↔ a < b := by
  rw [IntOp.cmpi_slt, toInt_small _ ha, toInt_small _ hb]; omega
theorem eq_ofNat {a b : ℕ} (ha : a < 2 ^ 31) (hb : b < 2 ^ 31) :
    IntOp.cmpi .eq (BitVec.ofNat 32 a) (BitVec.ofNat 32 b) = 1#1 ↔ a = b := by
  rw [IntOp.cmpi_eq, ← BitVec.toInt_inj, toInt_small _ ha, toInt_small _ hb]; omega

/-- A number made of a condition, compared with zero. -/
theorem gt0_ite (p : Prop) [Decidable p] : IntOp.cmpi .sgt (if p then 1#32 else 0#32) 0#32 = 1#1 ↔ p := by
  by_cases h : p
  · simp only [h, iff_true]; decide
  · simp only [h, iff_false]; decide

/-! ## Columns -/

/-- The query at lane `l` of block `i`. -/
def tq (i : grid0.Coords) (l : Fin 128) : Fin 4096 :=
  ⟨128 * (i 1).val + l.val, by have : (i 1).val < 32 := (i 1).isLt; omega⟩
/-- Lane `l` of head `h` among the four side by side. -/
def hl (h : Fin 4) (l : Fin 128) : Fin 512 := ⟨128 * h.val + l.val, by omega⟩
theorem hl_surj (c : Fin 512) : ∃ h l, c = hl h l := ⟨⟨c.val / 128, by omega⟩, ⟨c.val % 128, by omega⟩, Fin.ext (by simp only [hl]; omega)⟩

theorem tl_apply (i : grid0.Coords) (l : Fin 128) : tl i (ix2 0 l) = BitVec.ofNat 32 (tq i l).val := by
  pointwise [tl]
  have h : Scalar.muli (BitVec.ofNat 32 (i 1).val) 128#32 = BitVec.ofNat 32 ((i 1).val * 128) := muli_ofNat _ 128
  rw [h, addi_ofNat, mul_comm]
  rfl

theorem tile4_apply {α : Type} {n : ℕ} (x : (⟨2, ![n, 128]⟩ : Shape).Idx → α)
    (h : Shape.Concatenates [⟨2, ![n, 128]⟩, ⟨2, ![n, 128]⟩, ⟨2, ![n, 128]⟩, ⟨2, ![n, 128]⟩] ⟨2, ![n, 512]⟩ 1)
    (r : Fin n) (hh : Fin 4) (l : Fin 128) :
    tile4 ⟨2, ![n, 128]⟩ ⟨2, ![n, 512]⟩ 1 x h (ix2 r (hl hh l)) = x (ix2 r l) := by
  refine concatenate_ofFn_apply (s₁ := ⟨2, ![n, 128]⟩) (t := ⟨2, ![n, 512]⟩) 1 (fun _ : Fin 4 => x) h rfl 128 rfl
    (ix2 r (hl hh l)) hh ?_ (ix2 r l) ?_ ?_
  · show (128 * hh.val + l.val) / 128 = hh.val
    omega
  · show l.val = (128 * hh.val + l.val) % 128
    omega
  · intro b hb
    fin_cases b
    · rfl
    · exact absurd rfl hb

/-! ## Constants -/

theorem fill_eq : (fill : Ideal .f32) = (⊥ : EReal) := rfl

theorem bits_bot : Ideal.ofBits FTy.f32 0xFF800000#32 = (⊥ : EReal) := by
  simp [Ideal.ofBits, Ideal.ieee]
theorem bits_tiny : ∃ ε : ℝ, ε ≤ 1 ∧ Ideal.ofBits FTy.f32 0x0DA24260#32 = (ε : EReal) := by
  simp [Ideal.ofBits, Ideal.ieee, -EReal.coe_mul]
  norm_num
theorem bits_force : Ideal.ofBits FTy.f32 0x4E6E6B28#32 = ((1000000000 : ℝ) : EReal) := by
  simp [Ideal.ofBits, Ideal.ieee, -EReal.coe_mul]; norm_num
theorem bits_512 : Ideal.ofBits FTy.f32 0x44000000#32 = ((512 : ℝ) : EReal) := by
  simp [Ideal.ofBits, Ideal.ieee, -EReal.coe_mul]; norm_num

/-- The greatest of a row, as the fold a reduction is. -/
theorem fold_max {n : ℕ} (f : Fin n → EReal) : Finset.fold max ⊥ f univ = univ.sup f := rfl

/-! ## A block's inputs -/

/-- The scores' scale in the base the exponentials are taken in. -/
def κs : ℝ := 1 / 8 / Real.log 2

/-- A block's eleven inputs. -/
structure Blk where
  x0 : FVec Ideal S1x512x128 .bf16
  x1 : FVec Ideal S1x512x128 .bf16
  x2 : FVec Ideal S1x128x128 .f32
  x3 : FVec Ideal S1x256x256 .bf16
  x4 : FVec Ideal S1x128x256 .bf16
  x5 : FVec Ideal S1x4096x128 .bf16
  x6 : FVec Ideal S1x32x128x128 .bf16
  x7 : FVec Ideal S1x4096x128 .bf16
  x8 : FVec Ideal S1x32x128x128 .bf16
  x9 : FVec Ideal S64x256 .bf16
  x10 : FVec Ideal S512x1 .f32

/-- The body's readers on a block. -/
abbrev Blk.rd (B : Blk) : Rd Ideal := rdD B.x0 B.x1 B.x2 B.x3 B.x4 B.x5 B.x6 B.x7 B.x8 B.x9 B.x10

/-- A load of one buffer. -/
abbrev ldF {S : Shape} {φ : FTy} (x : FVec Ideal S φ) (r : Rect S) : FVec Ideal r.shape φ :=
  View.ld (Val := fun _ => Ideal φ) (e' := EltTy.f32) x r

/-! ## Loads -/

theorem cast3 {α : Type} {a b : ℕ} (y : (⟨3, ![1, a, b]⟩ : Shape).Idx → α) (h : (⟨3, ![1, a, b]⟩ : Shape).ShapeCasts ⟨2, ![a, b]⟩)
    (r : Fin a) (c : Fin b) : shapeCast ⟨2, ![a, b]⟩ y h (ix2 r c) = y (ix3 0 r c) :=
  shapeCast_apply y h _ _ (by
    rw [Shape.rowMajor_val_three, Shape.rowMajor_val_two]
    show (0 * a + r.val) * b + c.val = r.val * b + c.val
    rw [Nat.zero_mul, Nat.zero_add])
theorem cast3' {α : Type} {a b : ℕ} (y : (⟨2, ![a, b]⟩ : Shape).Idx → α) (h : (⟨2, ![a, b]⟩ : Shape).ShapeCasts ⟨3, ![1, a, b]⟩)
    (r : Fin a) (c : Fin b) : shapeCast ⟨3, ![1, a, b]⟩ y h (ix3 0 r c) = y (ix2 r c) :=
  shapeCast_apply y h _ _ (by
    rw [Shape.rowMajor_val_three, Shape.rowMajor_val_two]
    show r.val * b + c.val = (0 * a + r.val) * b + c.val
    rw [Nat.zero_mul, Nat.zero_add])
theorem cast4 {α : Type} {a b : ℕ} (y : (⟨4, ![1, 1, a, b]⟩ : Shape).Idx → α) (h : (⟨4, ![1, 1, a, b]⟩ : Shape).ShapeCasts ⟨2, ![a, b]⟩)
    (r : Fin a) (c : Fin b) : shapeCast ⟨2, ![a, b]⟩ y h (ix2 r c) = y (ix4 0 0 r c) :=
  shapeCast_apply y h _ _ (by
    rw [Shape.rowMajor_val_four, Shape.rowMajor_val_two]
    show ((0 * 1 + 0) * a + r.val) * b + c.val = r.val * b + c.val
    simp only [Nat.zero_mul, Nat.zero_add])

/-- A load of a plane's rectangle, as a matrix. -/
theorem load3 {A B a b : ℕ} {φ : FTy} (x : FVec Ideal ⟨3, ![1, A, B]⟩ φ) (off : Fin 3 → ℕ)
    (inb : ∀ k, off k + (⟨3, ![1, a, b]⟩ : Shape).size k ≤ (⟨3, ![1, A, B]⟩ : Shape).size k)
    (h : (⟨3, ![1, a, b]⟩ : Shape).ShapeCasts ⟨2, ![a, b]⟩) (r : Fin a) (c : Fin b) (R : Fin A) (C : Fin B)
    (h0 : off 0 = 0) (h1 : R.val = off 1 + r.val) (h2 : C.val = off 2 + c.val) :
    shapeCast ⟨2, ![a, b]⟩ (ldF x (Rect.unit (s := ⟨3, ![1, A, B]⟩) off (⟨3, ![1, a, b]⟩ : Shape).size inb)) h (ix2 r c) = x (ix3 0 R C) := by
  refine (cast3 (ldF x (Rect.unit (s := ⟨3, ![1, A, B]⟩) off (⟨3, ![1, a, b]⟩ : Shape).size inb)) h r c).trans
    (View.ld_unit_apply_of (Val := fun _ => Ideal φ) (e := EltTy.f32) (S := ⟨3, ![1, A, B]⟩) x off _ inb _ _ fun k => ?_)
  fin_cases k
  · show 0 = off 0 + 0
    omega
  · exact h1
  · exact h2
/-- The same out of a stack of planes. -/
theorem load4 {N A B a b : ℕ} {φ : FTy} (x : FVec Ideal ⟨4, ![1, N, A, B]⟩ φ) (off : Fin 4 → ℕ)
    (inb : ∀ k, off k + (⟨4, ![1, 1, a, b]⟩ : Shape).size k ≤ (⟨4, ![1, N, A, B]⟩ : Shape).size k)
    (h : (⟨4, ![1, 1, a, b]⟩ : Shape).ShapeCasts ⟨2, ![a, b]⟩) (r : Fin a) (c : Fin b) (n : Fin N) (R : Fin A) (C : Fin B)
    (h0 : off 0 = 0) (hn : n.val = off 1) (h1 : R.val = off 2 + r.val) (h2 : C.val = off 3 + c.val) :
    shapeCast ⟨2, ![a, b]⟩ (ldF x (Rect.unit (s := ⟨4, ![1, N, A, B]⟩) off (⟨4, ![1, 1, a, b]⟩ : Shape).size inb)) h (ix2 r c) = x (ix4 0 n R C) := by
  refine (cast4 (ldF x (Rect.unit (s := ⟨4, ![1, N, A, B]⟩) off (⟨4, ![1, 1, a, b]⟩ : Shape).size inb)) h r c).trans
    (View.ld_unit_apply_of (Val := fun _ => Ideal φ) (e := EltTy.f32) (S := ⟨4, ![1, N, A, B]⟩) x off _ inb _ _ fun k => ?_)
  fin_cases k
  · show 0 = off 0 + 0
    omega
  · show n.val = off 1 + 0
    omega
  · exact h1
  · exact h2

/-- The block's inputs are those of the sequence `D`. -/
structure Inp (D : Data) (i : grid0.Coords) (B : Blk) : Prop where
  q : ∀ c l, B.x0 (ix3 0 c l) = ((D.q (tq i l) c * κs : ℝ) : EReal)
  qr : ∀ c l, B.x1 (ix3 0 c l) = ((D.qr (tq i l) c * κs : ℝ) : EReal)
  gate : ∀ (r : Fin 24) l, B.x2 (ix3 0 ⟨36 + r.val, by omega⟩ l) = D.gate (tq i l) r
  kc : ∀ (n : Fin 255) (c : Fin 128), B.x3 (ix3 0 n.castSucc ⟨c.val, by omega⟩) = ((D.kc n c : ℝ) : EReal)
  vc : ∀ (c : Fin 128) (n : Fin 255), B.x4 (ix3 0 c n.castSucc) = D.vc n c
  ks : ∀ k c, B.x5 (ix3 0 k c) = ((D.ks k c : ℝ) : EReal)
  vs : ∀ (a : Fin 32) (c b : Fin 128), B.x6 (ix4 0 a c b) = D.vs ⟨128 * a.val + b.val, by omega⟩ c
  kw : ∀ k c, B.x7 (ix3 0 k c) = ((D.kw k c : ℝ) : EReal)
  vw : ∀ (a : Fin 32) (c b : Fin 128), B.x8 (ix4 0 a c b) = D.vw ⟨128 * a.val + b.val, by omega⟩ c
  ov : ∀ (m : Fin 64) (n : Fin 255), B.x9 (ix2 m n.castSucc) = ((Data.ovl n m : ℝ) : EReal)
  gain : ∀ c, B.x10 (ix2 c 0) = D.gain c

/-- A product of a row of keys with a column of scaled queries is the score in the exponentials' base. -/
theorem dot_score {n : ℕ} (t : Fin 4096) (g : Fin 2) (h : Fin 4) (q : Fin 4096 → Fin 512 → ℝ) (k : Fin n → Fin 128 → ℝ) (j : Fin n) :
    (∑ d : Fin 64, ((k j (gcol g d) : ℝ) : EReal) * ((q t (hcol g h d) * κs : ℝ) : EReal))
      = ((Data.score t g h q k j / Real.log 2 : ℝ) : EReal) := by
  simp only [← EReal.coe_mul, ← coe_sum]
  congr 1
  simp only [Data.score, κs, Finset.sum_mul, Finset.sum_div]
  exact Finset.sum_congr rfl fun d _ => by ring

end Cert.Nsa
-- ==== Proof.Comp.lean ====
module

public import proofs.«01_k».proof.Proof.Base

/-! The compressed branch of a block: its probabilities, its output, and the importance of the selection blocks. -/

@[expose] public section

set_option maxRecDepth 16384

noncomputable section

namespace Cert.Nsa

open Idealize.ShloMosaic Idealize.ShloMosaic.TcCoe Finset
open Cert.KernelIdeal Cert.KernelIdeal.Gen

variable {D : Data} {i : grid0.Coords} {B : Blk}

theorem heads_apply (x : FVec Ideal S1x512x128 .bf16) (g : Fin 2) (d : Fin 64) (h : Fin 4) (l : Fin 128) :
    heads (fun r => ldF x r) g (ix2 d (hl h l)) = x (ix3 0 (hcol g h d) l) := by
  unfold heads
  refine (concatenate_ofFn_apply (s₁ := S64x128) (t := S64x512) 1 (fun h : Fin 4 => shapeCast S64x128
    (ldF x (Rect.unit (s := S1x512x128) ![0, 64 * (4 * g.val + h.val), 0] S1x64x128.size (inbH g h))) shapeCasts_S1x64x128_S64x128)
    concatenates_S64x128_S64x128_S64x128_S64x128_S64x512_d1 rfl 128 rfl (ix2 d (hl h l)) h ?_ (ix2 d l) ?_ ?_).trans ?_
  · show (128 * h.val + l.val) / 128 = h.val
    omega
  · show l.val = (128 * h.val + l.val) % 128
    omega
  · intro b hb
    fin_cases b
    · rfl
    · exact absurd rfl hb
  · exact load3 x _ (inbH g h) _ d l (hcol g h d) l rfl rfl (Nat.zero_add _).symm

theorem vis_iff (n : Fin 256) (h : Fin 4) (l : Fin 128) : vis i (ix2 n (hl h l)) = 1#1 ↔ 16 * n.val + 31 ≤ (tq i l).val := by
  have hq : (tq i l).val < 4096 := (tq i l).isLt
  unfold vis
  rw [cmpi_apply, tile4_apply]
  pointwise
  rw [tl_apply, muli_ofNat _ 16, addi_ofNat _ 31]
  simp only [select_ite, sle_ofNat (show n.val * 16 + 31 < 2 ^ 31 by omega) (show (tq i l).val < 2 ^ 31 by omega)]
  rw [gt0_ite, mul_comm]

/-- The compressed keys a query sees, among the padded ones. -/
def setC' (t : Fin 4096) : Finset (Fin 256) := (Data.setC t).image Fin.castSucc

theorem mem_setC' {t : Fin 4096} {n : Fin 256} : n ∈ setC' t ↔ 16 * n.val + 31 ≤ t.val := by
  simp only [setC', Data.setC, mem_image, mem_filter, mem_univ, true_and]
  constructor
  · rintro ⟨k, hk, rfl⟩; exact hk
  · intro hn
    exact ⟨⟨n.val, by omega⟩, hn, rfl⟩

/-- The compressed scores, over the padded keys. -/
def sC' (D : Data) (t : Fin 4096) (g : Fin 2) (h : Fin 4) (n : Fin 256) : ℝ :=
  if hn : n.val < 255 then Data.score t g h D.q D.kc ⟨n.val, hn⟩ else 0

theorem ite_word {α : Type} {c : BitVec 1} {p : Prop} [Decidable p] (h : c = 1#1 ↔ p) (x y : α) : (if c = 1#1 then x else y) = if p then x else y := by
  simp only [h]

theorem scM_masked (H : Inp D i B) (g : Fin 2) (h : Fin 4) (l : Fin 128) :
    Masked (setC' (tq i l)) (fun n => sC' D (tq i l) g h n / Real.log 2) (fun n => scM B.rd i g (ix2 n (hl h l))) := by
  intro n
  show scM B.rd i g (ix2 n (hl h l)) = _
  unfold scM
  change Scalar.select (vis i (ix2 n (hl h l))) _ _ = _
  rw [select_ite, ite_word ((vis_iff n h l).trans mem_setC'.symm)]
  split
  next hn =>
    have hn' := mem_setC'.1 hn
    have hb : n.val < 255 := by have := (tq i l).isLt; omega
    have hcm : ∀ d : Fin 64, shapeCast S256x64 (ldF B.x3 (Rect.unit (s := S1x256x256) ![0, 0, 64 * g.val] S1x256x64.size (inbC g)))
        shapeCasts_S1x256x64_S256x64 (ix2 n d) = ((D.kc ⟨n.val, hb⟩ (gcol g d) : ℝ) : EReal) := by
      intro d
      exact (load3 B.x3 _ (inbC g) _ n d n ⟨(gcol g d).val, by omega⟩ rfl (Nat.zero_add _).symm rfl).trans (H.kc ⟨n.val, hb⟩ (gcol g d))
    have hh : ∀ d : Fin 64, heads B.rd.q g (ix2 d (hl h l)) = ((D.q (tq i l) (hcol g h d) * κs : ℝ) : EReal) := fun d =>
      (heads_apply B.x0 g d h l).trans (H.q _ _)
    change matmul _ none (shapeCast S256x64 (ldF B.x3 _) _) _ _ _ = _
    generalize shapeCast S256x64 (ldF B.x3 (Rect.unit (s := S1x256x256) ![0, 0, 64 * g.val] S1x256x64.size (inbC g)))
        shapeCasts_S1x256x64_S256x64 = A at hcm ⊢
    generalize heads B.rd.q g = Q at hh ⊢
    pointwise
    simp only [hcm, hh, dot_score, sC', dif_pos hb]
  next hn => exact fill_eq

theorem ecM_eq (B : Blk) (g : Fin 2) (h : Fin 4) (l : Fin 128) (n : Fin 256) :
    ecM B.rd i g (ix2 n (hl h l)) = if n ∈ setC' (tq i l) then
      Ideal.exp2 (scM B.rd i g (ix2 n (hl h l)) - univ.sup (fun n => scM B.rd i g (ix2 n (hl h l)))) else 0 := by
  pointwise [ecM]
  rw [select_ite, ite_word ((vis_iff n h l).trans mem_setC'.symm)]
  rw [bits_bot]
  rfl

theorem wt_image {ι κ : Type} [DecidableEq ι] [DecidableEq κ] {N : Finset κ} {e : κ → ι} (he : Set.InjOn e N) (s : ι → ℝ) (k : κ) :
    wt (N.image e) s (e k) = wt N (fun k => s (e k)) k := by
  simp only [wt]
  rw [sum_image he]

theorem pcM_eq (H : Inp D i B) (g : Fin 2) (h : Fin 4) (l : Fin 128) (n : Fin 256) :
    pcM B.rd i g (ix2 n (hl h l)) = if n ∈ setC' (tq i l) then ((wt (setC' (tq i l)) (sC' D (tq i l) g h) n : ℝ) : EReal) else 0 := by
  obtain ⟨ε, hε, hb⟩ := bits_tiny
  pointwise [pcM]
  rw [hb]
  exact softmax2_masked (fun _ => rfl) (scM_masked H g h l) (fun n => ecM B.rd i g (ix2 n (hl h l))) (fun n => ecM_eq B g h l n) ε hε n

theorem pcM_castSucc (H : Inp D i B) (g : Fin 2) (h : Fin 4) (l : Fin 128) (n : Fin 255) :
    pcM B.rd i g (ix2 n.castSucc (hl h l)) = ((D.pC (tq i l) g h n : ℝ) : EReal) := by
  rw [pcM_eq H]
  have hs : (fun k : Fin 255 => sC' D (tq i l) g h k.castSucc) = Data.score (tq i l) g h D.q D.kc := by
    funext k; exact dif_pos k.isLt
  have hm : n.castSucc ∈ setC' (tq i l) ↔ n ∈ Data.setC (tq i l) := by
    rw [mem_setC']; simp [Data.setC]
  simp only [hm, Data.pC]
  split
  · rw [setC', wt_image (Fin.castSucc_injective _).injOn, hs]
  · rfl

theorem pcM_last (H : Inp D i B) (g : Fin 2) (h : Fin 4) (l : Fin 128) :
    pcM B.rd i g (ix2 (Fin.last 255) (hl h l)) = 0 := by
  rw [pcM_eq H, if_neg]
  rw [mem_setC']
  have := (tq i l).isLt
  show ¬16 * 255 + 31 ≤ _
  omega

theorem ocM_eq (H : Inp D i B) (g : Fin 2) (h : Fin 4) (l : Fin 128) (d : Fin 64) :
    ocM B.rd i g (ix2 d (hl h l)) = D.oC (tq i l) g h d := by
  have hv : ∀ n : Fin 255, shapeCast S64x256 (ldF B.x4 (Rect.unit (s := S1x128x256) ![0, 64 * g.val, 0] S1x64x256.size (inbV g)))
      shapeCasts_S1x64x256_S64x256 (ix2 d n.castSucc) = D.vc n (gcol g d) := by
    intro n
    exact (load3 B.x4 _ (inbV g) _ d n.castSucc (gcol g d) n.castSucc rfl rfl (Nat.zero_add _).symm).trans (H.vc (gcol g d) n)
  unfold ocM
  change matmul _ none (shapeCast S64x256 (ldF B.x4 _) _) _ _ _ = _
  generalize shapeCast S64x256 (ldF B.x4 (Rect.unit (s := S1x128x256) ![0, 64 * g.val, 0] S1x64x256.size (inbV g)))
      shapeCasts_S1x64x256_S64x256 = A at hv ⊢
  pointwise
  rw [Fin.sum_univ_castSucc, pcM_last H, mul_zero, add_zero]
  simp only [hv, pcM_castSucc H]
  refine sum_eq_soft _ _ _ _ fun n => ?_
  simp only [Data.pC]
  split <;> rfl

/-- A real number less itself is nothing. -/
theorem coe_sub_self (a : ℝ) : (a : EReal) - (a : EReal) = 0 := by
  rw [← EReal.coe_sub, sub_self]; rfl

theorem irM_eq (H : Inp D i B) (g : Fin 2) (l : Fin 128) (m : Fin 64) :
    irM B.rd i g (ix2 m l) = ((∑ n, (∑ h, D.pC (tq i l) g h n) * Data.ovl n m : ℝ) : EReal) := by
  have hx : ∀ n : Fin 256, ovM B.rd (ix2 m n) = B.x9 (ix2 m n) := by
    intro n
    unfold ovM
    exact congrFun (View.ld_unit_lit (Val := Elt Ideal) (e := EltTy.bf16) (S := S64x256) _ B.x9 (by decide)) _
  have hp : ∀ n : Fin 256, psM B.rd i g (ix2 n l) = pcM B.rd i g (ix2 n (hl 0 l)) + pcM B.rd i g (ix2 n (hl 1 l))
      + pcM B.rd i g (ix2 n (hl 2 l)) + pcM B.rd i g (ix2 n (hl 3 l)) := by
    intro n
    have e0 : hl 0 l = ⟨l.val, by omega⟩ := Fin.ext (by simp [hl])
    rw [e0]
    pointwise [psM]
    rfl
  have hp1 : ∀ n : Fin 255, psM B.rd i g (ix2 n.castSucc l) = ((∑ h, D.pC (tq i l) g h n : ℝ) : EReal) := by
    intro n
    rw [hp]
    simp only [pcM_castSucc H, ← EReal.coe_add, Fin.sum_univ_four]
  have hp2 : psM B.rd i g (ix2 (Fin.last 255) l) = 0 := by
    rw [hp]
    simp only [pcM_last H, add_zero]
  unfold irM
  generalize psM B.rd i g = P at hp1 hp2 ⊢
  generalize ovM B.rd = O at hx ⊢
  pointwise
  have hz : ∀ n : Fin 256, P (ix2 n l) - P (ix2 n l) = 0 := by
    intro n
    induction n using Fin.lastCases with
    | last => rw [hp2]; exact coe_sub_self 0
    | cast n => rw [hp1]; exact coe_sub_self _
  simp only [hz, mul_zero, sum_const_zero, add_zero]
  rw [Fin.sum_univ_castSucc, hp2, mul_zero, add_zero, coe_sum]
  refine Finset.sum_congr rfl fun n _ => ?_
  rw [hx, H.ov, hp1]
  rw [← EReal.coe_mul, mul_comm]

end Cert.Nsa
-- ==== Proof.Planes.lean ====
module

public import proofs.«01_k».proof.Proof.Comp

/-! Reading a scratch of two planes back out of the list of its stores. -/

@[expose] public section

set_option maxRecDepth 16384

noncomputable section

namespace Cert.Nsa

open Idealize.ShloMosaic Idealize.ShloMosaic.TcCoe Finset

/-- The newest store filled plane `g'`. -/
theorem canon_plane {a b : ℕ} (off : Fin 3 → ℕ)
    (inb : ∀ k, off k + (⟨3, ![1, a, b]⟩ : Shape).size k ≤ (⟨3, ![2, a, b]⟩ : Shape).size k)
    (w : (⟨3, ![1, a, b]⟩ : Shape).Idx → Elt Ideal .f32) (L : List (View.Piece (Elt Ideal) ⟨3, ![2, a, b]⟩ .f32))
    (g' : Fin 2) (h0 : off 0 = g'.val) (h1 : off 1 = 0) (h2 : off 2 = 0) (g : Fin 2) (r : Fin a) (c : Fin b) :
    View.canon ((⟨Rect.unit (s := ⟨3, ![2, a, b]⟩) off (⟨3, ![1, a, b]⟩ : Shape).size inb, w⟩ :
        View.Piece (Elt Ideal) ⟨3, ![2, a, b]⟩ .f32) :: L) (ix3 g r c)
      = if g = g' then w (ix3 0 r c) else View.canon L (ix3 g r c) := by
  by_cases h : g = g'
  · rw [if_pos h]
    have e : (Rect.unit (s := ⟨3, ![2, a, b]⟩) off (⟨3, ![1, a, b]⟩ : Shape).size inb).emb (ix3 0 r c) = ix3 g r c := by
      refine Rect.emb_eq_of_coords _ _ _ ?_
      intro k
      fin_cases k
      · show g.val = off 0 + 1 * 0
        rw [h0, h, Nat.mul_zero, Nat.add_zero]
      · show r.val = off 1 + 1 * r.val
        omega
      · show c.val = off 2 + 1 * c.val
        omega
    rw [← e]
    exact View.canon_cons_emb (Val := Elt Ideal) (Rect.unit (s := ⟨3, ![2, a, b]⟩) off (⟨3, ![1, a, b]⟩ : Shape).size inb) w L (ix3 0 r c)
  · rw [if_neg h]
    refine View.canon_cons_of_not_mem (Val := Elt Ideal) ⟨Rect.unit (s := ⟨3, ![2, a, b]⟩) off (⟨3, ![1, a, b]⟩ : Shape).size inb, w⟩ L ?_
    refine Rect.not_mem_set_of_axis (Rect.unit (s := ⟨3, ![2, a, b]⟩) off (⟨3, ![1, a, b]⟩ : Shape).size inb) _ (0 : Fin 3) g'.val 1 h0 rfl rfl ?_
    have : g.val ≠ g'.val := fun e => h (Fin.ext e)
    show g.val < g'.val ∨ g'.val + 1 ≤ g.val
    omega

/-- A load of rows of one plane. -/
theorem canon_load {A b a : ℕ} (L : List (View.Piece (Elt Ideal) ⟨3, ![2, A, b]⟩ .f32)) (off : Fin 3 → ℕ)
    (inb : ∀ k, off k + (⟨3, ![1, a, b]⟩ : Shape).size k ≤ (⟨3, ![2, A, b]⟩ : Shape).size k)
    (h : (⟨3, ![1, a, b]⟩ : Shape).ShapeCasts ⟨2, ![a, b]⟩) (r : Fin a) (c : Fin b) (g : Fin 2) (R : Fin A)
    (h0 : off 0 = g.val) (h1 : R.val = off 1 + r.val) (h2 : off 2 = 0) :
    shapeCast ⟨2, ![a, b]⟩ (fun j : (⟨3, ![1, a, b]⟩ : Shape).Idx => (View.canon L
      ((Rect.unit (s := ⟨3, ![2, A, b]⟩) off (⟨3, ![1, a, b]⟩ : Shape).size inb).toLoadRect.idx j) : Elt Ideal .f32)) h (ix2 r c)
      = View.canon L (ix3 g R c) := by
  refine (cast3 _ h r c).trans (congrArg (View.canon L) ?_)
  refine funext fun k => Fin.ext ?_
  fin_cases k
  · show off 0 + 1 * 0 = g.val
    omega
  · show off 1 + 1 * r.val = R.val
    omega
  · show off 2 + 1 * c.val = c.val
    omega

theorem rd_sel (B : Blk) (L r) : B.rd.sel L r = fun j => (View.canon L (r.toLoadRect.idx j) : Elt Ideal .f32) := rfl
theorem rd_m (B : Blk) (L r) : B.rd.m L r = fun j => (View.canon L (r.toLoadRect.idx j) : Elt Ideal .f32) := rfl
theorem rd_acc (B : Blk) (L r) : B.rd.acc L r = fun j => (View.canon L (r.toLoadRect.idx j) : Elt Ideal .f32) := rfl
theorem rd_win (B : Blk) (L r) : B.rd.win L r = fun j => (View.canon L (r.toLoadRect.idx j) : Elt Ideal .f32) := rfl

/-- The first store filled both planes. -/
theorem canon_both {a b : ℕ} (off : Fin 3 → ℕ)
    (inb : ∀ k, off k + (⟨3, ![2, a, b]⟩ : Shape).size k ≤ (⟨3, ![2, a, b]⟩ : Shape).size k)
    (w : (⟨3, ![2, a, b]⟩ : Shape).Idx → Elt Ideal .f32) (L : List (View.Piece (Elt Ideal) ⟨3, ![2, a, b]⟩ .f32)) (h : ∀ k, off k = 0)
    (y : (⟨3, ![2, a, b]⟩ : Shape).Idx) :
    View.canon ((⟨Rect.unit (s := ⟨3, ![2, a, b]⟩) off (⟨3, ![2, a, b]⟩ : Shape).size inb, w⟩ :
        View.Piece (Elt Ideal) ⟨3, ![2, a, b]⟩ .f32) :: L) y = w y :=
  congrFun (View.canon_cons_unit_lit (S := ⟨3, ![2, a, b]⟩) inb w L h) y

/-! ## Parts side by side -/

/-- Parts one under the other. -/
theorem vcat {α : Type} {n p a b : ℕ} (f : Fin p → (⟨2, ![a, b]⟩ : Shape).Idx → α)
    (h : Shape.Concatenates ((List.ofFn fun v => (⟨⟨2, ![a, b]⟩, f v⟩ : (s : Shape) × (s.Idx → α))).map (·.1)) ⟨2, ![n, b]⟩ 0)
    (r : Fin n) (c : Fin b) (v : Fin p) (s : Fin a) (hr : r.val = a * v.val + s.val) :
    concatenate ⟨2, ![n, b]⟩ 0 (List.ofFn fun v => (⟨⟨2, ![a, b]⟩, f v⟩ : (s : Shape) × (s.Idx → α))) h (ix2 r c) = f v (ix2 s c) := by
  have ha : 0 < a := lt_of_le_of_lt (Nat.zero_le _) s.isLt
  refine concatenate_ofFn_apply (s₁ := ⟨2, ![a, b]⟩) (t := ⟨2, ![n, b]⟩) 0 f h rfl a rfl (ix2 r c) v ?_ (ix2 s c) ?_ ?_
  · show r.val / a = v.val
    rw [hr, Nat.mul_add_div ha, Nat.div_eq_of_lt s.isLt, Nat.add_zero]
  · show s.val = r.val % a
    rw [hr, Nat.mul_add_mod, Nat.mod_eq_of_lt s.isLt]
  · intro k hk
    fin_cases k
    · exact absurd rfl hk
    · rfl

/-- Parts side by side. -/
theorem hcat {α : Type} {n p a b : ℕ} (f : Fin p → (⟨2, ![a, b]⟩ : Shape).Idx → α)
    (h : Shape.Concatenates ((List.ofFn fun v => (⟨⟨2, ![a, b]⟩, f v⟩ : (s : Shape) × (s.Idx → α))).map (·.1)) ⟨2, ![a, n]⟩ 1)
    (r : Fin a) (c : Fin n) (v : Fin p) (s : Fin b) (hr : c.val = b * v.val + s.val) :
    concatenate ⟨2, ![a, n]⟩ 1 (List.ofFn fun v => (⟨⟨2, ![a, b]⟩, f v⟩ : (s : Shape) × (s.Idx → α))) h (ix2 r c) = f v (ix2 r s) := by
  have hb : 0 < b := lt_of_le_of_lt (Nat.zero_le _) s.isLt
  refine concatenate_ofFn_apply (s₁ := ⟨2, ![a, b]⟩) (t := ⟨2, ![a, n]⟩) 1 f h rfl b rfl (ix2 r c) v ?_ (ix2 r s) ?_ ?_
  · show c.val / b = v.val
    rw [hr, Nat.mul_add_div hb, Nat.div_eq_of_lt s.isLt, Nat.add_zero]
  · show s.val = c.val % b
    rw [hr, Nat.mul_add_mod, Nat.mod_eq_of_lt s.isLt]
  · intro k hk
    fin_cases k
    · rfl
    · exact absurd rfl hk

/-- A matrix over another: a row of the upper, -/
theorem vcat2_fst {α : Type} {n a a' b : ℕ} (x : (⟨2, ![a, b]⟩ : Shape).Idx → α) (y : (⟨2, ![a', b]⟩ : Shape).Idx → α)
    (h : Shape.Concatenates [⟨2, ![a, b]⟩, ⟨2, ![a', b]⟩] ⟨2, ![n, b]⟩ 0) (r : Fin n) (c : Fin b) (s : Fin a) (hr : r.val = s.val) :
    concatenate ⟨2, ![n, b]⟩ 0 [⟨⟨2, ![a, b]⟩, x⟩, ⟨⟨2, ![a', b]⟩, y⟩] h (ix2 r c) = x (ix2 s c) := by
  refine concatenate_pair_apply_left (t := ⟨2, ![n, b]⟩) (s₁ := ⟨2, ![a, b]⟩) (s₂ := ⟨2, ![a', b]⟩) 0 x y h (ix2 r c) rfl (ix2 s c) ?_
  intro k
  fin_cases k
  · exact hr.symm
  · rfl
/-- and of the lower. -/
theorem vcat2_snd {α : Type} {n a a' b : ℕ} (x : (⟨2, ![a, b]⟩ : Shape).Idx → α) (y : (⟨2, ![a', b]⟩ : Shape).Idx → α)
    (h : Shape.Concatenates [⟨2, ![a, b]⟩, ⟨2, ![a', b]⟩] ⟨2, ![n, b]⟩ 0) (r : Fin n) (c : Fin b) (s : Fin a') (hr : r.val = a + s.val) :
    concatenate ⟨2, ![n, b]⟩ 0 [⟨⟨2, ![a, b]⟩, x⟩, ⟨⟨2, ![a', b]⟩, y⟩] h (ix2 r c) = y (ix2 s c) := by
  refine concatenate_pair_apply_right (t := ⟨2, ![n, b]⟩) (s₁ := ⟨2, ![a, b]⟩) (s₂ := ⟨2, ![a', b]⟩) 0 x y h (ix2 r c) rfl rfl (ix2 s c) ?_ ?_
  · intro k hk
    fin_cases k
    · exact absurd rfl hk
    · rfl
  · show s.val + a = r.val
    omega

end Cert.Nsa
-- ==== Proof.Pick.lean ====
module

public import proofs.«01_k».proof.Proof.Planes

/-! The selection of a block: which blocks of keys its queries take. -/

@[expose] public section

set_option maxRecDepth 16384

noncomputable section

namespace Cert.Nsa

open Idealize.ShloMosaic Idealize.ShloMosaic.TcCoe Finset
open Cert.KernelIdeal Cert.KernelIdeal.Gen

variable {D : Data} {i : grid0.Coords} {B : Blk}

theorem floor64 : ∀ t : Fin 4096, Scalar.select
      (IntOp.andi
        (IntOp.cmpi CmpIPredicate.ne
          (IntOp.subi (BitVec.setWidth 32 (IntOp.cmpi CmpIPredicate.sgt (BitVec.ofNat 32 t.val) 0#32))
            (BitVec.setWidth 32 (IntOp.cmpi CmpIPredicate.slt (BitVec.ofNat 32 t.val) 0#32)))
          1#32)
        (IntOp.cmpi CmpIPredicate.ne (IntOp.remsi ArithUnit.vector (BitVec.ofNat 32 t.val) 64#32) 0#32))
      (IntOp.subi (IntOp.divsi ArithUnit.vector (BitVec.ofNat 32 t.val) 64#32) 1#32)
      (IntOp.divsi ArithUnit.vector (BitVec.ofNat 32 t.val) 64#32) = BitVec.ofNat 32 (t.val / 64) := by
  decide +kernel

theorem curM_apply (i : grid0.Coords) (l : Fin 128) : curM i (ix2 0 l) = BitVec.ofNat 32 ((tq i l).val / 64) := by
  pointwise [curM]
  rw [tl_apply]
  exact floor64 (tq i l)

theorem forced_word : ∀ (m c : Fin 64), IntOp.cmpi CmpIPredicate.sgt
          (Scalar.select (IntOp.cmpi CmpIPredicate.eq (BitVec.ofNat 32 m.val) 0#32) (1#32)
            (Scalar.select (IntOp.cmpi CmpIPredicate.eq (BitVec.ofNat 32 m.val) (BitVec.ofNat 32 c.val)) (1#32)
              (Scalar.select (IntOp.cmpi CmpIPredicate.eq (BitVec.ofNat 32 m.val) (IntOp.subi (BitVec.ofNat 32 c.val) 1#32))
                1#32 0#32)))
          0#32 = 1#1 ↔ (m.val = 0 ∨ m.val = c.val ∨ m.val + 1 = c.val) := by
  decide +kernel

theorem impM_eq (H : Inp D i B) (g : Fin 2) (l : Fin 128) (m : Fin 64) : impM B.rd i g (ix2 m l) = D.imp (tq i l) g m := by
  have hq : (tq i l).val < 4096 := (tq i l).isLt
  pointwise [impM, forcedM, iotaB]
  rw [curM_apply, tl_apply, muli_ofNat _ 64, irM_eq H, bits_force, bits_bot]
  rw [select_ite, ite_word (sle_ofNat (show m.val * 64 < 2 ^ 31 by omega) (show (tq i l).val < 2 ^ 31 by omega)),
    select_ite (IntOp.cmpi CmpIPredicate.sgt _ _), ite_word (forced_word m ⟨(tq i l).val / 64, by omega⟩)]
  unfold Data.imp
  rw [mul_comm]

/-- The row of tile `v`. -/
def vrow (v r : Fin 8) : Fin 64 := ⟨8 * v.val + r.val, by omega⟩

theorem beatsM_eq (x : FVec Ideal S64x128 .f32) (v : Fin 8) (p : ℕ) (h : p < 64) (r : Fin 8) (l : Fin 128) :
    beatsM x v p h (ix2 r l) = if Beats (fun q => x (ix2 q l)) ⟨p, h⟩ (vrow v r) then 1#32 else 0#32 := by
  have hf : ∀ a b : ℕ, ¬ a < b → Nat.blt a b = false := fun a b h => by
    rw [Bool.eq_false_iff, ne_eq, Nat.blt_eq]
    exact h
  unfold beatsM
  rcases lt_trichotomy (p / 8) v.val with h1 | h1 | h1
  · rw [show Nat.blt (p / 8) v.val = true by rw [Nat.blt_eq]; exact h1]
    simp only [cond_true]
    pointwise [iotaB, oR, zR]
    congr 1
    simp only [Beats, vrow, Fin.lt_def, eq_iff_iff]
    have : p < 8 * v.val + r.val := by omega
    simp only [this, and_true]
    rw [le_iff_lt_or_eq, @eq_comm _ (x (ix2 ⟨p, h⟩ l))]
  · rw [hf _ _ (by omega), hf _ _ (by omega)]
    simp only [cond_false]
    pointwise [iotaB, oR, zR]
    have hs := sgt_ofNat (show 8 * v.val + r.val < 2 ^ 31 by omega) (show p < 2 ^ 31 by omega)
    generalize IntOp.cmpi CmpIPredicate.sgt (BitVec.ofNat 32 (8 * v.val + r.val)) (BitVec.ofNat 32 p) = b at hs ⊢
    have hB : Beats (fun q => x (ix2 q l)) ⟨p, h⟩ (vrow v r) ↔ (x (ix2 (vrow v r) l) < x (ix2 ⟨p, h⟩ l) ∨
        (x (ix2 ⟨p, h⟩ l) = x (ix2 (vrow v r) l) ∧ b = 1#1)) := by
      rw [hs]; rfl
    by_cases h2 : x (ix2 (vrow v r) l) < x (ix2 ⟨p, h⟩ l)
    · exact (if_pos h2).trans (if_pos (hB.2 (Or.inl h2))).symm
    · refine (if_neg h2).trans ?_
      by_cases h3 : x (ix2 ⟨p, h⟩ l) = x (ix2 (vrow v r) l)
      · refine (if_pos h3).trans ?_
        by_cases h4 : b = 1#1
        · exact (if_pos h4).trans (if_pos (hB.2 (Or.inr ⟨h3, h4⟩))).symm
        · exact (if_neg h4).trans (if_neg fun h5 => (hB.1 h5).elim h2 fun h6 => h4 h6.2).symm
      · exact (if_neg h3).trans (if_neg fun h5 => (hB.1 h5).elim h2 fun h6 => h3 h6.1).symm
  · rw [hf _ _ (by omega), show Nat.blt v.val (p / 8) = true by rw [Nat.blt_eq]; exact h1]
    simp only [cond_false, cond_true]
    pointwise [iotaB, oR, zR]
    congr 1
    simp only [Beats, vrow, Fin.lt_def, eq_iff_iff]
    have : ¬ p < 8 * v.val + r.val := by omega
    simp only [this, and_false, or_false]

theorem rankM_eq (x : FVec Ideal S64x128 .f32) (v : Fin 8) (r : Fin 8) (l : Fin 128) (n : ℕ) (h : n ≤ 64) :
    rankM x v n h (ix2 r l) = BitVec.ofNat 32 #{p : Fin 64 | p.val < n ∧ Beats (fun q => x (ix2 q l)) p (vrow v r)} := by
  induction n with
  | zero =>
    pointwise [rankM, zR]
    simp
  | succ n ih =>
    pointwise [rankM]
    rw [ih (by omega), beatsM_eq]
    have hs : ({p : Fin 64 | p.val < n + 1 ∧ Beats (fun q => x (ix2 q l)) p (vrow v r)} : Finset (Fin 64))
        = ({p : Fin 64 | p.val < n ∧ Beats (fun q => x (ix2 q l)) p (vrow v r)} : Finset (Fin 64))
          ∪ (if Beats (fun q => x (ix2 q l)) ⟨n, h⟩ (vrow v r) then {⟨n, h⟩} else ∅) := by
      ext p
      simp only [mem_filter, mem_univ, true_and, mem_union]
      have hp : p.val < n + 1 ↔ p.val < n ∨ p = ⟨n, h⟩ := by rw [Fin.ext_iff]; show _ ↔ _ ∨ p.val = n; omega
      rw [hp]
      split
      next hb =>
        rw [mem_singleton]
        constructor
        · rintro ⟨h1 | h1, h2⟩
          · exact Or.inl ⟨h1, h2⟩
          · exact Or.inr h1
        · rintro (⟨h1, h2⟩ | h1)
          · exact ⟨Or.inl h1, h2⟩
          · exact ⟨Or.inr h1, h1 ▸ hb⟩
      next hb =>
        constructor
        · rintro ⟨h1 | h1, h2⟩
          · exact Or.inl ⟨h1, h2⟩
          · exact absurd (h1 ▸ h2) hb
        · rintro (⟨h1, h2⟩ | h1)
          · exact ⟨Or.inl h1, h2⟩
          · exact absurd h1 (notMem_empty _)
    rw [hs]
    split
    · rw [card_union_of_disjoint, card_singleton]
      · exact addi_ofNat _ 1
      · rw [disjoint_singleton_right, mem_filter]
        rintro ⟨-, h1, -⟩
        exact absurd h1 (lt_irrefl _)
    · rw [union_empty]
      exact (addi_ofNat _ 0).trans rfl

/-- The selection's bias: nothing where a block is taken. -/
theorem selM_eq (x : FVec Ideal S64x128 .f32) (m : Fin 64) (l : Fin 128) :
    selM x (ix2 m l) = if m ∈ sel (fun q => x (ix2 q l)) 16 then (0 : EReal) else ⊥ := by
  have hc : concatenate S64x128 0 (List.ofFn fun v : Fin 8 => (⟨S8x128, rankM x v 64 le_rfl⟩ : (s : Shape) × (s.Idx → BitVec 32)))
      concatenates_S8x128_S8x128_S8x128_S8x128_S8x128_S8x128_S8x128_S8x128_S64x128_d0 (ix2 m l)
      = BitVec.ofNat 32 (rank (fun q => x (ix2 q l)) m) := by
    refine (concatenate_ofFn_apply (s₁ := S8x128) (t := S64x128) 0 (fun v : Fin 8 => rankM x v 64 le_rfl)
      concatenates_S8x128_S8x128_S8x128_S8x128_S8x128_S8x128_S8x128_S8x128_S64x128_d0 rfl 8 rfl (ix2 m l) ⟨m.val / 8, by omega⟩ ?_
      (ix2 ⟨m.val % 8, by omega⟩ l) ?_ ?_).trans ?_
    · rfl
    · rfl
    · intro b hb
      fin_cases b
      · exact absurd rfl hb
      · rfl
    · rw [rankM_eq]
      have : vrow ⟨m.val / 8, by omega⟩ ⟨m.val % 8, by omega⟩ = m := Fin.ext (by show 8 * (m.val / 8) + m.val % 8 = m.val; omega)
      rw [this]
      congr 2
      ext p
      simp
  have hr : rank (fun q => x (ix2 q l)) m < 2 ^ 31 := by
    refine lt_of_le_of_lt (card_le_univ _) ?_
    simp
  unfold selM
  change Scalar.select (IntOp.cmpi .slt (concatenate S64x128 0 _ _ (ix2 m l)) 16#32) (Ideal.ofBits FTy.f32 0x00000000#32) fill = _
  rw [hc, select_ite, ite_word (slt_ofNat (b := 16) hr (by norm_num)), fill_eq, Ideal.ofBits_zero_f32]
  simp only [mem_sel]

/-- The bias of the selection, read back out of its scratch. -/
theorem selL_eq (H : Inp D i B) (g : Fin 2) (m : Fin 64) (l : Fin 128) :
    (View.canon (Val := Elt Ideal) (selL B.rd i) (ix3 g m l) : EReal) = if m ∈ sel (D.imp (tq i l) g) 16 then (0 : EReal) else ⊥ := by
  have e : ∀ g, (fun q => impM B.rd i g (ix2 q l)) = D.imp (tq i l) g := fun g => funext fun q => impM_eq H g l q
  refine (canon_plane ![1, 0, 0] inb_S2x64x128_S1x64x128_1_0_0 _ _ 1 rfl rfl rfl g m l).trans ?_
  have hg : g = 1 ∨ g = 0 := by omega
  rcases hg with rfl | rfl
  · rw [if_pos rfl]
    refine (cast3' (selM (impM B.rd i 1)) _ m l).trans ?_
    rw [selM_eq, e]
  · rw [if_neg (by decide)]
    refine (canon_plane ![0, 0, 0] inb_S2x64x128_S1x64x128_0_0_0 _ _ 0 rfl rfl rfl 0 m l).trans ?_
    rw [if_pos rfl]
    refine (cast3' (selM (impM B.rd i 0)) _ m l).trans ?_
    rw [selM_eq, e]

/-- A key of chunk `c`. -/
def kq (c : Fin 4) (k : Fin 1024) : Fin 4096 := ⟨1024 * c.val + k.val, by omega⟩

theorem bias_rows (X : FVec Ideal S16x128 .f32) (k : Fin 1024) (l : Fin 128) :
    concatenate S1024x128 0 (List.ofFn fun j : Fin 16 => (⟨S64x128, broadcastTo S64x128 (shapeCast S1x128
      (extractStridedSlice S1x128 ![j.val, 0] X (slS j))
      shapeCasts_S1x128_S1x128) broadcasts_S1x128_S64x128⟩ : (s : Shape) × (s.Idx → Ideal .f32)))
    concatenates_S64x128_S64x128_S64x128_S64x128_S64x128_S64x128_S64x128_S64x128_S64x128_S64x128_S64x128_S64x128_S64x128_S64x128_S64x128_S64x128_S1024x128_d0
    (ix2 k l) = X (ix2 ⟨k.val / 64, by omega⟩ l) := by
  refine (vcat (n := 1024) (p := 16) (a := 64) (b := 128) (fun j : Fin 16 => broadcastTo S64x128 (shapeCast S1x128
      (extractStridedSlice S1x128 ![j.val, 0] X (slS j))
      shapeCasts_S1x128_S1x128) broadcasts_S1x128_S64x128)
    concatenates_S64x128_S64x128_S64x128_S64x128_S64x128_S64x128_S64x128_S64x128_S64x128_S64x128_S64x128_S64x128_S64x128_S64x128_S64x128_S64x128_S1024x128_d0
    k l ⟨k.val / 64, by omega⟩ ⟨k.val % 64, by omega⟩ (by show k.val = 64 * (k.val / 64) + k.val % 64; omega)).trans ?_
  pointwise

/-- The keys' bias over a chunk. -/
theorem biasM_eq (H : Inp D i B) (g : Fin 2) (c : Fin 4) (k : Fin 1024) (l : Fin 128) :
    biasM B.rd i g c (ix2 k l) = if (⟨(kq c k).val / 64, by omega⟩ : Fin 64) ∈ sel (D.imp (tq i l) g) 16 then (0 : EReal) else ⊥ := by
  unfold biasM
  rw [bias_rows, ← selL_eq H, rd_sel]
  generalize selL B.rd i = L
  refine canon_load (A := 64) (b := 128) (a := 16) L ![g.val, 16 * c.val, 0] (inbS g c) shapeCasts_S1x16x128_S16x128 ⟨k.val / 64, by omega⟩ l g _ rfl ?_ rfl
  show (1024 * c.val + k.val) / 64 = 16 * c.val + k.val / 64
  omega

end Cert.Nsa
-- ==== Proof.Chunk.lean ====
module

public import proofs.«01_k».proof.Proof.Pick

/-! The selected branch: the online softmax over the key chunks. -/

@[expose] public section

set_option maxRecDepth 16384

noncomputable section

namespace Cert.Nsa

open Idealize.ShloMosaic Idealize.ShloMosaic.TcCoe Finset
open Cert.KernelIdeal Cert.KernelIdeal.Gen

variable {D : Data} {i : grid0.Coords} {B : Blk}

/-- A selected key's score in the exponentials' base. -/
def sgS (D : Data) (t : Fin 4096) (g : Fin 2) (h : Fin 4) (k : Fin 4096) : ℝ := Data.score t g h D.qr D.ks k / Real.log 2
theorem bits_one16 : Ideal.ofBits FTy.bf16 0x3F80#16 = (1 : EReal) := by
  have : Ideal.ofBits FTy.bf16 0x3F80#16 = ((1 : ℝ) : EReal) := by
    simp [Ideal.ofBits, Ideal.ieee, -EReal.coe_mul]
    norm_num
  exact this
/-- What row `r` of the accumulator sums: a value's column, or one. -/
def valS (v : Fin 4096 → Fin 128 → EReal) (g : Fin 2) (r : Fin 65) (k : Fin 4096) : EReal :=
  if h : r.val < 64 then v k (gcol g ⟨r.val, h⟩) else 1
/-- Row `r` of the accumulator. -/
def row80 (r : Fin 65) : Fin 80 := ⟨r.val, by omega⟩

theorem mNew_apply (m : FVec Ideal S1x512 .f32) (s : FVec Ideal S1024x512 .f32) (c : Fin 512) :
    mNew m s (ix2 0 c) = max (m (ix2 0 c)) (univ.sup fun k : Fin 1024 => s (ix2 k c)) := by
  pointwise [mNew]
  rw [bits_bot]
  rfl

theorem aNew_apply (m : FVec Ideal S1x512 .f32) (a : FVec Ideal S80x512 .f32) (s : FVec Ideal S1024x512 .f32) (v : FVec Ideal S80x1024 .bf16)
    (r : Fin 80) (c : Fin 512) :
    aNew m a s v (ix2 r c) = Ideal.exp2 (m (ix2 0 c) - mNew m s (ix2 0 c)) * a (ix2 r c)
      + ∑ k : Fin 1024, v (ix2 r k) * Ideal.exp2 (s (ix2 k c) - mNew m s (ix2 0 c)) := by
  unfold aNew
  generalize mNew m s = M
  pointwise
  rfl

/-- The scores of a chunk, masked by its bias. -/
theorem ssM_masked (H : Inp D i B) (g : Fin 2) (c : Fin 4) (b : FVec Ideal S1024x128 .f32) (N : Fin 128 → Finset (Fin 1024))
    (hb : ∀ k l, b (ix2 k l) = if k ∈ N l then (0 : EReal) else ⊥) (h : Fin 4) (l : Fin 128) :
    Masked (N l) (fun k => sgS D (tq i l) g h (kq c k)) (fun k => ssM B.rd g c b (ix2 k (hl h l))) := by
  intro k
  have hk : ∀ d : Fin 64, shapeCast S1024x64 (ldF B.x5 (Rect.unit (s := S1x4096x128) ![0, 1024 * c.val, 64 * g.val] S1x1024x64.size (inbK g c)))
      shapeCasts_S1x1024x64_S1024x64 (ix2 k d) = ((D.ks (kq c k) (gcol g d) : ℝ) : EReal) := fun d =>
    (load3 B.x5 ![0, 1024 * c.val, 64 * g.val] (inbK g c) _ k d (kq c k) (gcol g d) rfl rfl rfl).trans (H.ks _ _)
  have hh : ∀ d : Fin 64, heads (fun r => ldF B.x1 r) g (ix2 d (hl h l)) = ((D.qr (tq i l) (hcol g h d) * κs : ℝ) : EReal) := fun d =>
    (heads_apply B.x1 g d h l).trans (H.qr _ _)
  have ht := tile4_apply b concatenates_S1024x128_S1024x128_S1024x128_S1024x128_S1024x512_d1 k h l
  rw [hb] at ht
  unfold ssM
  change addf (matmul _ none (shapeCast S1024x64 (ldF B.x5 _) _) (heads (fun r => ldF B.x1 r) g) _) (tile4 S1024x128 S1024x512 1 b _) _ = _
  generalize tile4 S1024x128 S1024x512 1 b _ = T at ht ⊢
  generalize shapeCast S1024x64 (ldF B.x5 _) _ = A at hk ⊢
  generalize heads (fun r => ldF B.x1 r) g = Q at hh ⊢
  pointwise
  simp only [hk, hh]
  rw [ht]
  have hd := dot_score (tq i l) g h D.qr D.ks (kq c k)
  rw [hd]
  split
  · rw [add_zero]; rfl
  · exact EReal.add_bot _

theorem veM_apply (H : Inp D i B) (g : Fin 2) (c : Fin 4) (r : Fin 65) (k : Fin 1024) :
    veM B.rd g c (ix2 (row80 r) k) = valS D.vs g r (kq c k) := by
  unfold veM valS
  split
  next hr =>
    refine (vcat2_fst (n := 80) (a := 64) (a' := 16) (b := 1024) _ _ _ (row80 r) k ⟨r.val, hr⟩ rfl).trans ?_
    have hX : ∀ (X : Fin 8 → FVec Ideal S128x128 .bf16), concatenate S64x1024 1 (List.ofFn fun j : Fin 8 => (⟨S64x128, extractStridedSlice S64x128 ![64 * g.val, 0]
        (X j) (slV g)⟩ : (s : Shape) × (s.Idx → Ideal .bf16)))
        concatenates_S64x128_S64x128_S64x128_S64x128_S64x128_S64x128_S64x128_S64x128_S64x1024_d1 (ix2 ⟨r.val, hr⟩ k)
        = X ⟨k.val / 128, by omega⟩ (ix2 (gcol g ⟨r.val, hr⟩) ⟨k.val % 128, by omega⟩) := by
      intro X
      refine (hcat (n := 1024) (p := 8) (a := 64) (b := 128) (fun j : Fin 8 => extractStridedSlice S64x128 ![64 * g.val, 0] (X j) (slV g))
        concatenates_S64x128_S64x128_S64x128_S64x128_S64x128_S64x128_S64x128_S64x128_S64x1024_d1
        ⟨r.val, hr⟩ k ⟨k.val / 128, by omega⟩ ⟨k.val % 128, by omega⟩ (by show k.val = 128 * (k.val / 128) + k.val % 128; omega)).trans ?_
      pointwise
      rfl
    refine (hX fun j => shapeCast S128x128 (ldF B.x6 (Rect.unit (s := S1x32x128x128) ![0, 8 * c.val + j.val, 0, 0] S1x1x128x128.size (inbU c j)))
        shapeCasts_S1x1x128x128_S128x128).trans ?_
    refine (load4 (N := 32) B.x6 _ (inbU c ⟨k.val / 128, by omega⟩) _ _ _ ⟨8 * c.val + k.val / 128, by omega⟩ (gcol g ⟨r.val, hr⟩) ⟨k.val % 128, by omega⟩
      rfl rfl (Nat.zero_add _).symm (Nat.zero_add _).symm).trans ?_
    rw [H.vs]
    congr 1
    apply Fin.ext
    show 128 * (8 * c.val + k.val / 128) + k.val % 128 = 1024 * c.val + k.val
    omega
  next hr =>
    refine (vcat2_snd (n := 80) (a := 64) (a' := 16) (b := 1024) _ _ _ (row80 r) k 0 (by show r.val = 64 + 0; omega)).trans ?_
    exact bits_one16

/-- What the scratch holds after some keys: the online softmax over them, for every head and query of group `g`. -/
def Inv (D : Data) (i : grid0.Coords) (g : Fin 2) (A : Fin 128 → Finset (Fin 4096)) (st : St Ideal) : Prop :=
  ∀ (h : Fin 4) (l : Fin 128) (r : Fin 65), Good (A l) (sgS D (tq i l) g h) (valS D.vs g r)
    (View.canon (Val := Elt Ideal) st.1 (ix3 g 0 (hl h l))) (View.canon (Val := Elt Ideal) st.2 (ix3 g (row80 r) (hl h l)))

theorem mRd_apply (B : Blk) (g : Fin 2) (L : List (View.Piece (Elt Ideal) S2x1x512 .f32)) (c : Fin 512) :
    mRd B.rd g L (ix2 0 c) = View.canon (Val := Elt Ideal) L (ix3 g 0 c) := by
  unfold mRd
  rw [rd_m]
  exact canon_load (A := 1) (b := 512) (a := 1) L ![g.val, 0, 0] (inbM g) shapeCasts_S1x1x512_S1x512 0 c g 0 rfl rfl rfl
theorem aRd_apply (B : Blk) (g : Fin 2) (L : List (View.Piece (Elt Ideal) S2x80x512 .f32)) (r : Fin 80) (c : Fin 512) :
    aRd B.rd g L (ix2 r c) = View.canon (Val := Elt Ideal) L (ix3 g r c) := by
  unfold aRd
  rw [rd_acc]
  exact canon_load (A := 80) (b := 512) (a := 80) L ![g.val, 0, 0] (inbA g) shapeCasts_S1x80x512_S80x512 r c g r rfl (Nat.zero_add _).symm rfl

theorem half_fst (g : Fin 2) (c : Fin 4) (b : FVec Ideal S1024x128 .f32) (st : St Ideal) (g' : Fin 2) (x : Fin 512) :
    View.canon (Val := Elt Ideal) (half B.rd g c b st).1 (ix3 g' 0 x)
      = if g' = g then mNew (mRd B.rd g st.1) (ssM B.rd g c b) (ix2 0 x) else View.canon (Val := Elt Ideal) st.1 (ix3 g' 0 x) := by
  unfold half
  generalize mNew (mRd B.rd g st.1) (ssM B.rd g c b) = w
  refine (canon_plane (a := 1) (b := 512) ![g.val, 0, 0] (inbM g) (shapeCast S1x1x512 w shapeCasts_S1x512_S1x1x512) st.1 g rfl rfl rfl g' 0 x).trans ?_
  rw [cast3' (a := 1) (b := 512) w shapeCasts_S1x512_S1x1x512 0 x]
theorem half_snd (g : Fin 2) (c : Fin 4) (b : FVec Ideal S1024x128 .f32) (st : St Ideal) (g' : Fin 2) (r : Fin 80) (x : Fin 512) :
    View.canon (Val := Elt Ideal) (half B.rd g c b st).2 (ix3 g' r x)
      = if g' = g then aNew (mRd B.rd g st.1) (aRd B.rd g st.2) (ssM B.rd g c b) (veM B.rd g c) (ix2 r x)
        else View.canon (Val := Elt Ideal) st.2 (ix3 g' r x) := by
  unfold half
  generalize aNew (mRd B.rd g st.1) (aRd B.rd g st.2) (ssM B.rd g c b) (veM B.rd g c) = w
  refine (canon_plane (a := 80) (b := 512) ![g.val, 0, 0] (inbA g) (shapeCast S1x80x512 w shapeCasts_S80x512_S1x80x512) st.2 g rfl rfl rfl g' r x).trans ?_
  rw [cast3' (a := 80) (b := 512) w shapeCasts_S80x512_S1x80x512 r x]

theorem kq_inj (c : Fin 4) : Function.Injective (kq c) := fun a b h => Fin.ext (by
  have h1 : 1024 * c.val + a.val = 1024 * c.val + b.val := congrArg Fin.val h
  omega)

/-- A group's step takes the chunk's unmasked keys in. -/
theorem inv_half (H : Inp D i B) (g : Fin 2) (c : Fin 4) (b : FVec Ideal S1024x128 .f32) (N : Fin 128 → Finset (Fin 1024))
    (hb : ∀ k l, b (ix2 k l) = if k ∈ N l then (0 : EReal) else ⊥) (A : Fin 128 → Finset (Fin 4096)) (st : St Ideal)
    (hA : ∀ l, Disjoint (A l) ((N l).image (kq c))) (hI : Inv D i g A st) :
    Inv D i g (fun l => A l ∪ (N l).image (kq c)) (half B.rd g c b st) := by
  intro h l r
  rw [half_fst, half_snd, if_pos rfl, if_pos rfl, aNew_apply, mNew_apply, mRd_apply, aRd_apply]
  refine good_step (hI h l r) (N l) (kq c) (kq_inj c).injOn (hA l) _ (ssM_masked H g c b N hb h l) _ fun k _ => veM_apply H g c r k

theorem inv_other (g g' : Fin 2) (hg : g' ≠ g) (c : Fin 4) (b : FVec Ideal S1024x128 .f32) (A : Fin 128 → Finset (Fin 4096)) (st : St Ideal)
    (hI : Inv D i g' A st) : Inv D i g' A (half B.rd g c b st) := by
  intro h l r
  rw [half_fst, half_snd, if_neg hg, if_neg hg]
  exact hI h l r

/-- The step of both groups. -/
theorem inv_chunk (H : Inp D i B) (c : Fin 4) (b : Fin 2 → FVec Ideal S1024x128 .f32) (N : Fin 2 → Fin 128 → Finset (Fin 1024))
    (hb : ∀ g k l, b g (ix2 k l) = if k ∈ N g l then (0 : EReal) else ⊥) (A : Fin 2 → Fin 128 → Finset (Fin 4096)) (st : St Ideal)
    (hA : ∀ g l, Disjoint (A g l) ((N g l).image (kq c))) (hI : ∀ g, Inv D i g (A g) st) (g : Fin 2) :
    Inv D i g (fun l => A g l ∪ (N g l).image (kq c)) (half B.rd 1 c (b 1) (half B.rd 0 c (b 0) st)) := by
  have hg : g = 1 ∨ g = 0 := by omega
  rcases hg with rfl | rfl
  · exact inv_half H 1 c _ _ (hb 1) _ _ (hA 1) (inv_other 0 1 (by decide) c _ _ _ (hI 1))
  · exact inv_other 1 0 (by decide) c _ _ _ (inv_half H 0 c _ _ (hb 0) _ _ (hA 0) (hI 0))

/-- The keys below chunk `n` in the blocks taken. -/
def befS (D : Data) (i : grid0.Coords) (n : ℕ) (g : Fin 2) (l : Fin 128) : Finset (Fin 4096) :=
  {k | (⟨k.val / 64, by omega⟩ : Fin 64) ∈ sel (D.imp (tq i l) g) 16 ∧ k.val < 1024 * n}

/-- A key at or after chunk `c` is not below it. -/
theorem bef_disjoint (n : ℕ) (c : Fin 4) (h : n = c.val) (g : Fin 2) (l : Fin 128) (N : Finset (Fin 1024)) :
    Disjoint (befS D i n g l) (N.image (kq c)) := by
  rw [Finset.disjoint_left]
  intro k hk hk'
  obtain ⟨j, -, rfl⟩ := mem_image.1 hk'
  have : 1024 * c.val + j.val < 1024 * n := (mem_filter.1 hk).2.2
  omega

/-- The chunks before the block's own. -/
theorem inv_bef (H : Inp D i B) (n : ℕ) (hn : n ≤ 4) (g : Fin 2) : Inv D i g (befS D i n g) (bef B.rd i n) := by
  induction n generalizing g with
  | zero =>
    intro h l r
    have e : befS D i 0 g l = ∅ := by
      ext k; simp [befS]
    have e1 : View.canon (Val := Elt Ideal) (bef B.rd i 0).1 (ix3 g 0 (hl h l)) = (⊥ : EReal) := by
      refine (canon_both (a := 1) (b := 512) ![0, 0, 0] inb_S2x1x512_S2x1x512_0_0_0 _ _ (by decide) _).trans ?_
      pointwise
      rfl
    have e2 : View.canon (Val := Elt Ideal) (bef B.rd i 0).2 (ix3 g (row80 r) (hl h l)) = (0 : EReal) := by
      refine (canon_both (a := 80) (b := 512) ![0, 0, 0] inb_S2x80x512_S2x80x512_0_0_0 _ _ (by decide) _).trans ?_
      pointwise
    rw [e, e1, e2]
    exact good_empty _ _
  | succ n ih =>
    have hc : (⟨n % 4, Nat.mod_lt _ (by decide)⟩ : Fin 4).val = n := Nat.mod_eq_of_lt (by omega)
    set c : Fin 4 := ⟨n % 4, Nat.mod_lt _ (by decide)⟩ with hcd
    have := inv_chunk H c (fun g => biasM B.rd i g c)
      (fun g l => {k | (⟨(kq c k).val / 64, by omega⟩ : Fin 64) ∈ sel (D.imp (tq i l) g) 16})
      (fun g k l => by rw [biasM_eq H]; simp only [mem_filter, mem_univ, true_and]) (fun g => befS D i n g) (bef B.rd i n)
      (fun g l => bef_disjoint n c hc.symm g l _) (fun g => ih (by omega) g) g
    have e : (fun l => befS D i n g l ∪ ({k | (⟨(kq c k).val / 64, by omega⟩ : Fin 64) ∈ sel (D.imp (tq i l) g) 16} : Finset (Fin 1024)).image (kq c))
        = befS D i (n + 1) g := by
      funext l
      ext k
      simp only [befS, mem_union, mem_image, mem_filter, mem_univ, true_and]
      constructor
      · rintro (⟨h1, h2⟩ | ⟨j, h1, rfl⟩)
        · exact ⟨h1, by omega⟩
        · refine ⟨h1, ?_⟩
          show 1024 * c.val + j.val < _
          omega
      · rintro ⟨h1, h2⟩
        by_cases h3 : k.val < 1024 * n
        · exact Or.inl ⟨h1, h3⟩
        · have h4 : kq c ⟨k.val - 1024 * n, by omega⟩ = k := Fin.ext (by show 1024 * c.val + (k.val - 1024 * n) = k.val; omega)
          exact Or.inr ⟨⟨k.val - 1024 * n, by omega⟩, by simp only [h4]; exact h1, h4⟩
    rw [e] at this
    exact this

theorem diagM_apply (i : grid0.Coords) (c : Fin 4) (b : FVec Ideal S1024x128 .f32) (k : Fin 1024) (l : Fin 128) :
    diagM i c b (ix2 k l) = if (kq c k).val ≤ (tq i l).val then b (ix2 k l) else ⊥ := by
  have h1 : (kq c k).val < 4096 := (kq c k).isLt
  have h2 : (tq i l).val < 4096 := (tq i l).isLt
  unfold diagM
  change Scalar.select (IntOp.cmpi .sle (IntOp.addi (iota Kind.tc S1024x128 32 [0] (by decide) (ix2 k l)) (BitVec.ofNat 32 (1024 * c.val)))
    (broadcastTo S1024x128 (tl i) broadcasts_S1x128_S1024x128 (ix2 k l))) (b (ix2 k l)) fill = _
  have e : broadcastTo S1024x128 (tl i) broadcasts_S1x128_S1024x128 (ix2 k l) = BitVec.ofNat 32 (tq i l).val := by
    pointwise
    exact tl_apply i l
  have e2 : (iota Kind.tc S1024x128 32 [0] (by decide) (ix2 k l)) = BitVec.ofNat 32 k.val := by
    pointwise
  rw [e, e2, addi_ofNat, add_comm, select_ite, fill_eq]
  exact ite_word (sle_ofNat (show 1024 * c.val + k.val < 2 ^ 31 by omega) (show (tq i l).val < 2 ^ 31 by omega)) _ _

/-- After the block's own chunk: all the selected keys. -/
theorem inv_all (H : Inp D i B) (g : Fin 2) :
    Inv D i g (fun l => D.setS (tq i l) g) (chunkD B.rd i (own i) (bef B.rd i (own i).val)) := by
  have := inv_chunk H (own i) (fun g => diagM i (own i) (biasM B.rd i g (own i)))
    (fun g l => {k | (⟨(kq (own i) k).val / 64, by omega⟩ : Fin 64) ∈ sel (D.imp (tq i l) g) 16 ∧ (kq (own i) k).val ≤ (tq i l).val})
    (fun g k l => by
      rw [diagM_apply, biasM_eq H]
      simp only [mem_filter, mem_univ, true_and]
      by_cases h1 : (kq (own i) k).val ≤ (tq i l).val
      · simp only [h1, and_true, if_true]
      · simp only [h1, and_false, if_false]) (fun g => befS D i (own i).val g) (bef B.rd i (own i).val)
    (fun g l => bef_disjoint _ _ rfl g l _) (fun g => inv_bef H _ (own i).isLt.le g) g
  have e : (fun l => befS D i (own i).val g l ∪ ({k | (⟨(kq (own i) k).val / 64, by omega⟩ : Fin 64) ∈ sel (D.imp (tq i l) g) 16
      ∧ (kq (own i) k).val ≤ (tq i l).val} : Finset (Fin 1024)).image (kq (own i))) = fun l => D.setS (tq i l) g := by
    funext l
    have hi : (i 1).val < 32 := (i 1).isLt
    have ho : (own i).val = (i 1).val / 8 := rfl
    have ht : (tq i l).val = 128 * (i 1).val + l.val := rfl
    ext k
    simp only [befS, Data.setS, mem_union, mem_image, mem_filter, mem_univ, true_and]
    constructor
    · rintro (⟨h1, h2⟩ | ⟨j, ⟨h1, h2⟩, rfl⟩)
      · exact ⟨h1, by omega⟩
      · exact ⟨h1, h2⟩
    · rintro ⟨h1, h2⟩
      by_cases h3 : k.val < 1024 * (own i).val
      · exact Or.inl ⟨h1, h3⟩
      · have h4 : kq (own i) ⟨k.val - 1024 * (own i).val, by omega⟩ = k :=
          Fin.ext (by show 1024 * (own i).val + (k.val - 1024 * (own i).val) = k.val; omega)
        exact Or.inr ⟨⟨k.val - 1024 * (own i).val, by omega⟩, by simp only [h4]; exact ⟨h1, h2⟩, h4⟩
  rw [e] at this
  exact this

theorem wt_le_one {n : ℕ} {A : Finset (Fin n)} (s : Fin n → ℝ) (k : Fin n) (hk : k ∈ A) : wt A s k ≤ 1 := by
  unfold wt
  rw [div_le_one (sum_exp_pos ⟨k, hk⟩ s)]
  exact Finset.single_le_sum (f := fun j => Real.exp (s j)) (fun _ _ => (Real.exp_pos _).le) hk

/-- The first block is always taken. -/
theorem zero_mem_sel (D : Data) (t : Fin 4096) (g : Fin 2) : (0 : Fin 64) ∈ sel (D.imp t g) 16 := by
  have h0 : D.imp t g 0 = ((1000000000 : ℝ) : EReal) := by
    unfold Data.imp
    rw [if_pos (show 64 * (0 : Fin 64).val ≤ t.val from Nat.zero_le _), if_pos (show (0 : Fin 64).val = 0 ∨ _ from Or.inl rfl)]
  have hle : ∀ m, D.imp t g m ≤ ((1000000000 : ℝ) : EReal) := by
    intro m
    unfold Data.imp
    split
    · split
      · exact le_rfl
      · rw [EReal.coe_le_coe_iff]
        have h1 : ∀ n ∈ (univ : Finset (Fin 255)), (∑ h, D.pC t g h n) * Data.ovl n m ≤ 4 := by
          intro n _
          have hp : ∀ h ∈ (univ : Finset (Fin 4)), D.pC t g h n ≤ 1 := fun h _ => by
            unfold Data.pC
            split
            next hn => exact wt_le_one _ _ hn
            next => exact zero_le_one
          have hs : ∑ h, D.pC t g h n ≤ 4 := by
            refine (Finset.sum_le_card_nsmul _ _ 1 hp).trans ?_
            simp
          have ho : Data.ovl n m ≤ 1 := by
            unfold Data.ovl
            rw [div_le_one (by norm_num)]
            refine max_le ?_ (by norm_num)
            have : min (16 * (n.val : ℤ) + 32) (64 * (m.val : ℤ) + 64) - max (16 * (n.val : ℤ)) (64 * (m.val : ℤ)) ≤ 32 := by omega
            exact_mod_cast this
          have ho0 : 0 ≤ Data.ovl n m := div_nonneg (le_max_right _ _) (by norm_num)
          calc _ ≤ 4 * Data.ovl n m := mul_le_mul_of_nonneg_right hs ho0
            _ ≤ 4 := by linarith
        refine (Finset.sum_le_card_nsmul _ _ 4 h1).trans ?_
        rw [Finset.card_univ, Fintype.card_fin, nsmul_eq_mul]
        norm_num
    · exact bot_le
  rw [mem_sel]
  have : rank (D.imp t g) 0 = 0 := by
    unfold rank
    rw [Finset.card_eq_zero, Finset.filter_eq_empty_iff]
    rintro p - (h | ⟨-, h⟩)
    · exact absurd (hle p) (not_le.2 (h0 ▸ h))
    · exact absurd h (Fin.not_lt_zero p)
  rw [this]
  norm_num

theorem setS_nonempty (D : Data) (t : Fin 4096) (g : Fin 2) : (D.setS t g).Nonempty :=
  ⟨0, by
    simp only [Data.setS, mem_filter, mem_univ, true_and]
    exact ⟨zero_mem_sel D t g, Nat.zero_le _⟩⟩

theorem quot_apply (a : FVec Ideal S80x512 .f32) (d : Fin 64) (c : Fin 512) :
    quot a (ix2 d c) = Ideal.div (a (ix2 (row80 ⟨d.val, by omega⟩) c)) (a (ix2 (row80 64) c)) := by
  pointwise [quot]
  rfl

/-- The selected branch. -/
theorem osM_eq (H : Inp D i B) (g : Fin 2) (h : Fin 4) (l : Fin 128) (d : Fin 64) :
    quot (aRd B.rd g (chunkD B.rd i (own i) (bef B.rd i (own i).val)).2) (ix2 d (hl h l)) = D.oS (tq i l) g h d := by
  have hI := inv_all H g h l
  generalize chunkD B.rd i (own i) (bef B.rd i (own i).val) = st at hI ⊢
  rw [quot_apply, aRd_apply, aRd_apply]
  have h1 := hI ⟨d.val, by omega⟩
  have h2 := hI 64
  have e1 : valS D.vs g ⟨d.val, by omega⟩ = fun k => D.vs k (gcol g d) := funext fun k => dif_pos d.isLt
  have e2 : valS D.vs g 64 = fun _ => 1 := funext fun k => dif_neg (by decide)
  rw [e1] at h1
  rw [e2] at h2
  exact good_div (fun _ => rfl) h1 h2 (setS_nonempty D _ g)

end Cert.Nsa
-- ==== Proof.Win.lean ====
module

public import proofs.«01_k».proof.Proof.Chunk

/-! The window branch. -/

@[expose] public section

set_option maxRecDepth 16384

noncomputable section

namespace Cert.Nsa

open Idealize.ShloMosaic Idealize.ShloMosaic.TcCoe Finset
open Cert.KernelIdeal Cert.KernelIdeal.Gen

variable {D : Data} {i : grid0.Coords} {B : Blk}

/-- The first key of the window's part `j`, in blocks of 128. -/
def part (i : grid0.Coords) (j : Fin 5) : Fin 32 := ⟨((i 1).val + j.val) - 4, by have : (i 1).val < 32 := (i 1).isLt; omega⟩

theorem part_words : ∀ (b : Fin 32) (j : Fin 5),
    (Scalar.cmpi .sge (Scalar.addi (Scalar.subi (BitVec.ofNat 32 b.val) 4#32) (BitVec.ofNat 32 j.val)) 0#32 = 1#1 ↔ 4 ≤ b.val + j.val)
    ∧ Scalar.maxsi (Scalar.addi (Scalar.subi (BitVec.ofNat 32 b.val) 4#32) (BitVec.ofNat 32 j.val)) 0#32 = BitVec.ofNat 32 (b.val + j.val - 4)
    ∧ (Scalar.indexCast (Scalar.muli (Scalar.maxsi (Scalar.addi (Scalar.subi (BitVec.ofNat 32 b.val) 4#32) (BitVec.ofNat 32 j.val)) 0#32) 128#32)).toNat
        = 128 * (b.val + j.val - 4)
    ∧ (Scalar.indexCast (Scalar.maxsi (Scalar.addi (Scalar.subi (BitVec.ofNat 32 b.val) 4#32) (BitVec.ofNat 32 j.val)) 0#32)).toNat = b.val + j.val - 4 := by
  decide +kernel

theorem sub512 : ∀ k t : ℕ, k < 4096 → t < 4096 →
    (IntOp.cmpi .sgt (BitVec.ofNat 32 k) (IntOp.subi (BitVec.ofNat 32 t) 512#32) = 1#1 ↔ t < k + 512) := by
  intro k t hk ht
  have e : (IntOp.subi (BitVec.ofNat 32 t) 512#32).toInt = (t : ℤ) - 512 := by
    show (BitVec.ofNat 32 t - 512#32).toInt = _
    rw [BitVec.toInt_sub, toInt_small t (by omega), show (512#32).toInt = 512 from rfl, Int.bmod_eq_of_le (by omega) (by omega)]
  rw [IntOp.cmpi_sgt, e, toInt_small _ (by omega)]
  omega

/-- Lane `r` of the window's part `j`. -/
def wq (i : grid0.Coords) (j : Fin 5) (r : Fin 128) : Fin 4096 := ⟨128 * (part i j).val + r.val, by have := (part i j).isLt; omega⟩

theorem wbM_apply (i : grid0.Coords) (j : Fin 5) (r : Fin 128) (l : Fin 128) :
    wbM (F := Ideal) i j (ix2 r l) = if 4 ≤ (i 1).val + j.val ∧ (wq i j r).val ≤ (tq i l).val ∧ (tq i l).val < (wq i j r).val + 512 then (0 : EReal) else ⊥ := by
  obtain ⟨w1, w2, -, -⟩ := part_words (i 1) j
  have h1 := (wq i j r).isLt
  have h2 := (tq i l).isLt
  have e : wbM (F := Ideal) i j (ix2 r l) = Scalar.select (Scalar.cmpi .sge (cjM i j) 0#32)
      (Scalar.select (IntOp.cmpi .sle (IntOp.addi (BitVec.ofNat 32 r.val) (Scalar.muli (Scalar.maxsi (cjM i j) 0#32) 128#32)) (tl i (ix2 0 l)))
        (Scalar.select (IntOp.cmpi .sgt (IntOp.addi (BitVec.ofNat 32 r.val) (Scalar.muli (Scalar.maxsi (cjM i j) 0#32) 128#32)) (IntOp.subi (tl i (ix2 0 l)) 512#32))
          (0 : EReal) ⊥) ⊥) ⊥ := by
    pointwise [wbM]
    rfl
  have e2 : IntOp.addi (BitVec.ofNat 32 r.val) (Scalar.muli (Scalar.maxsi (cjM i j) 0#32) 128#32) = BitVec.ofNat 32 (wq i j r).val := by
    unfold cjM
    rw [w2]
    refine (congrArg (IntOp.addi _) (muli_ofNat _ 128)).trans ?_
    rw [addi_ofNat]
    congr 1
    show r.val + ((i 1).val + j.val - 4) * 128 = 128 * ((i 1).val + j.val - 4) + r.val
    omega
  rw [e, e2, tl_apply, select_ite, select_ite, select_ite, ite_word (sle_ofNat (by omega) (by omega)), ite_word (sub512 _ _ h1 h2)]
  unfold cjM
  rw [ite_word w1]
  split_ifs <;> first | rfl | (exfalso; omega)

/-- A key of the window, or of its part before the first key. -/
def eW (i : grid0.Coords) (k : Fin 640) : Fin 4096 := wq i ⟨k.val / 128, by omega⟩ ⟨k.val % 128, by omega⟩
/-- The window's unmasked keys. -/
def NW (i : grid0.Coords) (l : Fin 128) : Finset (Fin 640) :=
  {k | 4 ≤ (i 1).val + k.val / 128 ∧ (eW i k).val ≤ (tq i l).val ∧ (tq i l).val < (eW i k).val + 512}
def sgW (D : Data) (t : Fin 4096) (g : Fin 2) (h : Fin 4) (k : Fin 4096) : ℝ := Data.score t g h D.qr D.kw k / Real.log 2

theorem swM_masked (H : Inp D i B) (g : Fin 2) (h : Fin 4) (l : Fin 128) :
    Masked (NW i l) (fun k => sgW D (tq i l) g h (eW i k)) (fun k => swM B.rd i g (ix2 k (hl h l))) := by
  intro k
  have hk : ∀ d : Fin 64, concatenate S640x64 0 (List.ofFn fun j : Fin 5 => (⟨S128x64, shapeCast S128x64
        (ldF B.x7 (Rect.unit (s := S1x4096x128) (koff i g j) S1x128x64.size (koff_inb i g j))) shapeCasts_S1x128x64_S128x64⟩ : (s : Shape) × (s.Idx → Ideal .bf16)))
        concatenates_S128x64_S128x64_S128x64_S128x64_S128x64_S640x64_d0 (ix2 k d) = ((D.kw (eW i k) (gcol g d) : ℝ) : EReal) := by
    intro d
    refine (vcat (n := 640) (p := 5) (a := 128) (b := 64) (fun j : Fin 5 => shapeCast S128x64
        (ldF B.x7 (Rect.unit (s := S1x4096x128) (koff i g j) S1x128x64.size (koff_inb i g j))) shapeCasts_S1x128x64_S128x64)
        concatenates_S128x64_S128x64_S128x64_S128x64_S128x64_S640x64_d0 k d ⟨k.val / 128, by omega⟩ ⟨k.val % 128, by omega⟩
        (by show k.val = 128 * (k.val / 128) + k.val % 128; omega)).trans ?_
    refine (load3 B.x7 (koff i g ⟨k.val / 128, by omega⟩) (koff_inb i g _) _ _ d (eW i k) (gcol g d) rfl ?_ rfl).trans (H.kw _ _)
    have := (part_words (i 1) ⟨k.val / 128, by omega⟩).2.2.1
    refine (congrArg (· + k.val % 128) this.symm)
  have hh : ∀ d : Fin 64, heads (fun r => ldF B.x1 r) g (ix2 d (hl h l)) = ((D.qr (tq i l) (hcol g h d) * κs : ℝ) : EReal) := fun d =>
    (heads_apply B.x1 g d h l).trans (H.qr _ _)
  have hb : concatenate S640x128 0 (List.ofFn fun j : Fin 5 => (⟨S128x128, wbM i j⟩ : (s : Shape) × (s.Idx → Ideal .f32)))
      concatenates_S128x128_S128x128_S128x128_S128x128_S128x128_S640x128_d0 (ix2 k l) = if k ∈ NW i l then (0 : EReal) else ⊥ := by
    refine (vcat (n := 640) (p := 5) (a := 128) (b := 128) (fun j : Fin 5 => wbM i j)
        concatenates_S128x128_S128x128_S128x128_S128x128_S128x128_S640x128_d0 k l ⟨k.val / 128, by omega⟩ ⟨k.val % 128, by omega⟩
        (by show k.val = 128 * (k.val / 128) + k.val % 128; omega)).trans ?_
    refine (wbM_apply i _ _ l).trans ?_
    simp only [NW, mem_filter, mem_univ, true_and]
    rfl
  unfold swM
  change addf (matmul _ none (concatenate S640x64 0 (List.ofFn fun j : Fin 5 => (⟨S128x64, shapeCast S128x64
        (ldF B.x7 _) _⟩ : (s : Shape) × (s.Idx → Ideal .bf16))) _) (heads (fun r => ldF B.x1 r) g) _) (tile4 S640x128 S640x512 1 _ _) _ = _
  have ht := tile4_apply (concatenate S640x128 0 (List.ofFn fun j : Fin 5 => (⟨S128x128, wbM i j⟩ : (s : Shape) × (s.Idx → Ideal .f32)))
      concatenates_S128x128_S128x128_S128x128_S128x128_S128x128_S640x128_d0) concatenates_S640x128_S640x128_S640x128_S640x128_S640x512_d1 k h l
  rw [hb] at ht
  generalize tile4 S640x128 S640x512 1 _ _ = T' at ht ⊢
  generalize (concatenate S640x64 0 (List.ofFn fun j : Fin 5 => (⟨S128x64, shapeCast S128x64
        (ldF B.x7 (Rect.unit (s := S1x4096x128) (koff i g j) S1x128x64.size (koff_inb i g j))) shapeCasts_S1x128x64_S128x64⟩ : (s : Shape) × (s.Idx → Ideal .bf16)))
        concatenates_S128x64_S128x64_S128x64_S128x64_S128x64_S640x64_d0 : FVec Ideal S640x64 .bf16) = A at hk ⊢
  generalize heads (fun r => ldF B.x1 r) g = Q at hh ⊢
  pointwise
  simp only [hk, hh]
  rw [ht]
  have hd := dot_score (tq i l) g h D.qr D.kw (eW i k)
  rw [hd]
  split
  · rw [add_zero]; rfl
  · exact EReal.add_bot _

theorem vwM_apply (H : Inp D i B) (g : Fin 2) (r : Fin 65) (k : Fin 640) :
    vwM B.rd i g (ix2 (row80 r) k) = valS D.vw g r (eW i k) := by
  unfold vwM valS
  split
  next hr =>
    refine (vcat2_fst (n := 80) (a := 64) (a' := 16) (b := 640) _ _ _ (row80 r) k ⟨r.val, hr⟩ rfl).trans ?_
    have hX : ∀ (X : Fin 5 → FVec Ideal S128x128 .bf16), concatenate S64x640 1 (List.ofFn fun j : Fin 5 => (⟨S64x128, extractStridedSlice S64x128 ![64 * g.val, 0]
        (X j) (slV g)⟩ : (s : Shape) × (s.Idx → Ideal .bf16)))
        concatenates_S64x128_S64x128_S64x128_S64x128_S64x128_S64x640_d1 (ix2 ⟨r.val, hr⟩ k)
        = X ⟨k.val / 128, by omega⟩ (ix2 (gcol g ⟨r.val, hr⟩) ⟨k.val % 128, by omega⟩) := by
      intro X
      refine (hcat (n := 640) (p := 5) (a := 64) (b := 128) (fun j : Fin 5 => extractStridedSlice S64x128 ![64 * g.val, 0] (X j) (slV g))
        concatenates_S64x128_S64x128_S64x128_S64x128_S64x128_S64x640_d1
        ⟨r.val, hr⟩ k ⟨k.val / 128, by omega⟩ ⟨k.val % 128, by omega⟩ (by show k.val = 128 * (k.val / 128) + k.val % 128; omega)).trans ?_
      pointwise
      rfl
    refine (hX fun j => shapeCast S128x128 (ldF B.x8 (Rect.unit (s := S1x32x128x128) (voff i j) S1x1x128x128.size (voff_inb i j)))
        shapeCasts_S1x1x128x128_S128x128).trans ?_
    refine (load4 (N := 32) B.x8 _ (voff_inb i ⟨k.val / 128, by omega⟩) _ _ _ (part i ⟨k.val / 128, by omega⟩) (gcol g ⟨r.val, hr⟩) ⟨k.val % 128, by omega⟩
      rfl (part_words (i 1) ⟨k.val / 128, by omega⟩).2.2.2.symm (Nat.zero_add _).symm (Nat.zero_add _).symm).trans ?_
    rw [H.vw]
    rfl
  next hr =>
    refine (vcat2_snd (n := 80) (a := 64) (a' := 16) (b := 640) _ _ _ (row80 r) k 0 (by show r.val = 64 + 0; omega)).trans ?_
    exact bits_one16

/-- The window's softmax before the division. -/
def waM (s : FVec Ideal S640x512 .f32) (v : FVec Ideal S80x640 .bf16) : FVec Ideal S80x512 .f32 :=
  matmul dot_S80x640_S640x512_S80x512_1_0_0_1_n_n none v
    (truncf .bf16 (exp2 (subf s (broadcastTo S640x512 (shapeCast S1x512
      (multiReduction .maximumf [0] S512 s 0xFF800000#32 reduces_S640x512_S512 (.inl rfl) rfl) shapeCasts_S512_S1x512)
      broadcasts_S1x512_S640x512))) bitsLt_bf16_f32) (constant S80x512 .f32 0x00000000#32)

theorem waM_apply (s : FVec Ideal S640x512 .f32) (v : FVec Ideal S80x640 .bf16) (r : Fin 80) (c : Fin 512) :
    waM s v (ix2 r c) = ∑ k : Fin 640, v (ix2 r k) * Ideal.exp2 (s (ix2 k c) - univ.sup fun k : Fin 640 => s (ix2 k c)) := by
  pointwise [waM]
  rw [bits_bot]
  rfl

theorem eW_inj (i : grid0.Coords) (l : Fin 128) : Set.InjOn (eW i) (NW i l) := by
  intro a ha b hb h
  have ha := (mem_filter.1 ha).2
  have hb := (mem_filter.1 hb).2
  have h' : 128 * ((i 1).val + a.val / 128 - 4) + a.val % 128 = 128 * ((i 1).val + b.val / 128 - 4) + b.val % 128 := congrArg Fin.val h
  apply Fin.ext
  omega

theorem image_eW (i : grid0.Coords) (l : Fin 128) : (NW i l).image (eW i) = Data.setW (tq i l) := by
  have hi : (i 1).val < 32 := (i 1).isLt
  have ht : (tq i l).val = 128 * (i 1).val + l.val := rfl
  ext k
  simp only [mem_image, NW, Data.setW, mem_filter, mem_univ, true_and]
  constructor
  · rintro ⟨j, ⟨-, h1, h2⟩, rfl⟩
    exact ⟨h1, h2⟩
  · rintro ⟨h1, h2⟩
    have hk : k.val + 512 < 640 + 128 * (i 1).val := by omega
    have hk2 : 128 * (i 1).val ≤ k.val + 512 := by omega
    have e : eW i ⟨k.val + 512 - 128 * (i 1).val, by omega⟩ = k := by
      apply Fin.ext
      show 128 * ((i 1).val + (k.val + 512 - 128 * (i 1).val) / 128 - 4) + (k.val + 512 - 128 * (i 1).val) % 128 = k.val
      omega
    refine ⟨⟨k.val + 512 - 128 * (i 1).val, by omega⟩, ⟨?_, ?_, ?_⟩, e⟩
    · show 4 ≤ (i 1).val + (k.val + 512 - 128 * (i 1).val) / 128
      omega
    · rw [e]; exact h1
    · rw [e]; exact h2

/-- The window branch. -/
theorem owM_eq (H : Inp D i B) (g : Fin 2) (h : Fin 4) (l : Fin 128) (d : Fin 64) :
    owM B.rd i g (ix2 d (hl h l)) = D.oW (tq i l) g h d := by
  have hs := swM_masked H g h l
  have hv := vwM_apply H g
  have e : owM B.rd i g = quot (waM (swM B.rd i g) (vwM B.rd i g)) := rfl
  rw [e]
  generalize swM B.rd i g = s at hs ⊢
  generalize vwM B.rd i g = v at hv ⊢
  rw [quot_apply, waM_apply, waM_apply]
  have key : ∀ r : Fin 65, Good (Data.setW (tq i l)) (sgW D (tq i l) g h) (valS D.vw g r) (max ⊥ (univ.sup fun k : Fin 640 => s (ix2 k (hl h l))))
      (∑ k : Fin 640, v (ix2 (row80 r) k) * Ideal.exp2 (s (ix2 k (hl h l)) - max ⊥ (univ.sup fun k : Fin 640 => s (ix2 k (hl h l))))) := by
    intro r
    have := good_step (good_empty (sgW D (tq i l) g h) (valS D.vw g r)) (NW i l) (eW i) (eW_inj i l) (Finset.disjoint_empty_left _) _ hs
      (fun k => v (ix2 (row80 r) k)) fun k _ => hv r k
    rw [Finset.empty_union, image_eW, mul_zero, zero_add] at this
    exact this
  have h1 := key ⟨d.val, by omega⟩
  have h2 := key 64
  have e1 : valS D.vw g ⟨d.val, by omega⟩ = fun k => D.vw k (gcol g d) := funext fun k => dif_pos d.isLt
  have e2 : valS D.vw g 64 = fun _ => 1 := funext fun k => dif_neg (by decide)
  rw [e1] at h1
  rw [e2] at h2
  rw [bot_sup_eq] at h1 h2
  refine good_div (fun _ => rfl) h1 h2 ⟨tq i l, ?_⟩
  simp only [Data.setW, mem_filter, mem_univ, true_and]
  omega

end Cert.Nsa
-- ==== Proof.Outp.lean ====
module

public import proofs.«01_k».proof.Proof.Win

/-! What a block stores is the layer's output for its queries. -/

@[expose] public section

set_option maxRecDepth 16384

noncomputable section

namespace Cert.Nsa

open Idealize.ShloMosaic Idealize.ShloMosaic.TcCoe Finset
open Cert.KernelIdeal Cert.KernelIdeal.Gen

variable {D : Data} {i : grid0.Coords} {B : Blk}

theorem gatesM_apply (H : Inp D i B) (r : Fin 24) (l : Fin 128) : gatesM B.rd (ix2 r l) = Ideal.logistic (D.gate (tq i l) r) := by
  have h := (load3 B.x2 ![0, 36, 0] inb_S1x128x128_S1x24x128_0_36_0 shapeCasts_S1x24x128_S24x128 r l ⟨36 + r.val, by omega⟩ l rfl rfl
    (Nat.zero_add _).symm).trans (H.gate r l)
  unfold gatesM
  change logistic (shapeCast S24x128 (ldF B.x2 (Rect.unit (s := S1x128x128) ![0, 36, 0] S1x24x128.size inb_S1x128x128_S1x24x128_0_36_0)) shapeCasts_S1x24x128_S24x128) (ix2 r l) = _
  generalize shapeCast S24x128 _ _ = X at h ⊢
  pointwise
  rw [h]

theorem gated_apply (gt : FVec Ideal S24x128 .f32) (r : ℕ) (hr : r < 24) (o : FVec Ideal S64x512 .f32) (h : Fin 4) (d : Fin 64) (l : Fin 128) :
    gated gt r hr o h (ix2 d l) = gt (ix2 ⟨r, hr⟩ l) * o (ix2 d (hl h l)) := by
  pointwise [gated]
  rfl

theorem slab_apply (H : Inp D i B) (os ow : Fin 2 → FVec Ideal S64x512 .f32)
    (hos : ∀ g h l d, os g (ix2 d (hl h l)) = D.oS (tq i l) g h d) (how : ∀ g h l d, ow g (ix2 d (hl h l)) = D.oW (tq i l) g h d)
    (n : Fin 8) (d : Fin 64) (l : Fin 128) :
    slab (gatesM B.rd) (ocM B.rd i) os ow n (ix2 d l) = D.o (tq i l) ⟨n.val / 4, by omega⟩ ⟨n.val % 4, by omega⟩ d := by
  unfold slab
  change gated _ _ _ _ _ _ + gated _ _ _ _ _ _ + gated _ _ _ _ _ _ = _
  rw [gated_apply, gated_apply, gated_apply, gatesM_apply H, gatesM_apply H, gatesM_apply H, ocM_eq H, hos, how]
  unfold Data.o
  have e : ∀ (r : Fin 3) (h), (⟨3 * n.val + r.val, h⟩ : Fin 24) = tcol ⟨n.val / 4, by omega⟩ ⟨n.val % 4, by omega⟩ r := fun r h => Fin.ext (by
    show 3 * n.val + r.val = 3 * (4 * (n.val / 4) + n.val % 4) + r.val
    omega)
  rw [← e 0 (by show 3 * n.val + 0 < 24; omega), ← e 1 (by show 3 * n.val + 1 < 24; omega), ← e 2 (by show 3 * n.val + 2 < 24; omega)]
  rfl

theorem stackM_apply (H : Inp D i B) (os ow : Fin 2 → FVec Ideal S64x512 .f32)
    (hos : ∀ g h l d, os g (ix2 d (hl h l)) = D.oS (tq i l) g h d) (how : ∀ g h l d, ow g (ix2 d (hl h l)) = D.oW (tq i l) g h d)
    (c : Fin 512) (l : Fin 128) :
    stackM (gatesM B.rd) (ocM B.rd i) os ow (ix2 c l) = D.oCol (tq i l) c := by
  unfold stackM
  refine (vcat (n := 512) (p := 8) (a := 64) (b := 128) (fun n : Fin 8 => slab (gatesM B.rd) (ocM B.rd i) os ow n)
    concatenates_S64x128_S64x128_S64x128_S64x128_S64x128_S64x128_S64x128_S64x128_S512x128_d0 c l ⟨c.val / 64, by omega⟩ ⟨c.val % 64, by omega⟩
    (by show c.val = 64 * (c.val / 64) + c.val % 64; omega)).trans ?_
  refine (slab_apply H os ow hos how _ _ _).trans ?_
  rfl

theorem finM_apply (H : Inp D i B) (x : FVec Ideal S512x128 .f32) (l : Fin 128) (hx : ∀ c, x (ix2 c l) = D.oCol (tq i l) c) (c : Fin 512) :
    finM B.rd x (ix3 0 l c) = D.out (tq i l) (Ideal.ofBits FTy.f32 0x358637BD#32) c := by
  have hg : (ldF B.x10 (Rect.unit (s := S512x1) ![0, 0] S512x1.size inb_S512x1_S512x1_0_0)) (ix2 c 0) = D.gain c :=
    (congrFun (View.ld_unit_lit (Val := Elt Ideal) (e := EltTy.f32) (S := S512x1) _ B.x10 (by decide)) (ix2 c 0)).trans (H.gain c)
  unfold finM
  refine (cast3' (a := 128) (b := 512) _ shapeCasts_S128x512_S1x128x512 l c).trans ?_
  change truncf .bf16 (transpose S128x512 [1, 0] (mulf (mulf x _) (broadcastTo S512x128 (shapeCast S512x1
    (ldF B.x10 (Rect.unit (s := S512x1) ![0, 0] S512x1.size inb_S512x1_S512x1_0_0)) _) _)) _) _ (ix2 l c) = _
  generalize ldF B.x10 (Rect.unit (s := S512x1) ![0, 0] S512x1.size inb_S512x1_S512x1_0_0) = G at hg ⊢
  pointwise
  simp only [hx]
  rw [hg]
  unfold Data.out
  rw [← bits_512]

/-- What a block stores. -/
theorem outB_eq (H : Inp D i B) (l : Fin 128) (c : Fin 512) :
    outB B.rd i (ix3 0 l c) = D.out (tq i l) (Ideal.ofBits FTy.f32 0x358637BD#32) c := by
  have hw : ∀ g h l d, shapeCast S64x512 (B.rd.win (winL (owM B.rd i 0) (owM B.rd i 1)) (Rect.unit (s := S2x64x512) ![g.val, 0, 0] S1x64x512.size (inbW g)))
      shapeCasts_S1x64x512_S64x512 (ix2 d (hl h l)) = D.oW (tq i l) g h d := by
    intro g h l d
    have h0 := owM_eq H 0 h l d
    have h1 := owM_eq H 1 h l d
    generalize owM B.rd i 0 = w0 at h0 ⊢
    generalize owM B.rd i 1 = w1 at h1 ⊢
    rw [rd_win]
    refine (canon_load (A := 64) (b := 512) (a := 64) (winL w0 w1) ![g.val, 0, 0] (inbW g) shapeCasts_S1x64x512_S64x512 d (hl h l) g d rfl
      (Nat.zero_add _).symm rfl).trans ?_
    unfold winL
    refine (canon_plane (a := 64) (b := 512) ![1, 0, 0] inb_S2x64x512_S1x64x512_1_0_0 _ _ 1 rfl rfl rfl g d (hl h l)).trans ?_
    have hg : g = 1 ∨ g = 0 := by omega
    rcases hg with rfl | rfl
    · rw [if_pos rfl]
      exact (cast3' (a := 64) (b := 512) w1 _ d (hl h l)).trans h1
    · rw [if_neg (by decide)]
      refine (canon_plane (a := 64) (b := 512) ![0, 0, 0] inb_S2x64x512_S1x64x512_0_0_0 _ _ 0 rfl rfl rfl 0 d (hl h l)).trans ?_
      rw [if_pos rfl]
      exact (cast3' (a := 64) (b := 512) w0 _ d (hl h l)).trans h0
  unfold outB outM
  refine finM_apply H _ l ?_ c
  intro c
  exact stackM_apply H _ _ (fun g h l d => osM_eq H g h l d) hw c l

end Cert.Nsa
-- ==== Proof.RefC.lean ====
module

public import proofs.«01_k».proof.Proof.Comp
public import proofs.«01_k».proof.Proof.Gen.ReferenceIdeal.Read

/-! The reference's compressed branch: its scores, its probabilities and its output. -/

@[expose] public section

set_option maxRecDepth 16384

noncomputable section

namespace Cert.Nsa

open Idealize.ShloMosaic Finset
open Cert.ReferenceIdeal Cert.ReferenceIdeal.Gen Cert.ReferenceIdeal.Read

/-- The reference's ten inputs. -/
structure RArgs where
  x0 : FVec Ideal S8x4096x512 .f32
  x1 : FVec Ideal S8x4096x512 .f32
  x2 : FVec Ideal S8x4096x24 .f32
  x3 : FVec Ideal S8x255x128 .f32
  x4 : FVec Ideal S8x255x128 .f32
  x5 : FVec Ideal S8x4096x128 .f32
  x6 : FVec Ideal S8x4096x128 .f32
  x7 : FVec Ideal S8x4096x128 .f32
  x8 : FVec Ideal S8x4096x128 .f32
  x9 : FVec Ideal S512 .f32

/-- The inputs of sequence `b` hold `D`. -/
structure RIn (D : Data) (b : Fin 8) (A : RArgs) : Prop where
  q : ∀ t c, A.x0 (ix3 b t c) = ((D.q t c : ℝ) : EReal)
  qr : ∀ t c, A.x1 (ix3 b t c) = ((D.qr t c : ℝ) : EReal)
  gate : ∀ t c, A.x2 (ix3 b t c) = D.gate t c
  kc : ∀ n c, A.x3 (ix3 b n c) = ((D.kc n c : ℝ) : EReal)
  vc : ∀ n c, A.x4 (ix3 b n c) = D.vc n c
  ks : ∀ n c, A.x5 (ix3 b n c) = ((D.ks n c : ℝ) : EReal)
  vs : ∀ n c, A.x6 (ix3 b n c) = D.vs n c
  kw : ∀ n c, A.x7 (ix3 b n c) = ((D.kw n c : ℝ) : EReal)
  vw : ∀ n c, A.x8 (ix3 b n c) = D.vw n c
  gain : ∀ c, A.x9 (ix1 c) = D.gain c

variable {D : Data} {b : Fin 8} {A : RArgs}

theorem bits_zero : Ideal.ofBits FTy.f32 0x00000000#32 = (0 : EReal) := by
  simp [Ideal.ofBits, Ideal.ieee]
theorem bits_one : Ideal.ofBits FTy.f32 0x3F800000#32 = (1 : EReal) := by
  simp [Ideal.ofBits, Ideal.ieee, -EReal.coe_mul]; norm_num
theorem bits_eighth : Ideal.ofBits FTy.f32 0x3E000000#32 = ((1 / 8 : ℝ) : EReal) := by
  simp [Ideal.ofBits, Ideal.ieee, -EReal.coe_mul]; norm_num
theorem bits_32 : Ideal.ofBits FTy.f32 0x42000000#32 = ((32 : ℝ) : EReal) := by
  simp [Ideal.ofBits, Ideal.ieee, -EReal.coe_mul]; norm_num

/-- The host's maximum along the last of five axes, from minus infinity. -/
theorem rmax {n0 n1 n2 n3 n4 : ℕ} {u : Shape} (x : (⟨5, ![n0, n1, n2, n3, n4]⟩ : Shape).Idx → EReal) (init : u.Idx → EReal)
    (h : (⟨5, ![n0, n1, n2, n3, n4]⟩ : Shape).ReducesTo [4] ⟨4, ![n0, n1, n2, n3]⟩) (hu : 0 < u.numel)
    (hi : init (Shape.Idx.first hu) = ⊥) (a : Fin n0) (b : Fin n1) (c : Fin n2) (d : Fin n3) :
    Host.reduce (FloatOps.maximumf (F := Ideal) (φ := .f32)) x init h hu (ix4 a b c d) = univ.sup fun k => x (ix5 a b c d k) := by
  show Host.reduce (max : EReal → EReal → EReal) x init h hu (ix4 a b c d) = _
  rw [Host.reduce_eq_fold, h.fold_fiber_r5_a4, hi]
  rfl

/-- A head's column as the reference's reshape counts it. -/
theorem hcol' (g : Fin 2) (h : Fin 4) (d : Fin 64) (p : g.val * 256 + h.val * 64 + d.val < 512) :
    (⟨g.val * 256 + h.val * 64 + d.val, p⟩ : Fin 512) = hcol g h d := Fin.ext (by simp only [hcol]; omega)
theorem gcol' (g : Fin 2) (d : Fin 64) (p : g.val * 64 + d.val < 128) :
    (⟨g.val * 64 + d.val, p⟩ : Fin 128) = gcol g d := Fin.ext (by simp only [gcol]; omega)

/-- A scaled inner product of real rows, keys first. -/
theorem kdot {n : ℕ} (q : Fin 4096 → Fin 512 → ℝ) (k : Fin n → Fin 128 → ℝ) (t : Fin 4096) (g : Fin 2) (h : Fin 4) (j : Fin n) :
    (∑ d, ((k j (gcol g d) : ℝ) : EReal) * ((q t (hcol g h d) : ℝ) : EReal)) * ((1 / 8 : ℝ) : EReal)
      = ((Data.score t g h q k j : ℝ) : EReal) := by
  simp only [Data.score, EReal.coe_mul, coe_sum]
  refine congrArg (· * _) (Finset.sum_congr rfl fun d _ => mul_comm _ _)
theorem qdot {n : ℕ} (q : Fin 4096 → Fin 512 → ℝ) (k : Fin n → Fin 128 → ℝ) (t : Fin 4096) (g : Fin 2) (h : Fin 4) (j : Fin n) :
    (∑ d, ((q t (hcol g h d) : ℝ) : EReal) * ((k j (gcol g d) : ℝ) : EReal)) * ((1 / 8 : ℝ) : EReal)
      = ((Data.score t g h q k j : ℝ) : EReal) := by
  simp only [Data.score, EReal.coe_mul, coe_sum]

theorem v24_eq (H : RIn D b A) (t : Fin 4096) (g : Fin 2) (h : Fin 4) (n : Fin 255) :
    val_main_v24 (F := Ideal) A.x0 A.x3 (ix5 b t g h n) = ((Data.score t g h D.q D.kc n : ℝ) : EReal) := by
  pointwise [val_main_v24, val_main_v23, val_main_v22, val_main_v21, val_main_v9, val_main_v0, val_main_cst_2]
  simp only [hcol', gcol', H.q, H.kc, bits_eighth]
  exact kdot ..

theorem v30_iff (t : Fin 4096) (n : Fin 255) :
    val_main_v30 (F := Ideal) (ix5 0 t 0 0 n) = 1#1 ↔ n ∈ Data.setC t := by
  pointwise [val_main_v30, val_main_v29, val_main_v28, val_main_v27, val_main_v26, val_main_v25, val_main_v20, val_main_v19,
    val_main_c_1, val_main_v18, val_main_v17, val_main_c, val_main_v16, val_main_v15]
  rw [muli_ofNat _ 16, addi_ofNat _ 31, sle_ofNat (by omega) (by omega)]
  simp only [Data.setC, mem_filter, mem_univ, true_and]
  omega

theorem v31_eq (H : RIn D b A) (t : Fin 4096) (g : Fin 2) (h : Fin 4) :
    Masked (Data.setC t) (Data.score t g h D.q D.kc) (fun n => val_main_v31 (F := Ideal) A.x0 A.x3 (ix5 b t g h n)) := by
  intro n
  have e := v24_eq H t g h n
  have e' := v30_iff t n
  show val_main_v31 (F := Ideal) A.x0 A.x3 (ix5 b t g h n) = _
  unfold val_main_v31 val_main_call0_v1 val_main_call0_v2
  generalize val_main_v24 (F := Ideal) A.x0 A.x3 = S at e ⊢
  generalize val_main_v30 (F := Ideal) = M at e' ⊢
  pointwise [val_main_call0_v0, val_main_cst_3]
  rw [e, select_ite]
  refine (ite_word e' _ _).trans ?_
  split
  · rfl
  · exact bits_bot

theorem max_bot (x y : EReal) (h : x = ⊥) : FloatOps.maximumf (F := Ideal) (φ := .f32) x y = y := by
  subst h; exact max_eq_right bot_le

theorem max33 (M : FVec Ideal S8x4096x2x4 .f32) (i : S8x4096x2x4.Idx) : maximumf (val_main_v33 (F := Ideal)) M i = M i :=
  max_bot _ _ bits_bot
theorem init4 : val_main_cst_4 (F := Ideal) (Shape.Idx.first h_S_) = (⊥ : EReal) := bits_bot

theorem v34_eq (A : RArgs) (t : Fin 4096) (g : Fin 2) (h : Fin 4) :
    val_main_v34 (F := Ideal) A.x0 A.x3 (ix4 b t g h)
      = univ.sup (fun n => val_main_v31 (F := Ideal) A.x0 A.x3 (ix5 b t g h n)) := by
  unfold val_main_v34
  rw [max33]
  unfold val_main_v32
  exact rmax _ _ _ _ init4 b t g h

theorem v42_eq (A : RArgs) (t : Fin 4096) (g : Fin 2) (h : Fin 4) (n : Fin 255) :
    val_main_v42 (F := Ideal) A.x0 A.x3 (ix5 b t g h n)
      = Ideal.div (Ideal.exp (val_main_v31 (F := Ideal) A.x0 A.x3 (ix5 b t g h n) - univ.sup (fun n => val_main_v31 (F := Ideal) A.x0 A.x3 (ix5 b t g h n))))
        (∑ j, Ideal.exp (val_main_v31 (F := Ideal) A.x0 A.x3 (ix5 b t g h j) - univ.sup (fun n => val_main_v31 (F := Ideal) A.x0 A.x3 (ix5 b t g h n)))) := by
  have e := v34_eq (b := b) A t g h
  unfold val_main_v42 val_main_v41 val_main_v40 val_main_v39 val_main_v38 val_main_v37 val_main_v36 val_main_v35
  generalize val_main_v34 (F := Ideal) A.x0 A.x3 = M at e ⊢
  generalize val_main_v31 (F := Ideal) A.x0 A.x3 = S at e ⊢
  pointwise [val_main_cst_6]
  rw [e]

theorem v43_eq (H : RIn D b A) (t : Fin 4096) (g : Fin 2) (h : Fin 4) (n : Fin 255) :
    val_main_v43 (F := Ideal) A.x0 A.x3 (ix5 b t g h n) = ((D.pC t g h n : ℝ) : EReal) := by
  have e := v42_eq (b := b) A t g h n
  have e' := v30_iff t n
  have hs := v31_eq H t g h
  unfold val_main_v43 val_main_call1_v1 val_main_call1_v2
  generalize val_main_v42 (F := Ideal) A.x0 A.x3 = S at e ⊢
  generalize val_main_v30 (F := Ideal) = M at e' ⊢
  pointwise [val_main_call1_v0, val_main_cst_7]
  rw [select_ite]
  refine (ite_word e' _ _).trans ?_
  unfold Data.pC
  split
  next hn =>
    rw [e]
    exact softmax_masked hs hn
  next => exact bits_zero

theorem v45_eq (H : RIn D b A) (t : Fin 4096) (g : Fin 2) (h : Fin 4) (d : Fin 64) :
    val_main_v45 (F := Ideal) A.x0 A.x3 A.x4 (ix5 b t g h d) = D.oC t g h d := by
  have e := v43_eq H t g h
  unfold val_main_v45 val_main_v44
  generalize val_main_v43 (F := Ideal) A.x0 A.x3 = P at e ⊢
  pointwise [val_main_v10]
  simp only [gcol', H.vc, e]
  refine sum_eq_soft _ _ _ _ fun n => ?_
  simp only [Data.pC]
  split <;> rfl

end Cert.Nsa
-- ==== Proof.RefW.lean ====
module

public import proofs.«01_k».proof.Proof.RefC
public import proofs.«01_k».proof.Proof.Win

/-! The reference's window branch. -/

@[expose] public section

set_option maxRecDepth 16384

noncomputable section

namespace Cert.Nsa

open Idealize.ShloMosaic Finset
open Cert.ReferenceIdeal Cert.ReferenceIdeal.Gen Cert.ReferenceIdeal.Read

variable {D : Data} {b : Fin 8} {A : RArgs}

theorem v192_eq (H : RIn D b A) (t : Fin 4096) (g : Fin 2) (h : Fin 4) (n : Fin 4096) :
    val_main_v192 (F := Ideal) A.x1 A.x7 (ix5 b t g h n) = ((Data.score t g h D.qr D.kw n : ℝ) : EReal) := by
  pointwise [val_main_v192, val_main_v191, val_main_v190, val_main_v189, val_main_v13, val_main_v1, val_main_cst_39]
  simp only [hcol', gcol', H.qr, H.kw, bits_eighth]
  exact kdot ..

theorem andi_iff (x y : BitVec 1) : IntOp.andi x y = 1#1 ↔ x = 1#1 ∧ y = 1#1 := by
  revert x y; decide

theorem v193_iff (t : Fin 4096) (n : Fin 4096) :
    val_main_v193 (F := Ideal) (ix5 0 t 0 0 n) = 1#1 ↔ n ∈ Data.setW t := by
  pointwise [val_main_v193, val_main_v188, val_main_v187, val_main_v186, val_main_v185, val_main_v184, val_main_v183, val_main_c_38,
    val_main_v182, val_main_v181, val_main_v180, val_main_v179, val_main_v178, val_main_v177, val_main_v176, val_main_v15]
  rw [andi_iff, sle_ofNat (by omega) (by omega), sub512 n.val t.val n.isLt t.isLt]
  simp only [Data.setW, mem_filter, mem_univ, true_and]

theorem v194_eq (H : RIn D b A) (t : Fin 4096) (g : Fin 2) (h : Fin 4) :
    Masked (Data.setW t) (Data.score t g h D.qr D.kw) (fun n => val_main_v194 (F := Ideal) A.x1 A.x7 (ix5 b t g h n)) := by
  intro n
  have e := v192_eq H t g h n
  have e' := v193_iff t n
  show val_main_v194 (F := Ideal) A.x1 A.x7 (ix5 b t g h n) = _
  unfold val_main_v194 val_main_call7_v1 val_main_call7_v2
  generalize val_main_v192 (F := Ideal) A.x1 A.x7 = S at e ⊢
  generalize val_main_v193 (F := Ideal) = M at e' ⊢
  pointwise [val_main_call7_v0, val_main_cst_40]
  rw [e, select_ite]
  refine (ite_word e' _ _).trans ?_
  split
  · rfl
  · exact bits_bot

theorem max196 (M : FVec Ideal S8x4096x2x4 .f32) (i : S8x4096x2x4.Idx) : maximumf (val_main_v196 (F := Ideal)) M i = M i :=
  max_bot _ _ bits_bot
theorem init41 : val_main_cst_41 (F := Ideal) (Shape.Idx.first h_S_) = (⊥ : EReal) := bits_bot

theorem v197_eq (A : RArgs) (t : Fin 4096) (g : Fin 2) (h : Fin 4) :
    val_main_v197 (F := Ideal) A.x1 A.x7 (ix4 b t g h)
      = univ.sup (fun n => val_main_v194 (F := Ideal) A.x1 A.x7 (ix5 b t g h n)) := by
  unfold val_main_v197
  rw [max196]
  unfold val_main_v195
  exact rmax _ _ _ _ init41 b t g h

theorem v205_eq (A : RArgs) (t : Fin 4096) (g : Fin 2) (h : Fin 4) (n : Fin 4096) :
    val_main_v205 (F := Ideal) A.x1 A.x7 (ix5 b t g h n)
      = Ideal.div (Ideal.exp (val_main_v194 (F := Ideal) A.x1 A.x7 (ix5 b t g h n) - univ.sup (fun n => val_main_v194 (F := Ideal) A.x1 A.x7 (ix5 b t g h n))))
        (∑ j, Ideal.exp (val_main_v194 (F := Ideal) A.x1 A.x7 (ix5 b t g h j) - univ.sup (fun n => val_main_v194 (F := Ideal) A.x1 A.x7 (ix5 b t g h n)))) := by
  have e := v197_eq (b := b) A t g h
  unfold val_main_v205 val_main_v204 val_main_v203 val_main_v202 val_main_v201 val_main_v200 val_main_v199 val_main_v198
  generalize val_main_v197 (F := Ideal) A.x1 A.x7 = M at e ⊢
  generalize val_main_v194 (F := Ideal) A.x1 A.x7 = S at e ⊢
  pointwise [val_main_cst_43]
  rw [e]

theorem v206_eq (H : RIn D b A) (t : Fin 4096) (g : Fin 2) (h : Fin 4) (n : Fin 4096) :
    val_main_v206 (F := Ideal) A.x1 A.x7 (ix5 b t g h n)
      = if n ∈ Data.setW t then ((wt (Data.setW t) (Data.score t g h D.qr D.kw) n : ℝ) : EReal) else 0 := by
  have e := v205_eq (b := b) A t g h n
  have e' := v193_iff t n
  have hs := v194_eq H t g h
  unfold val_main_v206 val_main_call8_v1 val_main_call8_v2
  generalize val_main_v205 (F := Ideal) A.x1 A.x7 = S at e ⊢
  generalize val_main_v193 (F := Ideal) = M at e' ⊢
  pointwise [val_main_call8_v0, val_main_cst_44]
  rw [select_ite]
  refine (ite_word e' _ _).trans ?_
  split
  next hn =>
    rw [e]
    exact softmax_masked hs hn
  next => exact bits_zero

theorem v208_eq (H : RIn D b A) (t : Fin 4096) (g : Fin 2) (h : Fin 4) (d : Fin 64) :
    val_main_v208 (F := Ideal) A.x1 A.x7 A.x8 (ix5 b t g h d) = D.oW t g h d := by
  have e := v206_eq H t g h
  unfold val_main_v208 val_main_v207
  generalize val_main_v206 (F := Ideal) A.x1 A.x7 = P at e ⊢
  pointwise [val_main_v14]
  simp only [gcol', H.vw, e]
  exact sum_eq_soft _ _ _ _ fun n => rfl

end Cert.Nsa
-- ==== Proof.RefS.lean ====
module

public import proofs.«01_k».proof.Proof.RefW
public import proofs.«01_k».proof.Proof.Pick

/-! The reference's importance of the blocks, and the sorted positions of the greatest. -/

@[expose] public section

set_option maxRecDepth 16384

noncomputable section

namespace Cert.Nsa

open Idealize.ShloMosaic Finset
open Cert.ReferenceIdeal Cert.ReferenceIdeal.Gen Cert.ReferenceIdeal.Read

variable {D : Data} {b : Fin 8} {A : RArgs}

theorem ovl_word : ∀ (n : Fin 255) (m : Fin 64), (IntOp.maxsi
          (IntOp.subi
            (IntOp.minsi (IntOp.addi (IntOp.muli (BitVec.ofNat 32 n.val) 16#32) 32#32)
              (IntOp.addi (IntOp.muli (BitVec.ofNat 32 m.val) 64#32) 64#32))
            (IntOp.maxsi (IntOp.muli (BitVec.ofNat 32 n.val) 16#32) (IntOp.muli (BitVec.ofNat 32 m.val) 64#32)))
          0#32).toInt = max (min (16 * (n.val : ℤ) + 32) (64 * (m.val : ℤ) + 64) - max (16 * (n.val : ℤ)) (64 * (m.val : ℤ))) 0 := by
  decide +kernel

theorem v68_eq (n : Fin 255) (m : Fin 64) : val_main_v68 (F := Ideal) (ix2 n m) = ((Data.ovl n m : ℝ) : EReal) := by
  pointwise [val_main_v68, val_main_v67, val_main_cst_12, val_main_v66, val_main_v65, val_main_v64, val_main_c_11, val_main_v63,
    val_main_v62, val_main_v61, val_main_v60, val_main_v59, val_main_v58, val_main_v57, val_main_v56, val_main_v55, val_main_v54,
    val_main_v53, val_main_c_10, val_main_v52, val_main_v51, val_main_v50, val_main_c_9, val_main_v49, val_main_v48, val_main_v47,
    val_main_c_8, val_main_v46, val_main_v18, val_main_v17, val_main_c, val_main_v16]
  rw [bits_32, Ideal.div_coe (by norm_num)]
  have e := ovl_word n m
  generalize IntOp.maxsi _ 0#32 = W at e ⊢
  change (((W.toInt : ℝ)) : EReal) * _ = _
  rw [e, ← EReal.coe_mul, Data.ovl, Int.cast_max, mul_one_div, Int.cast_zero]

theorem v70_eq (H : RIn D b A) (t : Fin 4096) (g : Fin 2) (m : Fin 64) :
    val_main_v70 (F := Ideal) A.x0 A.x3 (ix4 b t g m) = ((∑ n, (∑ h, D.pC t g h n) * Data.ovl n m : ℝ) : EReal) := by
  have e := v43_eq H t g
  have e' := v68_eq
  unfold val_main_v70 val_main_v69
  generalize val_main_v43 (F := Ideal) A.x0 A.x3 = P at e ⊢
  generalize val_main_v68 (F := Ideal) = O at e' ⊢
  pointwise [val_main_cst_13]
  simp only [e, e', coe_sum, EReal.coe_mul]

theorem floor64h : ∀ t : Fin 4096, Scalar.select
      (IntOp.andi
        (IntOp.cmpi CmpIPredicate.ne
          (if BitVec.ofNat 32 t.val = 0 then (0 : BitVec 32) else if (BitVec.ofNat 32 t.val).msb = true then -1 else 1)
          (if (64#32 : BitVec 32) = 0 then 0
          else if BitVec.msb (64#32) = true then -1 else 1))
        (IntOp.cmpi CmpIPredicate.ne (IntOp.remsi ArithUnit.host (BitVec.ofNat 32 t.val) 64#32)
          0#32))
      (IntOp.subi (IntOp.divsi ArithUnit.host (BitVec.ofNat 32 t.val) 64#32) 1#32)
      (IntOp.divsi ArithUnit.host (BitVec.ofNat 32 t.val) 64#32) =
    BitVec.ofNat 32 (t.val / 64) := by
  decide +kernel

theorem v71_eq (t : Fin 4096) : val_main_v71 (F := Ideal) (ix1 t) = BitVec.ofNat 32 (t.val / 64) := by
  pointwise [val_main_v71, val_main_call2_v13, val_main_call2_v12, val_main_call2_c_0, val_main_call2_v11, val_main_call2_v10,
    val_main_call2_v9, val_main_call2_c, val_main_call2_v8, val_main_call2_v7, val_main_call2_v6, val_main_call2_v5, val_main_call2_v4,
    val_main_call2_v3, val_main_call2_v2, val_main_call2_v1, val_main_call2_v0, val_main_c_14, val_main_v15]
  exact floor64h t

theorem forced_ori : ∀ (m c : Fin 64), IntOp.ori
          (IntOp.ori (IntOp.cmpi CmpIPredicate.eq (BitVec.ofNat 32 m.val) 0#32)
            (IntOp.cmpi CmpIPredicate.eq (BitVec.ofNat 32 m.val) (BitVec.ofNat 32 c.val)))
          (IntOp.cmpi CmpIPredicate.eq (BitVec.ofNat 32 m.val) (IntOp.subi (BitVec.ofNat 32 c.val) 1#32)) = 1#1
        ↔ (m.val = 0 ∨ m.val = c.val ∨ m.val + 1 = c.val) := by
  decide +kernel

theorem v97_eq (H : RIn D b A) (t : Fin 4096) (g : Fin 2) (m : Fin 64) :
    val_main_v97 (F := Ideal) A.x0 A.x3 (ix4 b t g m) = D.imp t g m := by
  have e := v70_eq H t g m
  have e' := v71_eq t
  unfold val_main_v97 val_main_v90
  generalize val_main_v70 (F := Ideal) A.x0 A.x3 = P at e ⊢
  pointwise [val_main_call4_v2, val_main_call4_v1, val_main_call4_v0, val_main_cst_18, val_main_v96, val_main_v95, val_main_v94,
    val_main_v93, val_main_v92, val_main_v91, val_main_v48, val_main_v47, val_main_c_8, val_main_v46, val_main_v15, val_main_call3_v2,
    val_main_call3_v1, val_main_call3_v0, val_main_cst_17, val_main_v89, val_main_v88, val_main_v87, val_main_v86, val_main_v85,
    val_main_v84, val_main_v83, val_main_c_16, val_main_v82, val_main_v81, val_main_v80, val_main_v79, val_main_v78, val_main_v77,
    val_main_v76, val_main_v75, val_main_v74, val_main_c_15, val_main_v73, val_main_v72]
  rw [e, e', muli_ofNat _ 64, select_ite]
  refine (ite_word (sle_ofNat (show m.val * 64 < 2 ^ 31 by omega) (show t.val < 2 ^ 31 by omega)) _ _).trans ?_
  unfold Data.imp
  rw [mul_comm]
  split
  · rw [select_ite]
    refine (ite_word (forced_ori m ⟨t.val / 64, by omega⟩) _ _).trans ?_
    split
    · exact bits_force
    · rfl
  · exact bits_bot

/-- The entry at position `s` of the sixteen greatest. -/
def posS (y : Fin 64 → EReal) (s : Fin 16) : Fin 64 := sortedFrom (fun p q => decide (y q < y p)) (s.castLE (by decide))

theorem iota_along (j : S8x4096x2x64.Idx) (p : Fin 64) :
    (if hd : 3 < S8x4096x2x64.rank then iotaInDim S8x4096x2x64 32 ⟨3, hd⟩ (Shape.Idx.along (s := S8x4096x2x64) j 3 p) else 0#32)
      = BitVec.ofNat 32 p.val := by
  rw [dif_pos (show 3 < S8x4096x2x64.rank by decide)]
  exact congrArg (fun q : Fin 64 => BitVec.ofNat 32 q.val) (Function.update_self (β := fun a => Fin (S8x4096x2x64.size a)) 3 p j)

theorem topK_apply (x : FVec Ideal S8x4096x2x64 .f32) (b : Fin 8) (t : Fin 4096) (g : Fin 2) (s : Fin 16) :
    (Host.topK S8x4096x2x16 3 (FloatOps.cmpfTotal (F := Ideal) (φ := .f32) .gt) x sliceFits_S8x4096x2x64_S8x4096x2x16).2 (ix4 b t g s)
      = BitVec.ofNat 32 (posS (fun m => x (ix4 b t g m)) s).val := by
  have hsl : ∀ f : S8x4096x2x64.Idx → BitVec 32, extractStridedSlice S8x4096x2x16 (fun _ => 0) f sliceFits_S8x4096x2x64_S8x4096x2x16
      (ix4 b t g s) = f (ix4 b t g ⟨s.val, by omega⟩) := by
    intro f
    pointwise
  unfold Host.topK Host.sort2
  dsimp only
  rw [dif_pos (show 3 < S8x4096x2x64.rank by decide)]
  refine (hsl _).trans ?_
  have hR : (fun k k' : Fin 64 => (FloatOps.cmpfTotal (F := Ideal) (φ := .f32) .gt
        (x (Shape.Idx.along (s := S8x4096x2x64) (ix4 b t g ⟨s.val, by omega⟩) 3 k)) (x (Shape.Idx.along (s := S8x4096x2x64) (ix4 b t g ⟨s.val, by omega⟩) 3 k')) == 1#1))
      = fun p q => decide (x (ix4 b t g q) < x (ix4 b t g p)) := by
    have ha : ∀ k : Fin 64, Shape.Idx.along (s := S8x4096x2x64) (ix4 b t g ⟨s.val, by omega⟩) 3 k = ix4 b t g k := by
      intro k
      funext a
      fin_cases a <;> rfl
    funext k k'
    rw [ha, ha]
    show (BitVec.ofBool (decide (x (ix4 b t g k') < x (ix4 b t g k))) == 1#1) = _
    cases decide (x (ix4 b t g k') < x (ix4 b t g k)) <;> rfl
  refine (iota_along _ _).trans ?_
  unfold posS
  rw [← hR]
  rfl

theorem posS_inj (y : Fin 64 → EReal) : Function.Injective (posS y) := fun _ _ h =>
  Fin.castLE_injective _ (sortedFrom_injective _ h)

theorem image_posS (y : Fin 64 → EReal) : univ.image (posS y) = sel y 16 :=
  image_sortedFrom (by decide) y _ fun _ _ => rfl

end Cert.Nsa
-- ==== Proof.RefT.lean ====
module

public import proofs.«01_k».proof.Proof.RefS

/-! The reference's selected branch: the keys of the blocks taken, gathered, and attention over them. -/

@[expose] public section

set_option maxRecDepth 16384

noncomputable section

namespace Cert.Nsa

open Idealize.ShloMosaic Finset
open Cert.ReferenceIdeal Cert.ReferenceIdeal.Gen Cert.ReferenceIdeal.Read

variable {D : Data} {b : Fin 8} {A : RArgs}

/-- The key at slot `s` of the keys of the blocks taken. -/
def tok (y : Fin 64 → EReal) (s : Fin 1024) : Fin 4096 :=
  ⟨64 * (posS y ⟨s.val / 64, by omega⟩).val + s.val % 64, by omega⟩

theorem tok_inj (y : Fin 64 → EReal) : Function.Injective (tok y) := by
  intro s s' h
  have hv : 64 * (posS y ⟨s.val / 64, by omega⟩).val + s.val % 64 = 64 * (posS y ⟨s'.val / 64, by omega⟩).val + s'.val % 64 :=
    congrArg Fin.val h
  have hp : posS y ⟨s.val / 64, by omega⟩ = posS y ⟨s'.val / 64, by omega⟩ := Fin.ext (by omega)
  have hq := congrArg Fin.val (posS_inj y hp)
  simp only at hq
  exact Fin.ext (by omega)

/-- The slots whose key the query sees. -/
def NS (y : Fin 64 → EReal) (t : Fin 4096) : Finset (Fin 1024) := {s | (tok y s).val ≤ t.val}

theorem image_tok (D : Data) (t : Fin 4096) (g : Fin 2) : (NS (D.imp t g) t).image (tok (D.imp t g)) = D.setS t g := by
  ext k
  simp only [NS, Data.setS, mem_image, mem_filter, mem_univ, true_and, ← image_posS]
  constructor
  · rintro ⟨s, hs, rfl⟩
    refine ⟨⟨⟨s.val / 64, by omega⟩, Fin.ext ?_⟩, hs⟩
    simp only [tok]
    omega
  · rintro ⟨⟨p, hp⟩, hk⟩
    have hp' : (posS (D.imp t g) p).val = k.val / 64 := congrArg Fin.val hp
    have e : tok (D.imp t g) ⟨64 * p.val + k.val % 64, by omega⟩ = k := by
      have h1 : (⟨(64 * p.val + k.val % 64) / 64, by omega⟩ : Fin 16) = p := Fin.ext (by simp only; omega)
      refine Fin.ext ?_
      simp only [tok, h1, hp']
      omega
    exact ⟨_, by rw [e]; exact hk, e⟩

theorem v106_eq (H : RIn D b A) (t : Fin 4096) (g : Fin 2) (s : Fin 1024) :
    val_main_v106 (F := Ideal) A.x0 A.x3 (ix4 b t g s) = BitVec.ofNat 32 (tok (D.imp t g) s).val := by
  have e : ∀ s : Fin 16, val_main_indices (F := Ideal) A.x0 A.x3 (ix4 b t g s) = BitVec.ofNat 32 (posS (D.imp t g) s).val := by
    intro s
    have h := topK_apply (val_main_v97 (F := Ideal) A.x0 A.x3) b t g s
    rw [show (fun m => val_main_v97 (F := Ideal) A.x0 A.x3 (ix4 b t g m)) = D.imp t g from funext fun m => v97_eq H t g m] at h
    exact h
  unfold val_main_v106 val_main_v105 val_main_v103 val_main_v100 val_main_v98
  generalize val_main_indices (F := Ideal) A.x0 A.x3 = I at e ⊢
  pointwise [val_main_v104, val_main_v102, val_main_v101, val_main_v99, val_main_c_19]
  rw [e, muli_ofNat _ 64, addi_ofNat]
  simp only [tok]
  rw [mul_comm]

/-- A word that names a small number is not negative. -/
theorem wrap_word (n c : ℕ) (h : n < 2 ^ 31) :
    Scalar.select (IntOp.cmpi .slt (BitVec.ofNat 32 n) 0#32) (IntOp.addi (BitVec.ofNat 32 n) (BitVec.ofNat 32 c)) (BitVec.ofNat 32 n)
      = BitVec.ofNat 32 n := by
  rw [select_ite, if_neg]
  rw [slt_ofNat h (b := 0) (by norm_num)]
  omega

theorem start_read (n m : ℕ) (h : n ≤ m) (hm : m < 2 ^ 31) : min (BitVec.ofNat 32 n).toInt.toNat m = n := by
  rw [toInt_small n (by omega), Int.toNat_natCast]
  omega

/-- The gather of rows named by three words. -/
theorem gather_row3 (x : FVec Ideal S8x4096x2x64 .f32) (I : IVec S8x4096x2x1024x3 32) (b : Fin 8) (t : Fin 4096) (g : Fin 2)
    (s : Fin 1024) (d : Fin 64) (k : Fin 4096) (h0 : I (ix5 b t g s 0) = BitVec.ofNat 32 b.val)
    (h1 : I (ix5 b t g s 1) = BitVec.ofNat 32 k.val) (h2 : I (ix5 b t g s 2) = BitVec.ofNat 32 g.val) :
    Host.gather gather_S8x4096x2x64_S8x4096x2x1024x3_S8x4096x2x1024x64_4_012_n_n_012_4_11164 x I (ix5 b t g s d) = x (ix4 b k g d) := by
  unfold Host.gather
  refine congrArg x ?_
  have hsi : ∀ (c : Fin 3) (hc : c.val < 3), gather_S8x4096x2x64_S8x4096x2x1024x3_S8x4096x2x1024x64_4_012_n_n_012_4_11164.siIdx (ix5 b t g s d) ⟨c.val, hc⟩
      = ix5 b t g s c := by
    intro c hc
    funext a
    fin_cases a <;> rfl
  funext a
  refine Fin.ext ?_
  show GatherDims.start _ (ix5 b t g s d) I a + GatherDims.batchCoord _ (ix5 b t g s d) a + GatherDims.offCoord _ (ix5 b t g s d) a = _
  rw [GatherDims.batchCoord_eq_zero _ _ _ List.not_mem_nil]
  have ha : a = 0 ∨ a = 1 ∨ a = 2 ∨ a = 3 := by fin_cases a <;> simp
  rcases ha with rfl | rfl | rfl | rfl
  · rw [GatherDims.offCoord_eq_zero _ _ _ (fun h => ((GatherDims.mem_sKept _ _).mp h).1 (by decide))]
    show min (I (GatherDims.siIdx _ (ix5 b t g s d) ⟨(0 : Fin 3).val, _⟩)).toInt.toNat 7 = b.val
    exact (congrArg (fun i => min (I i).toInt.toNat 7) (hsi 0 (by decide))).trans
      ((congrArg (fun w : BitVec 32 => min w.toInt.toNat 7) h0).trans (start_read _ _ (by omega) (by norm_num)))
  · rw [GatherDims.offCoord_eq_zero _ _ _ (fun h => ((GatherDims.mem_sKept _ _).mp h).1 (by decide))]
    show min (I (GatherDims.siIdx _ (ix5 b t g s d) ⟨(1 : Fin 3).val, _⟩)).toInt.toNat 4095 = k.val
    exact (congrArg (fun i => min (I i).toInt.toNat 4095) (hsi 1 (by decide))).trans
      ((congrArg (fun w : BitVec 32 => min w.toInt.toNat 4095) h1).trans (start_read _ _ (by omega) (by norm_num)))
  · rw [GatherDims.offCoord_eq_zero _ _ _ (fun h => ((GatherDims.mem_sKept _ _).mp h).1 (by decide))]
    show min (I (GatherDims.siIdx _ (ix5 b t g s d) ⟨(2 : Fin 3).val, _⟩)).toInt.toNat 1 = g.val
    exact (congrArg (fun i => min (I i).toInt.toNat 1) (hsi 2 (by decide))).trans
      ((congrArg (fun w : BitVec 32 => min w.toInt.toNat 1) h2).trans (start_read _ _ (by omega) (by norm_num)))
  · show 0 + 0 + d.val = d.val
    omega

theorem v131_eq (H : RIn D b A) (t : Fin 4096) (g : Fin 2) (s : Fin 1024) :
    val_main_v131 (F := Ideal) A.x0 A.x3 (ix5 b t g s 0) = BitVec.ofNat 32 b.val
    ∧ val_main_v131 (F := Ideal) A.x0 A.x3 (ix5 b t g s 1) = BitVec.ofNat 32 (tok (D.imp t g) s).val
    ∧ val_main_v131 (F := Ideal) A.x0 A.x3 (ix5 b t g s 2) = BitVec.ofNat 32 g.val := by
  have e := v106_eq H t g s
  unfold val_main_v131 val_main_v129 val_main_v120 val_main_v119 val_main_v117
  generalize val_main_v106 (F := Ideal) A.x0 A.x3 = I at e ⊢
  refine ⟨?_, ?_, ?_⟩
  · pointwise [val_main_v128, val_main_v126, val_main_v115, val_main_v114, val_main_v113, val_main_c_21, val_main_v112, val_main_v111,
      val_main_c_20, val_main_v108, val_main_v107]
    exact wrap_word b.val 8 (by omega)
  · pointwise [val_main_v118, val_main_c_23, val_main_v116, val_main_c_22]
    rw [e]
    exact wrap_word _ 4096 (by omega)
  · pointwise [val_main_v130, val_main_v127, val_main_v125, val_main_v124, val_main_v123, val_main_c_25, val_main_v122, val_main_v121,
      val_main_c_24, val_main_v110, val_main_v109]
    exact wrap_word g.val 2 (by omega)

theorem v153_eq (H : RIn D b A) (t : Fin 4096) (g : Fin 2) (s : Fin 1024) :
    val_main_v153 (F := Ideal) A.x0 A.x3 (ix5 b t g s 0) = BitVec.ofNat 32 b.val
    ∧ val_main_v153 (F := Ideal) A.x0 A.x3 (ix5 b t g s 1) = BitVec.ofNat 32 (tok (D.imp t g) s).val
    ∧ val_main_v153 (F := Ideal) A.x0 A.x3 (ix5 b t g s 2) = BitVec.ofNat 32 g.val := by
  have e := v106_eq H t g s
  unfold val_main_v153 val_main_v151 val_main_v142 val_main_v141 val_main_v139
  generalize val_main_v106 (F := Ideal) A.x0 A.x3 = I at e ⊢
  refine ⟨?_, ?_, ?_⟩
  · pointwise [val_main_v150, val_main_v148, val_main_v137, val_main_v136, val_main_v135, val_main_c_27, val_main_v134, val_main_v133,
      val_main_c_26, val_main_v108, val_main_v107]
    exact wrap_word b.val 8 (by omega)
  · pointwise [val_main_v140, val_main_c_29, val_main_v138, val_main_c_28]
    rw [e]
    exact wrap_word _ 4096 (by omega)
  · pointwise [val_main_v152, val_main_v149, val_main_v147, val_main_v146, val_main_v145, val_main_c_31, val_main_v144, val_main_v143,
      val_main_c_30, val_main_v110, val_main_v109]
    exact wrap_word g.val 2 (by omega)

theorem v132_eq (H : RIn D b A) (t : Fin 4096) (g : Fin 2) (s : Fin 1024) (d : Fin 64) :
    val_main_v132 (F := Ideal) A.x0 A.x3 A.x5 (ix5 b t g s d) = ((D.ks (tok (D.imp t g) s) (gcol g d) : ℝ) : EReal) := by
  obtain ⟨h0, h1, h2⟩ := v131_eq H t g s
  unfold val_main_v132
  refine (gather_row3 _ _ b t g s d _ h0 h1 h2).trans ?_
  pointwise [val_main_v11]
  simp only [gcol', H.ks]

theorem v154_eq (H : RIn D b A) (t : Fin 4096) (g : Fin 2) (s : Fin 1024) (d : Fin 64) :
    val_main_v154 (F := Ideal) A.x0 A.x3 A.x6 (ix5 b t g s d) = D.vs (tok (D.imp t g) s) (gcol g d) := by
  obtain ⟨h0, h1, h2⟩ := v153_eq H t g s
  unfold val_main_v154
  refine (gather_row3 _ _ b t g s d _ h0 h1 h2).trans ?_
  pointwise [val_main_v12]
  simp only [gcol', H.vs]

theorem v157_eq (H : RIn D b A) (t : Fin 4096) (g : Fin 2) (h : Fin 4) (s : Fin 1024) :
    val_main_v157 (F := Ideal) A.x0 A.x1 A.x3 A.x5 (ix5 b t g h s)
      = ((Data.score t g h D.qr D.ks (tok (D.imp t g) s) : ℝ) : EReal) := by
  have e := v132_eq H t g s
  unfold val_main_v157 val_main_v155
  generalize val_main_v132 (F := Ideal) A.x0 A.x3 A.x5 = K at e ⊢
  pointwise [val_main_v156, val_main_v1, val_main_cst_32]
  simp only [hcol', e, H.qr, bits_eighth]
  exact qdot ..

theorem v161_iff (H : RIn D b A) (t : Fin 4096) (g : Fin 2) (s : Fin 1024) :
    val_main_v161 (F := Ideal) A.x0 A.x3 (ix5 b t g 0 s) = 1#1 ↔ s ∈ NS (D.imp t g) t := by
  have e := v106_eq H t g s
  unfold val_main_v161 val_main_v160
  generalize val_main_v106 (F := Ideal) A.x0 A.x3 = I at e ⊢
  pointwise [val_main_v159, val_main_v158, val_main_v15]
  rw [e, sle_ofNat (by omega) (by omega)]
  simp only [NS, mem_filter, mem_univ, true_and]

theorem v162_eq (H : RIn D b A) (t : Fin 4096) (g : Fin 2) (h : Fin 4) :
    Masked (NS (D.imp t g) t) (fun s => Data.score t g h D.qr D.ks (tok (D.imp t g) s))
      (fun n => val_main_v162 (F := Ideal) A.x0 A.x1 A.x3 A.x5 (ix5 b t g h n)) := by
  intro n
  have e := v157_eq H t g h n
  have e' := v161_iff H t g n
  show val_main_v162 (F := Ideal) A.x0 A.x1 A.x3 A.x5 (ix5 b t g h n) = _
  unfold val_main_v162 val_main_call5_v1 val_main_call5_v2
  generalize val_main_v157 (F := Ideal) A.x0 A.x1 A.x3 A.x5 = S at e ⊢
  generalize val_main_v161 (F := Ideal) A.x0 A.x3 = M at e' ⊢
  pointwise [val_main_call5_v0, val_main_cst_33]
  rw [e, select_ite]
  refine (ite_word e' _ _).trans ?_
  split
  · rfl
  · exact bits_bot

theorem max164 (M : FVec Ideal S8x4096x2x4 .f32) (i : S8x4096x2x4.Idx) : maximumf (val_main_v164 (F := Ideal)) M i = M i :=
  max_bot _ _ bits_bot
theorem init34 : val_main_cst_34 (F := Ideal) (Shape.Idx.first h_S_) = (⊥ : EReal) := bits_bot

theorem v165_eq (A : RArgs) (t : Fin 4096) (g : Fin 2) (h : Fin 4) :
    val_main_v165 (F := Ideal) A.x0 A.x1 A.x3 A.x5 (ix4 b t g h)
      = univ.sup (fun n => val_main_v162 (F := Ideal) A.x0 A.x1 A.x3 A.x5 (ix5 b t g h n)) := by
  unfold val_main_v165
  rw [max164]
  unfold val_main_v163
  exact rmax _ _ _ _ init34 b t g h

theorem v173_eq (A : RArgs) (t : Fin 4096) (g : Fin 2) (h : Fin 4) (n : Fin 1024) :
    val_main_v173 (F := Ideal) A.x0 A.x1 A.x3 A.x5 (ix5 b t g h n)
      = Ideal.div (Ideal.exp (val_main_v162 (F := Ideal) A.x0 A.x1 A.x3 A.x5 (ix5 b t g h n) - univ.sup (fun n => val_main_v162 (F := Ideal) A.x0 A.x1 A.x3 A.x5 (ix5 b t g h n))))
        (∑ j, Ideal.exp (val_main_v162 (F := Ideal) A.x0 A.x1 A.x3 A.x5 (ix5 b t g h j) - univ.sup (fun n => val_main_v162 (F := Ideal) A.x0 A.x1 A.x3 A.x5 (ix5 b t g h n)))) := by
  have e := v165_eq (b := b) A t g h
  unfold val_main_v173 val_main_v172 val_main_v171 val_main_v170 val_main_v169 val_main_v168 val_main_v167 val_main_v166
  generalize val_main_v165 (F := Ideal) A.x0 A.x1 A.x3 A.x5 = M at e ⊢
  generalize val_main_v162 (F := Ideal) A.x0 A.x1 A.x3 A.x5 = S at e ⊢
  pointwise [val_main_cst_36]
  rw [e]

theorem v174_eq (H : RIn D b A) (t : Fin 4096) (g : Fin 2) (h : Fin 4) (n : Fin 1024) :
    val_main_v174 (F := Ideal) A.x0 A.x1 A.x3 A.x5 (ix5 b t g h n)
      = if n ∈ NS (D.imp t g) t then
          ((wt (NS (D.imp t g) t) (fun s => Data.score t g h D.qr D.ks (tok (D.imp t g) s)) n : ℝ) : EReal) else 0 := by
  have e := v173_eq (b := b) A t g h n
  have e' := v161_iff H t g n
  have hs := v162_eq H t g h
  unfold val_main_v174 val_main_call6_v1 val_main_call6_v2
  generalize val_main_v173 (F := Ideal) A.x0 A.x1 A.x3 A.x5 = S at e ⊢
  generalize val_main_v161 (F := Ideal) A.x0 A.x3 = M at e' ⊢
  pointwise [val_main_call6_v0, val_main_cst_37]
  rw [select_ite]
  refine (ite_word e' _ _).trans ?_
  split
  next hn =>
    rw [e]
    exact softmax_masked hs hn
  next => exact bits_zero

theorem v175_eq (H : RIn D b A) (t : Fin 4096) (g : Fin 2) (h : Fin 4) (d : Fin 64) :
    val_main_v175 (F := Ideal) A.x0 A.x1 A.x3 A.x5 A.x6 (ix5 b t g h d) = D.oS t g h d := by
  have e := v174_eq H t g h
  have e' := fun s => v154_eq H t g s d
  unfold val_main_v175
  generalize val_main_v174 (F := Ideal) A.x0 A.x1 A.x3 A.x5 = P at e ⊢
  generalize val_main_v154 (F := Ideal) A.x0 A.x3 A.x6 = V at e' ⊢
  pointwise
  rw [Data.oS, ← image_tok, soft_image (tok_inj _).injOn]
  refine Eq.trans (Finset.sum_congr rfl fun n _ => ?_) (sum_eq_soft _ _ _ (fun n => P (ix5 b t g h n)) e)
  rw [e', mul_comm]

end Cert.Nsa
-- ==== Proof.RefO.lean ====
module

public import proofs.«01_k».proof.Proof.RefT

/-! The reference's output: the branches under their gates, normalised. -/

@[expose] public section

set_option maxRecDepth 16384

noncomputable section

namespace Cert.Nsa

open Idealize.ShloMosaic Finset
open Cert.ReferenceIdeal Cert.ReferenceIdeal.Gen Cert.ReferenceIdeal.Read

variable {D : Data} {b : Fin 8} {A : RArgs}

theorem tcol' (g : Fin 2) (h : Fin 4) (r : Fin 3) (p : g.val * 12 + h.val * 3 + r.val < 24) :
    (⟨g.val * 12 + h.val * 3 + r.val, p⟩ : Fin 24) = tcol g h r := Fin.ext (by simp only [tcol]; omega)

theorem v8_eq (H : RIn D b A) (t : Fin 4096) (g : Fin 2) (h : Fin 4) (r : Fin 3) :
    val_main_v8 (F := Ideal) A.x2 (ix5 b t g h r) = Ideal.logistic (D.gate t (tcol g h r)) := by
  pointwise [val_main_v8, val_main_v7, val_main_v6, val_main_cst_0, val_main_v5, val_main_v4, val_main_cst, val_main_v3, val_main_v2]
  simp only [tcol', H.gate]
  rfl

theorem v219_eq (H : RIn D b A) (t : Fin 4096) (g : Fin 2) (h : Fin 4) (d : Fin 64) :
    val_main_v219 (F := Ideal) A.x0 A.x1 A.x2 A.x3 A.x4 A.x5 A.x6 A.x7 A.x8 (ix5 b t g h d) = D.o t g h d := by
  have e := v8_eq H t g h
  have e1 := v45_eq H t g h d
  have e2 := v175_eq H t g h d
  have e3 := v208_eq H t g h d
  unfold val_main_v219 val_main_v218 val_main_v217 val_main_v216 val_main_v215 val_main_v214 val_main_v213 val_main_v212 val_main_v211
    val_main_v210 val_main_v209
  generalize val_main_v8 (F := Ideal) A.x2 = G at e ⊢
  generalize val_main_v45 (F := Ideal) A.x0 A.x3 A.x4 = X at e1 ⊢
  generalize val_main_v175 (F := Ideal) A.x0 A.x1 A.x3 A.x5 A.x6 = Y at e2 ⊢
  generalize val_main_v208 (F := Ideal) A.x1 A.x7 A.x8 = Z at e3 ⊢
  pointwise
  rw [e1, e2, e3, e, e, e, Data.o]

theorem v220_eq (H : RIn D b A) (t : Fin 4096) (c : Fin 512) :
    val_main_v220 (F := Ideal) A.x0 A.x1 A.x2 A.x3 A.x4 A.x5 A.x6 A.x7 A.x8 (ix3 b t c) = D.oCol t c := by
  have e := v219_eq H t
  unfold val_main_v220
  generalize val_main_v219 (F := Ideal) A.x0 A.x1 A.x2 A.x3 A.x4 A.x5 A.x6 A.x7 A.x8 = X at e ⊢
  pointwise
  rw [e, Data.oCol]
  have h : (⟨c.val / 256, by omega⟩ : Fin 2) = ⟨c.val / 64 / 4, by omega⟩ := Fin.ext (by simp only; omega)
  rw [h]

theorem v234_eq (H : RIn D b A) (t : Fin 4096) (c : Fin 512) :
    val_main_v234 (F := Ideal) A.x0 A.x1 A.x2 A.x3 A.x4 A.x5 A.x6 A.x7 A.x8 A.x9 (ix3 b t c)
      = D.out t (Ideal.ofBits FTy.f32 0x358637BD#32) c := by
  have e := v220_eq H t
  unfold val_main_v234 val_main_v233 val_main_v232 val_main_v231 val_main_v230 val_main_v229 val_main_v228 val_main_v227 val_main_v226
    val_main_v225 val_main_v224 val_main_v223 val_main_v222 val_main_v221
  generalize val_main_v220 (F := Ideal) A.x0 A.x1 A.x2 A.x3 A.x4 A.x5 A.x6 A.x7 A.x8 = X at e ⊢
  pointwise [val_main_cst_45, val_main_cst_46, val_main_cst_47]
  simp only [e, H.gain, bits_512]
  rfl

end Cert.Nsa
-- ==== Proof.Table.lean ====
module

public import proofs.«01_k».proof.Proof.Base

/-! The constant table of overlaps that the kernel is given. -/

@[expose] public section

set_option maxRecDepth 16384

noncomputable section

namespace Cert.Nsa

open Idealize.ShloMosaic
open Cert.KernelIdeal Cert.KernelIdeal.Gen

/-- The overlap of a selection block and a compressed block, in positions. -/
def ovn (a n : ℕ) : ℕ := min (16 * n + 32) (64 * a + 64) - max (16 * n) (64 * a)

/-- The table's word for a selection block and a compressed block: nothing, a half, or the whole. -/
theorem table_word : ∀ (a : Fin 64) (n : Fin 255),
    ovn a.val n.val = 0 ∧ lit0t (256 * a.val + n.val) = 0x0000#16 ∨ ovn a.val n.val = 16 ∧ lit0t (256 * a.val + n.val) = 0x3F00#16 ∨
      ovn a.val n.val = 32 ∧ lit0t (256 * a.val + n.val) = 0x3F80#16 := by
  decide +kernel

theorem ovl_ovn (a : Fin 64) (n : Fin 255) : Data.ovl n a = (ovn a.val n.val : ℝ) / 32 := by
  have h : max (min (16 * (n.val : ℤ) + 32) (64 * (a.val : ℤ) + 64) - max (16 * (n.val : ℤ)) (64 * (a.val : ℤ))) 0 = (ovn a.val n.val : ℤ) := by
    unfold ovn; omega
  have h' := congrArg (fun z : ℤ => (z : ℝ)) h
  simp only [Int.cast_max, Int.cast_zero, Int.cast_natCast] at h'
  rw [Data.ovl, ← h']

theorem word_zero : Ideal.ofBits FTy.bf16 0x0000#16 = ((0 : ℝ) : EReal) := by
  simp [Ideal.ofBits, Ideal.ieee]
theorem word_half : Ideal.ofBits FTy.bf16 0x3F00#16 = ((1 / 2 : ℝ) : EReal) := by
  simp [Ideal.ofBits, Ideal.ieee, -EReal.coe_mul]; norm_num
theorem word_one : Ideal.ofBits FTy.bf16 0x3F80#16 = ((1 : ℝ) : EReal) := by
  simp [Ideal.ofBits, Ideal.ieee, -EReal.coe_mul]; norm_num

theorem row_major (a : Fin 64) (n : Fin 256) : (S64x256.rowMajor (ix2 a n)).val = 256 * a.val + n.val := by
  have h := Shape.rowMajor_val_two (d := ![64, 256]) (ix2 a n)
  refine h.trans ?_
  show a.val * 256 + n.val = _
  omega

/-- The table's entries are the overlaps. -/
theorem table_ovl (a : Fin 64) (n : Fin 255) :
    Ideal.ofBits FTy.bf16 (lit0 (S64x256.rowMajor (ix2 a n.castSucc))) = ((Data.ovl n a : ℝ) : EReal) := by
  have e : lit0 (S64x256.rowMajor (ix2 a n.castSucc)) = lit0t (256 * a.val + n.val) := by
    show lit0t (S64x256.rowMajor (ix2 a n.castSucc)).val = _
    rw [row_major]
    rfl
  rw [e, ovl_ovn]
  rcases table_word a n with ⟨h, h'⟩ | ⟨h, h'⟩ | ⟨h, h'⟩
  · rw [h, h', word_zero]; norm_num
  · rw [h, h', word_half]; norm_num
  · rw [h, h', word_one]; norm_num

end Cert.Nsa
-- ==== Proof.Host.lean ====
module

public import proofs.«01_k».proof.Proof.Outp
public import proofs.«01_k».proof.Proof.RefO
public import proofs.«01_k».proof.Proof.Table
public import Idealize.ShloMosaic.Lib.Claim

/-! What the host's operations put in the kernel's arrays, and so what each grid point's blocks hold. -/

@[expose] public section

set_option maxRecDepth 16384

noncomputable section

namespace Cert.Nsa

open Idealize.ShloMosaic Idealize.ShloMosaic.TcCoe Finset
open Cert.KernelIdeal Cert.KernelIdeal.Gen

/-- The ten arguments as a device holds them at the start. -/
def argsOf (m : (ℓ : Loc nD τ sig) → Buf (Elt Ideal) ℓ) (c : Dev nD) : RArgs where
  x0 := m (c, Proc.devRef .tc main_arg0)
  x1 := m (c, Proc.devRef .tc main_arg1)
  x2 := m (c, Proc.devRef .tc main_arg2)
  x3 := m (c, Proc.devRef .tc main_arg3)
  x4 := m (c, Proc.devRef .tc main_arg4)
  x5 := m (c, Proc.devRef .tc main_arg5)
  x6 := m (c, Proc.devRef .tc main_arg6)
  x7 := m (c, Proc.devRef .tc main_arg7)
  x8 := m (c, Proc.devRef .tc main_arg8)
  x9 := m (c, Proc.devRef .tc main_arg9)

/-- The queries and keys are real numbers. -/
structure Reals (A : RArgs) : Prop where
  q : ∀ j, A.x0 j = (((A.x0 j : EReal).toReal : ℝ) : EReal)
  qr : ∀ j, A.x1 j = (((A.x1 j : EReal).toReal : ℝ) : EReal)
  kc : ∀ j, A.x3 j = (((A.x3 j : EReal).toReal : ℝ) : EReal)
  ks : ∀ j, A.x5 j = (((A.x5 j : EReal).toReal : ℝ) : EReal)
  kw : ∀ j, A.x7 j = (((A.x7 j : EReal).toReal : ℝ) : EReal)

/-- One sequence's inputs. -/
def dataOf (A : RArgs) (b : Fin 8) : Data where
  q t c := (A.x0 (ix3 b t c) : EReal).toReal
  qr t c := (A.x1 (ix3 b t c) : EReal).toReal
  gate t c := A.x2 (ix3 b t c)
  kc n c := (A.x3 (ix3 b n c) : EReal).toReal
  vc n c := A.x4 (ix3 b n c)
  ks n c := (A.x5 (ix3 b n c) : EReal).toReal
  vs n c := A.x6 (ix3 b n c)
  kw n c := (A.x7 (ix3 b n c) : EReal).toReal
  vw n c := A.x8 (ix3 b n c)
  gain c := A.x9 (ix1 c)

theorem rin {A : RArgs} (H : Reals A) (b : Fin 8) : RIn (dataOf A b) b A where
  q _ _ := H.q _
  qr _ _ := H.qr _
  gate _ _ := rfl
  kc _ _ := H.kc _
  vc _ _ := rfl
  ks _ _ := H.ks _
  vs _ _ := rfl
  kw _ _ := H.kw _
  vw _ _ := rfl
  gain _ := rfl

variable (m : (ℓ : Loc nD τ sig) → Buf (Elt Ideal) ℓ) (c : Dev nD) (t : Fin cfg0.N)

/-! ## The arrays -/

theorem bits_two : Ideal.ofBits FTy.f32 0x40000000#32 = ((2 : ℝ) : EReal) := by
  simp [Ideal.ofBits, Ideal.ieee, -EReal.coe_mul]; norm_num

theorem log_two : Ideal.log ((2 : ℝ) : EReal) = ((Real.log 2 : ℝ) : EReal) := by
  show (if (2 : ℝ) ≤ 0 then (⊥ : EReal) else ((Real.log 2 : ℝ) : EReal)) = _
  rw [if_neg (by norm_num)]

theorem scale_eq : Ideal.div (Ideal.ofBits FTy.f32 1040187392#32) (Ideal.log (Ideal.ofBits FTy.f32 1073741824#32)) = ((κs : ℝ) : EReal) := by
  have h : Real.log 2 ≠ 0 := (Real.log_pos (by norm_num)).ne'
  have e1 := bits_eighth
  have e2 := bits_two
  rw [show (1040187392#32) = 0x3E000000#32 from rfl, show (1073741824#32) = 0x40000000#32 from rfl, e1, e2, log_two, Ideal.div_coe h,
    ← EReal.coe_mul, κs, mul_one_div]

theorem V5 (b : Fin 8) (k : Fin 512) (l : Fin 4096) :
    (V m c main_v5 : FVec Ideal S8x512x4096 .bf16) (ix3 b k l) = (argsOf m c).x0 (ix3 b l k) * ((κs : ℝ) : EReal) := by
  simp only [V, hostOps0, hostOps0_1, hostOps0_2, hostOps0_3, hostOps0_4, List.flatten_cons, List.flatten_nil, List.cons_append, List.nil_append, List.append_nil]
  entry_read; pointwise
  exact congrArg (fun z : EReal => (argsOf m c).x0 (ix3 b l k) * z) scale_eq
theorem V9 (b : Fin 8) (k : Fin 512) (l : Fin 4096) :
    (V m c main_v9 : FVec Ideal S8x512x4096 .bf16) (ix3 b k l) = (argsOf m c).x1 (ix3 b l k) * ((κs : ℝ) : EReal) := by
  simp only [V, hostOps0, hostOps0_1, hostOps0_2, hostOps0_3, hostOps0_4, List.flatten_cons, List.flatten_nil, List.cons_append, List.nil_append, List.append_nil]
  entry_read; pointwise
  exact congrArg (fun z : EReal => (argsOf m c).x1 (ix3 b l k) * z) scale_eq

theorem pad_gate (x : FVec Ideal S8x4096x24 .f32) (z : FVec Ideal S_ .f32) (b : Fin 8) (k : Fin 24) (l : Fin 4096) (p : 36 + k.val < 128) :
    pad S8x4096x128 ![0, 0, 36] ![0, 0, 68] ![0, 0, 0] x z pads_S8x4096x24_S8x4096x128_000_000_36680 h_S_ (ix3 b l ⟨36 + k.val, p⟩) = x (ix3 b l k) := by
  pointwise
theorem V11 (b : Fin 8) (k : Fin 24) (l : Fin 4096) :
    (V m c main_v11 : FVec Ideal S8x128x4096 .f32) (ix3 b ⟨36 + k.val, by omega⟩ l) = (argsOf m c).x2 (ix3 b l k) := by
  simp only [V, hostOps0, hostOps0_1, hostOps0_2, hostOps0_3, hostOps0_4, List.flatten_cons, List.flatten_nil, List.cons_append, List.nil_append, List.append_nil]
  entry_read; pointwise
  exact pad_gate _ _ b k l _

theorem pad_row (x : FVec Ideal S8x255x256 .f32) (z : FVec Ideal S_ .f32) (b : Fin 8) (n : Fin 255) (k : Fin 256) :
    pad S8x256x256 ![0, 0, 0] ![0, 1, 0] ![0, 0, 0] x z pads_S8x255x256_S8x256x256_000_010_000 h_S_ (ix3 b n.castSucc k) = x (ix3 b n k) := by
  pointwise
  exact dif_pos n.isLt
theorem cat_lo (x y : FVec Ideal S8x255x128 .f32) (b : Fin 8) (n : Fin 255) (k : Fin 128) (p : k.val < 256) :
    concatenate S8x255x256 2 [⟨S8x255x128, x⟩, ⟨S8x255x128, y⟩] concatenates_S8x255x128_S8x255x128_S8x255x256_d2 (ix3 b n ⟨k.val, p⟩) = x (ix3 b n k) := by
  pointwise
theorem cat_hi (x y : FVec Ideal S8x255x128 .f32) (b : Fin 8) (n : Fin 255) (k : Fin 128) (p : 128 + k.val < 256) :
    concatenate S8x255x256 2 [⟨S8x255x128, x⟩, ⟨S8x255x128, y⟩] concatenates_S8x255x128_S8x255x128_S8x255x256_d2 (ix3 b n ⟨128 + k.val, p⟩) = y (ix3 b n k) := by
  pointwise

theorem V17 (b : Fin 8) (k : Fin 255) (l : Fin 128) :
    (V m c main_v17 : FVec Ideal S8x256x256 .bf16) (ix3 b k.castSucc ⟨l.val, by omega⟩) = (argsOf m c).x3 (ix3 b k l) := by
  simp only [V, hostOps0, hostOps0_1, hostOps0_2, hostOps0_3, hostOps0_4, List.flatten_cons, List.flatten_nil, List.cons_append, List.nil_append, List.append_nil]
  entry_read; pointwise
  exact (pad_row _ _ b k _).trans (cat_lo _ _ b k l _)
theorem V16 (b : Fin 8) (k : Fin 255) (l : Fin 128) :
    (V m c main_v16 : FVec Ideal S8x128x256 .bf16) (ix3 b l k.castSucc) = (argsOf m c).x4 (ix3 b k l) := by
  simp only [V, hostOps0, hostOps0_1, hostOps0_2, hostOps0_3, hostOps0_4, List.flatten_cons, List.flatten_nil, List.cons_append, List.nil_append, List.append_nil]
  entry_read; pointwise
  exact (pad_row _ _ b k _).trans (cat_hi _ _ b k l _)
theorem V18 (b : Fin 8) (k : Fin 4096) (l : Fin 128) :
    (V m c main_v18 : FVec Ideal S8x4096x128 .bf16) (ix3 b k l) = (argsOf m c).x5 (ix3 b k l) := by
  simp only [V, hostOps0, hostOps0_1, hostOps0_2, hostOps0_3, hostOps0_4, List.flatten_cons, List.flatten_nil, List.cons_append, List.nil_append, List.append_nil]
  entry_read; pointwise
  rfl
theorem V22 (b : Fin 8) (k : Fin 4096) (l : Fin 128) :
    (V m c main_v22 : FVec Ideal S8x4096x128 .bf16) (ix3 b k l) = (argsOf m c).x7 (ix3 b k l) := by
  simp only [V, hostOps0, hostOps0_1, hostOps0_2, hostOps0_3, hostOps0_4, List.flatten_cons, List.flatten_nil, List.cons_append, List.nil_append, List.append_nil]
  entry_read; pointwise
  rfl
theorem row_eq (l : Fin 128) (a : Fin 32) (p : a.val * 128 + l.val < 4096) (q : 128 * a.val + l.val < 4096) :
    (⟨a.val * 128 + l.val, p⟩ : Fin 4096) = ⟨128 * a.val + l.val, q⟩ := Fin.ext (by show a.val * 128 + l.val = 128 * a.val + l.val; omega)
theorem V21 (b : Fin 8) (a : Fin 32) (k : Fin 128) (l : Fin 128) :
    (V m c main_v21 : FVec Ideal S8x32x128x128 .bf16) (ix4 b a k l) = (argsOf m c).x6 (ix3 b ⟨128 * a.val + l.val, by omega⟩ k) := by
  simp only [V, hostOps0, hostOps0_1, hostOps0_2, hostOps0_3, hostOps0_4, List.flatten_cons, List.flatten_nil, List.cons_append, List.nil_append, List.append_nil]
  entry_read; pointwise
  rw [row_eq l a _ (by omega)]
  rfl
theorem V25 (b : Fin 8) (a : Fin 32) (k : Fin 128) (l : Fin 128) :
    (V m c main_v25 : FVec Ideal S8x32x128x128 .bf16) (ix4 b a k l) = (argsOf m c).x8 (ix3 b ⟨128 * a.val + l.val, by omega⟩ k) := by
  simp only [V, hostOps0, hostOps0_1, hostOps0_2, hostOps0_3, hostOps0_4, List.flatten_cons, List.flatten_nil, List.cons_append, List.nil_append, List.append_nil]
  entry_read; pointwise
  rw [row_eq l a _ (by omega)]
  rfl
theorem V26 (k : Fin 512) : (V m c main_v26 : FVec Ideal S512x1 .f32) (ix2 k 0) = (argsOf m c).x9 (ix1 k) := by
  simp only [V, hostOps0, hostOps0_1, hostOps0_2, hostOps0_3, hostOps0_4, List.flatten_cons, List.flatten_nil, List.cons_append, List.nil_append, List.append_nil]
  entry_read; pointwise
  rfl

/-- The table's entries are the overlaps. -/
theorem Vcst (a : Fin 64) (n : Fin 255) :
    (V m c main_cst : FVec Ideal S64x256 .bf16) (ix2 a n.castSucc) = ((Data.ovl n a : ℝ) : EReal) := by
  simp only [V, hostOps0, hostOps0_1, hostOps0_2, hostOps0_3, hostOps0_4, List.flatten_cons, List.flatten_nil, List.cons_append, List.nil_append, List.append_nil]
  entry_read; pointwise
  exact table_ovl a n

end Cert.Nsa
-- ==== Proof.Asm.lean ====
module

public import proofs.«01_k».proof.Proof.Host
public import Idealize.ShloMosaic.Lib.Pipeline.Covers

/-! The kernel's result array: every grid point's block, put together, is the reference's output. -/

@[expose] public section

set_option maxRecDepth 16384

noncomputable section

namespace Cert.Nsa

open Idealize.ShloMosaic Idealize.ShloMosaic.TcCoe Finset
open Cert.KernelIdeal Cert.KernelIdeal.Gen

variable (m : (ℓ : Loc nD τ sig) → Buf (Elt Ideal) ℓ) (c : Dev nD) (t : Fin cfg0.N)

/-! ## The blocks -/

theorem ix_0 : ∀ t : Fin cfg0.N, (cfg0.win 0).index t = ![(grid0.coords t 0).val, 0, (grid0.coords t 1).val] :=
  (by decide +kernel : ∀ t : Fin grid0.N, win0_0.index t = ![(grid0.coords t 0).val, 0, (grid0.coords t 1).val])
theorem ix_1 : ∀ t : Fin cfg0.N, (cfg0.win 1).index t = ![(grid0.coords t 0).val, 0, (grid0.coords t 1).val] :=
  (by decide +kernel : ∀ t : Fin grid0.N, win0_1.index t = ![(grid0.coords t 0).val, 0, (grid0.coords t 1).val])
theorem ix_2 : ∀ t : Fin cfg0.N, (cfg0.win 2).index t = ![(grid0.coords t 0).val, 0, (grid0.coords t 1).val] :=
  (by decide +kernel : ∀ t : Fin grid0.N, win0_2.index t = ![(grid0.coords t 0).val, 0, (grid0.coords t 1).val])
theorem ix_3 : ∀ t : Fin cfg0.N, (cfg0.win 3).index t = ![(grid0.coords t 0).val, 0, 0] :=
  (by decide +kernel : ∀ t : Fin grid0.N, win0_3.index t = ![(grid0.coords t 0).val, 0, 0])
theorem ix_4 : ∀ t : Fin cfg0.N, (cfg0.win 4).index t = ![(grid0.coords t 0).val, 0, 0] :=
  (by decide +kernel : ∀ t : Fin grid0.N, win0_4.index t = ![(grid0.coords t 0).val, 0, 0])
theorem ix_5 : ∀ t : Fin cfg0.N, (cfg0.win 5).index t = ![(grid0.coords t 0).val, 0, 0] :=
  (by decide +kernel : ∀ t : Fin grid0.N, win0_5.index t = ![(grid0.coords t 0).val, 0, 0])
theorem ix_6 : ∀ t : Fin cfg0.N, (cfg0.win 6).index t = ![(grid0.coords t 0).val, 0, 0, 0] :=
  (by decide +kernel : ∀ t : Fin grid0.N, win0_6.index t = ![(grid0.coords t 0).val, 0, 0, 0])
theorem ix_7 : ∀ t : Fin cfg0.N, (cfg0.win 7).index t = ![(grid0.coords t 0).val, 0, 0] :=
  (by decide +kernel : ∀ t : Fin grid0.N, win0_7.index t = ![(grid0.coords t 0).val, 0, 0])
theorem ix_8 : ∀ t : Fin cfg0.N, (cfg0.win 8).index t = ![(grid0.coords t 0).val, 0, 0, 0] :=
  (by decide +kernel : ∀ t : Fin grid0.N, win0_8.index t = ![(grid0.coords t 0).val, 0, 0, 0])
theorem ix_9 : ∀ t : Fin cfg0.N, (cfg0.win 9).index t = ![0, 0] :=
  (by decide +kernel : ∀ t : Fin grid0.N, win0_9.index t = ![0, 0])
theorem ix_10 : ∀ t : Fin cfg0.N, (cfg0.win 10).index t = ![0, 0] :=
  (by decide +kernel : ∀ t : Fin grid0.N, win0_10.index t = ![0, 0])
theorem ix_11 : ∀ t : Fin cfg0.N, (cfg0.win 11).index t = ![(grid0.coords t 0).val, (grid0.coords t 1).val, 0] :=
  (by decide +kernel : ∀ t : Fin grid0.N, win0_11.index t = ![(grid0.coords t 0).val, (grid0.coords t 1).val, 0])

theorem b0 (k : Fin 512) (l : Fin 128) : (iblk m c 0 t : FVec Ideal S1x512x128 .bf16) (ix3 0 k l) = V m c main_v5 (ix3 (grid0.coords t 0) k (tq (grid0.coords t) l)) := by
  blk_ext [iblk, ix_0 t, tq]
theorem b1 (k : Fin 512) (l : Fin 128) : (iblk m c 1 t : FVec Ideal S1x512x128 .bf16) (ix3 0 k l) = V m c main_v9 (ix3 (grid0.coords t 0) k (tq (grid0.coords t) l)) := by
  blk_ext [iblk, ix_1 t, tq]
theorem b2 (k : Fin 128) (l : Fin 128) : (iblk m c 2 t : FVec Ideal S1x128x128 .f32) (ix3 0 k l) = V m c main_v11 (ix3 (grid0.coords t 0) k (tq (grid0.coords t) l)) := by
  blk_ext [iblk, ix_2 t, tq]
theorem b3 (k : Fin 256) (l : Fin 256) : (iblk m c 3 t : FVec Ideal S1x256x256 .bf16) (ix3 0 k l) = V m c main_v17 (ix3 (grid0.coords t 0) k l) := by
  blk_ext [iblk, ix_3 t]
theorem b4 (k : Fin 128) (l : Fin 256) : (iblk m c 4 t : FVec Ideal S1x128x256 .bf16) (ix3 0 k l) = V m c main_v16 (ix3 (grid0.coords t 0) k l) := by
  blk_ext [iblk, ix_4 t]
theorem b5 (k : Fin 4096) (l : Fin 128) : (iblk m c 5 t : FVec Ideal S1x4096x128 .bf16) (ix3 0 k l) = V m c main_v18 (ix3 (grid0.coords t 0) k l) := by
  blk_ext [iblk, ix_5 t]
theorem b6 (a : Fin 32) (k : Fin 128) (l : Fin 128) : (iblk m c 6 t : FVec Ideal S1x32x128x128 .bf16) (ix4 0 a k l) = V m c main_v21 (ix4 (grid0.coords t 0) a k l) := by
  blk_ext [iblk, ix_6 t]
theorem b7 (k : Fin 4096) (l : Fin 128) : (iblk m c 7 t : FVec Ideal S1x4096x128 .bf16) (ix3 0 k l) = V m c main_v22 (ix3 (grid0.coords t 0) k l) := by
  blk_ext [iblk, ix_7 t]
theorem b8 (a : Fin 32) (k : Fin 128) (l : Fin 128) : (iblk m c 8 t : FVec Ideal S1x32x128x128 .bf16) (ix4 0 a k l) = V m c main_v25 (ix4 (grid0.coords t 0) a k l) := by
  blk_ext [iblk, ix_8 t]
theorem b9 (k : Fin 64) (l : Fin 256) : (iblk m c 9 t : FVec Ideal S64x256 .bf16) (ix2 k l) = V m c main_cst (ix2 k l) := by
  blk_ext [iblk, ix_9 t]
theorem b10 (k : Fin 512) : (iblk m c 10 t : FVec Ideal S512x1 .f32) (ix2 k 0) = V m c main_v26 (ix2 k 0) := by
  blk_ext [iblk, ix_10 t]

/-- The eleven blocks of a grid point. -/
def blkAt : Blk := ⟨iblk m c 0 t, iblk m c 1 t, iblk m c 2 t, iblk m c 3 t, iblk m c 4 t, iblk m c 5 t, iblk m c 6 t, iblk m c 7 t, iblk m c 8 t, iblk m c 9 t, iblk m c 10 t⟩

/-- Blocks that hold the arguments' entries hold one sequence's inputs. -/
theorem inp_of {A : RArgs} (H : Reals A) (b : Fin 8) (i : grid0.Coords) (B : Blk)
    (h0 : ∀ k l, B.x0 (ix3 0 k l) = A.x0 (ix3 b (tq i l) k) * ((κs : ℝ) : EReal))
    (h1 : ∀ k l, B.x1 (ix3 0 k l) = A.x1 (ix3 b (tq i l) k) * ((κs : ℝ) : EReal))
    (h2 : ∀ (r : Fin 24) l, B.x2 (ix3 0 ⟨36 + r.val, by omega⟩ l) = A.x2 (ix3 b (tq i l) r))
    (h3 : ∀ (n : Fin 255) (k : Fin 128), B.x3 (ix3 0 n.castSucc ⟨k.val, by omega⟩) = A.x3 (ix3 b n k))
    (h4 : ∀ (k : Fin 128) (n : Fin 255), B.x4 (ix3 0 k n.castSucc) = A.x4 (ix3 b n k))
    (h5 : ∀ n k, B.x5 (ix3 0 n k) = A.x5 (ix3 b n k))
    (h6 : ∀ (a : Fin 32) (k l : Fin 128), B.x6 (ix4 0 a k l) = A.x6 (ix3 b ⟨128 * a.val + l.val, by omega⟩ k))
    (h7 : ∀ n k, B.x7 (ix3 0 n k) = A.x7 (ix3 b n k))
    (h8 : ∀ (a : Fin 32) (k l : Fin 128), B.x8 (ix4 0 a k l) = A.x8 (ix3 b ⟨128 * a.val + l.val, by omega⟩ k))
    (h9 : ∀ (a : Fin 64) (n : Fin 255), B.x9 (ix2 a n.castSucc) = ((Data.ovl n a : ℝ) : EReal))
    (h10 : ∀ k, B.x10 (ix2 k 0) = A.x9 (ix1 k)) : Inp (dataOf A b) i B where
  q k l := by
    rw [h0, H.q, EReal.coe_mul]
    rfl
  qr k l := by
    rw [h1, H.qr, EReal.coe_mul]
    rfl
  gate r l := h2 r l
  kc n k := (h3 n k).trans (H.kc _)
  vc k n := h4 k n
  ks n k := (h5 n k).trans (H.ks _)
  vs a k l := h6 a k l
  kw n k := (h7 n k).trans (H.kw _)
  vw a k l := h8 a k l
  ov a n := h9 a n
  gain k := h10 k

theorem g0 (k : Fin 512) (l : Fin 128) : (blkAt m c t).x0 (ix3 0 k l) = (argsOf m c).x0 (ix3 (grid0.coords t 0) (tq (grid0.coords t) l) k) * ((κs : ℝ) : EReal) :=
  (b0 m c t k l).trans (V5 m c _ k _)
theorem g1 (k : Fin 512) (l : Fin 128) : (blkAt m c t).x1 (ix3 0 k l) = (argsOf m c).x1 (ix3 (grid0.coords t 0) (tq (grid0.coords t) l) k) * ((κs : ℝ) : EReal) :=
  (b1 m c t k l).trans (V9 m c _ k _)
theorem g2 (r : Fin 24) (l : Fin 128) : (blkAt m c t).x2 (ix3 0 ⟨36 + r.val, by omega⟩ l) = (argsOf m c).x2 (ix3 (grid0.coords t 0) (tq (grid0.coords t) l) r) :=
  (b2 m c t _ l).trans (V11 m c _ r _)
theorem g3 (n : Fin 255) (k : Fin 128) : (blkAt m c t).x3 (ix3 0 n.castSucc ⟨k.val, by omega⟩) = (argsOf m c).x3 (ix3 (grid0.coords t 0) n k) :=
  (b3 m c t _ _).trans (V17 m c _ n k)
theorem g4 (k : Fin 128) (n : Fin 255) : (blkAt m c t).x4 (ix3 0 k n.castSucc) = (argsOf m c).x4 (ix3 (grid0.coords t 0) n k) :=
  (b4 m c t _ _).trans (V16 m c _ n k)
theorem g5 (n : Fin 4096) (k : Fin 128) : (blkAt m c t).x5 (ix3 0 n k) = (argsOf m c).x5 (ix3 (grid0.coords t 0) n k) :=
  (b5 m c t _ _).trans (V18 m c _ n k)
theorem g6 (a : Fin 32) (k l : Fin 128) : (blkAt m c t).x6 (ix4 0 a k l) = (argsOf m c).x6 (ix3 (grid0.coords t 0) ⟨128 * a.val + l.val, by omega⟩ k) :=
  (b6 m c t _ _ _).trans (V21 m c _ a k l)
theorem g7 (n : Fin 4096) (k : Fin 128) : (blkAt m c t).x7 (ix3 0 n k) = (argsOf m c).x7 (ix3 (grid0.coords t 0) n k) :=
  (b7 m c t _ _).trans (V22 m c _ n k)
theorem g8 (a : Fin 32) (k l : Fin 128) : (blkAt m c t).x8 (ix4 0 a k l) = (argsOf m c).x8 (ix3 (grid0.coords t 0) ⟨128 * a.val + l.val, by omega⟩ k) :=
  (b8 m c t _ _ _).trans (V25 m c _ a k l)
theorem g9 (a : Fin 64) (n : Fin 255) : (blkAt m c t).x9 (ix2 a n.castSucc) = ((Data.ovl n a : ℝ) : EReal) :=
  (b9 m c t _ _).trans (Vcst m c a n)
theorem g10 (k : Fin 512) : (blkAt m c t).x10 (ix2 k 0) = (argsOf m c).x9 (ix1 k) :=
  (b10 m c t k).trans (V26 m c k)

theorem inp (H : Reals (argsOf m c)) : Inp (dataOf (argsOf m c) (grid0.coords t 0)) (grid0.coords t) (blkAt m c t) :=
  inp_of H _ _ _ (g0 m c t) (g1 m c t) (g2 m c t) (g3 m c t) (g4 m c t) (g5 m c t) (g6 m c t) (g7 m c t) (g8 m c t) (g9 m c t) (g10 m c t)

/-- The reference's output, of the ten arguments. -/
def refOut (A : RArgs) : FVec Ideal Cert.ReferenceIdeal.S8x4096x512 .bf16 :=
  Cert.ReferenceIdeal.Read.val_main_v234 (F := Ideal) A.x0 A.x1 A.x2 A.x3 A.x4 A.x5 A.x6 A.x7 A.x8 A.x9

theorem out_point (H : Reals (argsOf m c)) (l : Fin 128) (k : Fin 512) :
    outB (blkAt m c t).rd (grid0.coords t) (ix3 0 l k) = refOut (argsOf m c) (ix3 (grid0.coords t 0) (tq (grid0.coords t) l) k) :=
  (outB_eq (inp m c t H) l k).trans (v234_eq (rin H _) _ _).symm

theorem covers11 : (cfg0.win 11).Covers :=
  (cfg0.win 11).covers_of_index_surj rfl (by decide) fun β => by
    have h0 : (β (0 : Fin 3)).val < 8 := (β (0 : Fin 3)).isLt
    have h1 : (β (1 : Fin 3)).val < 32 := (β (1 : Fin 3)).isLt
    have h2 : (β (2 : Fin 3)).val < 1 := (β (2 : Fin 3)).isLt
    refine ⟨(⟨32 * (β (0 : Fin 3)).val + (β (1 : Fin 3)).val, by show _ < 256; omega⟩ : Fin cfg0.N), fun a => ?_⟩
    rw [ix_11]
    have e := coords_val (⟨32 * (β (0 : Fin 3)).val + (β (1 : Fin 3)).val, by show _ < 256; omega⟩ : Fin cfg0.N)
    fin_cases a
    · exact e.2.trans (by show (32 * (β (0 : Fin 3)).val + (β (1 : Fin 3)).val) / 32 = (β (0 : Fin 3)).val; omega)
    · exact e.1.trans (by show (32 * (β (0 : Fin 3)).val + (β (1 : Fin 3)).val) % 32 = (β (1 : Fin 3)).val; omega)
    · show 0 = (β (2 : Fin 3)).val
      omega

theorem out_ix (H : Reals (argsOf m c)) (z : S1x128x512.Idx) :
    outB (blkAt m c t).rd (grid0.coords t) z = refOut (argsOf m c) (ix3 (grid0.coords t 0) (tq (grid0.coords t) (z 1)) (z 2)) := by
  refine Eq.trans (congrArg _ ?_) (out_point m c t H (z 1) (z 2))
  have h : z 0 = (0 : Fin 1) := Subsingleton.elim (α := Fin 1) _ _
  exact (eq_ix3 z).trans (by rw [h])

theorem cut_ix (f : FVec Ideal S1x128x512 .bf16) (y : ((cfg0.win 11).xblock (cfg0.grid.coords t)).Idx) :
    (cfg0.win 11).cut (grid0.coords t) f y = f ((cfg0.win 11).xinj (grid0.coords t) y) := rfl

theorem place (y : ((cfg0.win 11).xblock (cfg0.grid.coords t)).Idx) :
    (ix3 (grid0.coords t 0) (tq (grid0.coords t) (((cfg0.win 11).xinj (grid0.coords t) y : S1x128x512.Idx) 1)) (((cfg0.win 11).xinj (grid0.coords t) y : S1x128x512.Idx) 2) : S8x4096x512.Idx)
      = ((cfg0.win 11).blk t).view.emb y := by
  blk_ext [ix_11 t, tq]

theorem blkAt_rd : (blkAt m c t).rd = rdD (iblk m c 0 t) (iblk m c 1 t) (iblk m c 2 t) (iblk m c 3 t) (iblk m c 4 t) (iblk m c 5 t) (iblk m c 6 t) (iblk m c 7 t) (iblk m c 8 t) (iblk m c 9 t) (iblk m c 10 t) := by
  unfold blkAt Blk.rd
  rfl

theorem flushed_blk : (dats m 0 c).flushed 11 t = (cfg0.win 11).cut (grid0.coords t) (outB (blkAt m c t).rd (grid0.coords t)) := by
  have e := flushed_eq m c t
  rw [← blkAt_rd] at e
  exact e

theorem written (H : Reals (argsOf m c)) (y : ((cfg0.win 11).xblock (cfg0.grid.coords t)).Idx) :
    (dats m 0 c).flushed 11 t y = refOut (argsOf m c) (((cfg0.win 11).blk t).view.emb y) := by
  have e1 := congrFun (flushed_blk m c t) y
  have e2 := cut_ix t (outB (blkAt m c t).rd (grid0.coords t)) y
  have e3 := out_ix m c t H ((cfg0.win 11).xinj (grid0.coords t) y)
  have e4 := congrArg (refOut (argsOf m c)) (place t y)
  exact e1.trans (e2.trans (e3.trans e4))

theorem after_ix (y : ((cfg0.win 11).xblock (cfg0.grid.coords t)).Idx) :
    (dats m 0 c).after 11 t ((cfg0.win 11).xinj (grid0.coords t) y) = (dats m 0 c).flushed 11 t y := rfl

/-- The result array is the reference's output. -/
theorem arr_eq (H : Reals (argsOf m c)) : (dats m 0 c).arrAt 11 cfg0.N = refOut (argsOf m c) := by
  refine (dats m 0 c).arrAt_eq_of_covers 11 _ covers11 fun t hf y => ?_
  exact (after_ix m c t y).trans (written m c t H y)

end Cert.Nsa
-- ==== Proof.FeedRun.lean ====
module

public import proofs.«01_k».proof.Proof.Gen.Kernel2Ideal.Frame
public import Idealize.ShloMosaic.Lib.Pipeline.ValueKit

/-! What each grid point of the second call leaves in its carried buffers and in its output block, off its input blocks. -/

@[expose] public section

set_option maxRecDepth 16384

noncomputable section

namespace Cert.Feed
open Idealize.ShloMosaic Idealize.ShloMosaic.TcCoe Idealize.ShloMosaic.Tactic
open Cert.Kernel2Ideal Cert.Kernel2Ideal.Gen
variable {F : FTy → Type} [FloatOps F]

/-- The rows of the output projection's weights from one on. -/
abbrev wA (w : Vec F S1024x1024 .bf16) : Vec F S256x1024 .bf16 := View.ld w (Rect.unit (s := S1024x1024) ![0, 0] S256x1024.size inb_S1024x1024_S256x1024_0_0)
abbrev wB (w : Vec F S1024x1024 .bf16) : Vec F S256x1024 .bf16 := View.ld w (Rect.unit (s := S1024x1024) ![256, 0] S256x1024.size inb_S1024x1024_S256x1024_256_0)
abbrev wC (w : Vec F S1024x1024 .bf16) : Vec F S512x1024 .bf16 := View.ld w (Rect.unit (s := S1024x1024) ![512, 0] S512x1024.size inb_S1024x1024_S512x1024_512_0)

/-- The residual stream past the output projection, and its norm times the gain. -/
def hidM (x0 : Vec F S1x1024x1024 .f32) (x1 : Vec F S1x1024x256 .bf16) (x2 : Vec F S1024x256 .bf16) (x3 : Vec F S1x1024x512 .bf16) (x4 : Vec F S1024x1024 .bf16) : FVec F S1024x1024 .f32 :=
  k0_pay6 x1 (wA x4) x2 (wB x4) x3 (wC x4) x0
def normM (x0 : Vec F S1x1024x1024 .f32) (x1 : Vec F S1x1024x256 .bf16) (x2 : Vec F S1024x256 .bf16) (x3 : Vec F S1x1024x512 .bf16) (x4 : Vec F S1024x1024 .bf16) (x5 : Vec F S1x1024 .f32) : FVec F S1024x1024 .bf16 :=
  k0_pay1 (k0_pay7 x1 (wA x4) x2 (wB x4) x3 (wC x4) x0) x5

variable (c : Dev nD) (i : grid0.Coords) (arg2 : Memref sig .tc .vmem S1x1024x1024 .f32) (harg2 : arg2.IsWhole) (arg3 : Memref sig .tc .vmem S1x1024x256 .bf16) (harg3 : arg3.IsWhole) (arg4 : Memref sig .tc .vmem S1024x256 .bf16) (harg4 : arg4.IsWhole) (arg5 : Memref sig .tc .vmem S1x1024x512 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024x1024 .f32) (harg11 : arg11.IsWhole) (arg12 : Memref sig .tc .vmem S1024x1024 .f32) (harg12 : arg12.IsWhole) (arg13 : Memref sig .tc .vmem S1024x1024 .bf16) (harg13 : arg13.IsWhole) (arg14 : Memref sig .tc .vmem S1024x1024 .f32) (harg14 : arg14.IsWhole)
    (x0 : Vec F S1x1024x1024 .f32) (x1 : Vec F S1x1024x256 .bf16) (x2 : Vec F S1024x256 .bf16) (x3 : Vec F S1x1024x512 .bf16) (x4 : Vec F S1024x1024 .bf16) (x5 : Vec F S1x1024 .f32) (x6 : Vec F S1024x1024 .bf16) (x7 : Vec F S1024x1024 .bf16) (x8 : Vec F S1x1024 .f32)
    (xs0 : Vec F S1024x1024 .f32) (xs1 : Vec F S1024x1024 .bf16) (xs2 : Vec F S1024x1024 .f32)
theorem runA0 (hc0 : cond0_0 i) (hc1 : ¬cond0_1 i) :
    (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1 = [⟨(Rect.unit (s := S1024x1024) ![0, 0] S1024x1024.size inb_S1024x1024_S1024x1024_0_0), k0_pay6 (View.readAt (Elt F) arg3.view (Rect.unit (s := S1x1024x256) ![0, 0, 0] S1x1024x256.size inb_S1x1024x256_S1x1024x256_0_0_0).toLoadRect (harg3.unread x1)) (View.readAt (Elt F) arg6.view (Rect.unit (s := S1024x1024) ![0, 0] S256x1024.size inb_S1024x1024_S256x1024_0_0).toLoadRect (harg6.unread x4)) (View.readAt (Elt F) arg4.view (Rect.unit (s := S1024x256) ![0, 0] S1024x256.size inb_S1024x256_S1024x256_0_0).toLoadRect (harg4.unread x2)) (View.readAt (Elt F) arg6.view (Rect.unit (s := S1024x1024) ![256, 0] S256x1024.size inb_S1024x1024_S256x1024_256_0).toLoadRect (harg6.unread x4)) (View.readAt (Elt F) arg5.view (Rect.unit (s := S1x1024x512) ![0, 0, 0] S1x1024x512.size inb_S1x1024x512_S1x1024x512_0_0_0).toLoadRect (harg5.unread x3)) (View.readAt (Elt F) arg6.view (Rect.unit (s := S1024x1024) ![512, 0] S512x1024.size inb_S1024x1024_S512x1024_512_0).toLoadRect (harg6.unread x4)) (View.readAt (Elt F) arg2.view (Rect.unit (s := S1x1024x1024) ![0, 0, 0] S1x1024x1024.size inb_S1x1024x1024_S1x1024x1024_0_0_0).toLoadRect (harg2.unread x0))⟩] := by
  sl_kernel_rfl
theorem runA1 (hc0 : cond0_0 i) (hc1 : ¬cond0_1 i) :
    (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1 = [⟨(Rect.unit (s := S1024x1024) ![0, 0] S1024x1024.size inb_S1024x1024_S1024x1024_0_0), (k0_pay1 (k0_pay7 (View.readAt (Elt F) arg3.view (Rect.unit (s := S1x1024x256) ![0, 0, 0] S1x1024x256.size inb_S1x1024x256_S1x1024x256_0_0_0).toLoadRect (harg3.unread x1)) (View.readAt (Elt F) arg6.view (Rect.unit (s := S1024x1024) ![0, 0] S256x1024.size inb_S1024x1024_S256x1024_0_0).toLoadRect (harg6.unread x4)) (View.readAt (Elt F) arg4.view (Rect.unit (s := S1024x256) ![0, 0] S1024x256.size inb_S1024x256_S1024x256_0_0).toLoadRect (harg4.unread x2)) (View.readAt (Elt F) arg6.view (Rect.unit (s := S1024x1024) ![256, 0] S256x1024.size inb_S1024x1024_S256x1024_256_0).toLoadRect (harg6.unread x4)) (View.readAt (Elt F) arg5.view (Rect.unit (s := S1x1024x512) ![0, 0, 0] S1x1024x512.size inb_S1x1024x512_S1x1024x512_0_0_0).toLoadRect (harg5.unread x3)) (View.readAt (Elt F) arg6.view (Rect.unit (s := S1024x1024) ![512, 0] S512x1024.size inb_S1024x1024_S512x1024_512_0).toLoadRect (harg6.unread x4)) (View.readAt (Elt F) arg2.view (Rect.unit (s := S1x1024x1024) ![0, 0, 0] S1x1024x1024.size inb_S1x1024x1024_S1x1024x1024_0_0_0).toLoadRect (harg2.unread x0))) (View.readAt (Elt F) arg7.view (Rect.unit (s := S1x1024) ![0, 0] S1x1024.size inb_S1x1024_S1x1024_0_0).toLoadRect (harg7.unread x5)))⟩] := by
  sl_kernel_rfl
theorem runA2 (hc0 : cond0_0 i) (hc1 : ¬cond0_1 i) :
    (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.2.1 = [⟨(Rect.unit (s := S1024x1024) ![0, 0] S1024x1024.size inb_S1024x1024_S1024x1024_0_0), k0_pay3 (arg13.view.readCov [⟨(Rect.unit (s := S1024x1024) ![0, 0] S1024x1024.size inb_S1024x1024_S1024x1024_0_0), (k0_pay1 (k0_pay7 (View.readAt (Elt F) arg3.view (Rect.unit (s := S1x1024x256) ![0, 0, 0] S1x1024x256.size inb_S1x1024x256_S1x1024x256_0_0_0).toLoadRect (harg3.unread x1)) (View.readAt (Elt F) arg6.view (Rect.unit (s := S1024x1024) ![0, 0] S256x1024.size inb_S1024x1024_S256x1024_0_0).toLoadRect (harg6.unread x4)) (View.readAt (Elt F) arg4.view (Rect.unit (s := S1024x256) ![0, 0] S1024x256.size inb_S1024x256_S1024x256_0_0).toLoadRect (harg4.unread x2)) (View.readAt (Elt F) arg6.view (Rect.unit (s := S1024x1024) ![256, 0] S256x1024.size inb_S1024x1024_S256x1024_256_0).toLoadRect (harg6.unread x4)) (View.readAt (Elt F) arg5.view (Rect.unit (s := S1x1024x512) ![0, 0, 0] S1x1024x512.size inb_S1x1024x512_S1x1024x512_0_0_0).toLoadRect (harg5.unread x3)) (View.readAt (Elt F) arg6.view (Rect.unit (s := S1024x1024) ![512, 0] S512x1024.size inb_S1024x1024_S512x1024_512_0).toLoadRect (harg6.unread x4)) (View.readAt (Elt F) arg2.view (Rect.unit (s := S1x1024x1024) ![0, 0, 0] S1x1024x1024.size inb_S1x1024x1024_S1x1024x1024_0_0_0).toLoadRect (harg2.unread x0))) (View.readAt (Elt F) arg7.view (Rect.unit (s := S1x1024) ![0, 0] S1x1024.size inb_S1x1024_S1x1024_0_0).toLoadRect (harg7.unread x5)))⟩] (Rect.unit (s := S1024x1024) ![0, 0] S1024x1024.size inb_S1024x1024_S1024x1024_0_0).toLoadRect) (View.readAt (Elt F) arg8.view (Rect.unit (s := S1024x1024) ![0, 0] S1024x1024.size inb_S1024x1024_S1024x1024_0_0).toLoadRect (harg8.unread x6)) (arg14.view.readCov [⟨(Rect.unit (s := S1024x1024) ![0, 0] S1024x1024.size inb_S1024x1024_S1024x1024_0_0), k0_pay2 (F := F)⟩] (Rect.unit (s := S1024x1024) ![0, 0] S1024x1024.size inb_S1024x1024_S1024x1024_0_0).toLoadRect) (View.readAt (Elt F) arg9.view (Rect.unit (s := S1024x1024) ![0, 0] S1024x1024.size inb_S1024x1024_S1024x1024_0_0).toLoadRect (harg9.unread x7))⟩, ⟨(Rect.unit (s := S1024x1024) ![0, 0] S1024x1024.size inb_S1024x1024_S1024x1024_0_0), k0_pay2 (F := F)⟩] := by
  sl_kernel_rfl
theorem runB2 (hc0 : ¬cond0_0 i) (hc1 : ¬cond0_1 i) :
    (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1 = [⟨(Rect.unit (s := S1024x1024) ![0, 0] S1024x1024.size inb_S1024x1024_S1024x1024_0_0), k0_pay3 (View.readAt (Elt F) arg13.view (Rect.unit (s := S1024x1024) ![0, 0] S1024x1024.size inb_S1024x1024_S1024x1024_0_0).toLoadRect (harg13.unread xs1)) (View.readAt (Elt F) arg8.view (Rect.unit (s := S1024x1024) ![0, 0] S1024x1024.size inb_S1024x1024_S1024x1024_0_0).toLoadRect (harg8.unread x6)) (View.readAt (Elt F) arg14.view (Rect.unit (s := S1024x1024) ![0, 0] S1024x1024.size inb_S1024x1024_S1024x1024_0_0).toLoadRect (harg14.unread xs2)) (View.readAt (Elt F) arg9.view (Rect.unit (s := S1024x1024) ![0, 0] S1024x1024.size inb_S1024x1024_S1024x1024_0_0).toLoadRect (harg9.unread x7))⟩] := by
  sl_kernel_rfl
theorem runC9 (hc0 : ¬cond0_0 i) (hc1 : cond0_1 i) :
    (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).1 = [⟨(Rect.unit (s := S1x1024x1024) ![0, 0, 0] S1x1024x1024.size inb_S1x1024x1024_S1x1024x1024_0_0_0), k0_pay4 (View.readAt (Elt F) arg12.view (Rect.unit (s := S1024x1024) ![0, 0] S1024x1024.size inb_S1024x1024_S1024x1024_0_0).toLoadRect (harg12.unread xs0)) (arg14.view.readCov [⟨(Rect.unit (s := S1024x1024) ![0, 0] S1024x1024.size inb_S1024x1024_S1024x1024_0_0), k0_pay3 (View.readAt (Elt F) arg13.view (Rect.unit (s := S1024x1024) ![0, 0] S1024x1024.size inb_S1024x1024_S1024x1024_0_0).toLoadRect (harg13.unread xs1)) (View.readAt (Elt F) arg8.view (Rect.unit (s := S1024x1024) ![0, 0] S1024x1024.size inb_S1024x1024_S1024x1024_0_0).toLoadRect (harg8.unread x6)) (View.readAt (Elt F) arg14.view (Rect.unit (s := S1024x1024) ![0, 0] S1024x1024.size inb_S1024x1024_S1024x1024_0_0).toLoadRect (harg14.unread xs2)) (View.readAt (Elt F) arg9.view (Rect.unit (s := S1024x1024) ![0, 0] S1024x1024.size inb_S1024x1024_S1024x1024_0_0).toLoadRect (harg9.unread x7))⟩] (Rect.unit (s := S1024x1024) ![0, 0] S1024x1024.size inb_S1024x1024_S1024x1024_0_0).toLoadRect) (View.readAt (Elt F) arg10.view (Rect.unit (s := S1x1024) ![0, 0] S1x1024.size inb_S1x1024_S1x1024_0_0).toLoadRect (harg10.unread x8))⟩] := by
  sl_kernel_rfl

theorem endA0 (hc0 : cond0_0 i) (hc1 : ¬cond0_1 i) :
    sout0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = hidM x0 x1 x2 x3 x4 := by
  unfold sout0_A_0
  rw [View.read_writes_junk_eq_canon, runA0]
  refine (View.canon_cons_unit_lit _ _ _ (by decide)).trans ?_
  simp (disch := decide) only [View.readAt_eq_ld, Memref.IsWhole.read_unread, View.ld_unit_lit]
  rfl
theorem endA1 (hc0 : cond0_0 i) (hc1 : ¬cond0_1 i) :
    sout0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = normM x0 x1 x2 x3 x4 x5 := by
  unfold sout0_A_1
  rw [View.read_writes_junk_eq_canon, runA1]
  refine (View.canon_cons_unit_lit _ _ _ (by decide)).trans ?_
  simp (disch := decide) only [View.readAt_eq_ld, Memref.IsWhole.read_unread, View.ld_unit_lit]
  rfl
theorem endA2 (hc0 : cond0_0 i) (hc1 : ¬cond0_1 i) :
    sout0_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = k0_pay3 (normM x0 x1 x2 x3 x4 x5) x6 k0_pay2 x7 := by
  unfold sout0_A_2
  rw [View.read_writes_junk_eq_canon, runA2]
  refine (View.canon_cons_unit_lit _ _ _ (by decide)).trans ?_
  simp (disch := decide) only [View.readAt_eq_ld, Memref.IsWhole.read_unread, View.readCov_unit_lit, View.ld_unit_lit]
  rfl
theorem endB2 (hc0 : ¬cond0_0 i) (hc1 : ¬cond0_1 i) :
    sout0_B_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = k0_pay3 xs1 x6 xs2 x7 := by
  unfold sout0_B_2
  rw [View.read_writes_junk_eq_canon, runB2]
  refine (View.canon_cons_unit_lit _ _ _ (by decide)).trans ?_
  simp (disch := decide) only [View.readAt_eq_ld, Memref.IsWhole.read_unread, View.ld_unit_lit]
theorem endC9 (hc0 : ¬cond0_0 i) (hc1 : cond0_1 i) :
    out0_C_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = k0_pay4 xs0 (k0_pay3 xs1 x6 xs2 x7) x8 := by
  unfold out0_C_9
  rw [View.read_writes_junk_eq_canon, runC9]
  refine (View.canon_cons_unit_lit _ _ _ (by decide)).trans ?_
  simp (disch := decide) only [View.readAt_eq_ld, Memref.IsWhole.read_unread, View.readCov_unit_lit, View.ld_unit_lit]

end Cert.Feed
-- ==== Proof.FeedSpec.lean ====
module

public import proofs.«01_k».proof.Proof.FeedRun
public import Idealize.ShloMosaic.Lib.Pointwise
public import Idealize.ShloMosaic.Lib.ValueIdx

/-! The end of a layer as a formula of one row, and the second call's grid points in its terms. -/

@[expose] public section

set_option maxRecDepth 16384

noncomputable section

namespace Cert.Feed

open Idealize.ShloMosaic Idealize.ShloMosaic.TcCoe Idealize.ShloMosaic.Tactic Finset
open Cert.Kernel2Ideal Cert.Kernel2Ideal.Gen

/-! ## The formula -/

/-- A row over the root of its mean square. -/
def rms (h : Fin 1024 → EReal) (k : Fin 1024) : EReal :=
  h k * Ideal.rsqrt (Ideal.div (∑ x, h x * h x) (Ideal.ofBits FTy.f32 0x44800000#32) + Ideal.ofBits FTy.f32 0x358637BD#32)

/-- The arguments a row's output depends on: its residual stream, the three groups' outputs one after another, and the weights. -/
structure Row where
  x : Fin 1024 → EReal
  mix : Fin 1024 → EReal
  wo : Fin 1024 → Fin 1024 → EReal
  g : Fin 1024 → EReal
  wu : Fin 1024 → Fin 4096 → EReal
  wd : Fin 4096 → Fin 1024 → EReal
  fg : Fin 1024 → EReal

namespace Row
variable (R : Row)
/-- The residual stream past the output projection. -/
def hid (k : Fin 1024) : EReal := R.x k + ∑ j, R.mix j * R.wo j k
/-- Its norm with the gain. -/
def norm (k : Fin 1024) : EReal := rms R.hid k * R.g k
/-- A feed-forward unit. -/
def unit (f : Fin 4096) : EReal := max (∑ k, R.norm k * R.wu k f) 0
/-- What a unit adds. -/
def term (k : Fin 1024) (f : Fin 4096) : EReal := R.unit f * R.unit f * R.wd f k
/-- The residual stream past the feed-forward network. -/
def res (k : Fin 1024) : EReal := R.hid k + ∑ f, R.term k f
/-- The row's output. -/
def out (k : Fin 1024) : EReal := rms R.res k * R.fg k
end Row

/-! ## Sums in pieces -/

theorem sum_add {n p q : ℕ} (e : p + q = n) (f : Fin n → EReal) :
    ∑ j, f j = ∑ j : Fin p, f ⟨j.val, by omega⟩ + ∑ j : Fin q, f ⟨p + j.val, by omega⟩ := by
  subst e
  exact Fin.sum_univ_add f

/-- Unit `f` of chunk `j`. -/
def uf (j : Fin 4) (f : Fin 1024) : Fin 4096 := ⟨1024 * j.val + f.val, by omega⟩

theorem sum_chunks (f : Fin 4096 → EReal) :
    ∑ x, f x = 0 + (∑ y, f (uf 0 y)) + (∑ y, f (uf 1 y)) + (∑ y, f (uf 2 y)) + ∑ y, f (uf 3 y) := by
  rw [sum_add (p := 1024) (q := 3072) rfl f, sum_add (p := 1024) (q := 2048) rfl, sum_add (p := 1024) (q := 1024) rfl, zero_add, add_assoc, add_assoc]
  refine congrArg₂ _ (Fintype.sum_congr _ _ fun y => congrArg f (Fin.ext ?_)) (congrArg₂ _ (Fintype.sum_congr _ _ fun y => congrArg f (Fin.ext ?_))
    (congrArg₂ _ (Fintype.sum_congr _ _ fun y => congrArg f (Fin.ext ?_)) (Fintype.sum_congr _ _ fun y => congrArg f (Fin.ext ?_))))
  · show y.val = 1024 * 0 + y.val
    omega
  · show 1024 + y.val = 1024 * 1 + y.val
    omega
  · show 1024 + (1024 + y.val) = 1024 * 2 + y.val
    omega
  · show 1024 + (1024 + (1024 + y.val)) = 1024 * 3 + y.val
    omega

/-! ## The grid points -/

theorem ld2 {A a B : ℕ} {φ : FTy} (x : FVec Ideal ⟨2, ![A, B]⟩ φ) (off : Fin 2 → ℕ)
    (inb : ∀ k, off k + (⟨2, ![a, B]⟩ : Shape).size k ≤ (⟨2, ![A, B]⟩ : Shape).size k) (r : Fin a) (c : Fin B) (R : Fin A)
    (h0 : R.val = off 0 + r.val) (h1 : off 1 = 0) :
    View.ld (Val := fun _ => Ideal φ) (e' := EltTy.f32) x (Rect.unit (s := ⟨2, ![A, B]⟩) off (⟨2, ![a, B]⟩ : Shape).size inb) (ix2 r c) = x (ix2 R c) := by
  refine View.ld_unit_apply_of (Val := fun _ => Ideal φ) (e := EltTy.f32) (S := ⟨2, ![A, B]⟩) x off _ inb _ _ fun k => ?_
  fin_cases k
  · exact h0
  · show c.val = off 1 + c.val
    omega

theorem wA_apply (w : FVec Ideal S1024x1024 .bf16) (r : Fin 256) (k : Fin 1024) : wA (F := Ideal) w (ix2 r k) = w (ix2 ⟨r.val, by omega⟩ k) :=
  ld2 (A := 1024) (a := 256) (B := 1024) (φ := .bf16) w _ _ r k ⟨r.val, by omega⟩ (Nat.zero_add _).symm rfl
theorem wB_apply (w : FVec Ideal S1024x1024 .bf16) (r : Fin 256) (k : Fin 1024) : wB (F := Ideal) w (ix2 r k) = w (ix2 ⟨256 + r.val, by omega⟩ k) :=
  ld2 (A := 1024) (a := 256) (B := 1024) (φ := .bf16) w _ _ r k ⟨256 + r.val, by omega⟩ rfl rfl
theorem wC_apply (w : FVec Ideal S1024x1024 .bf16) (r : Fin 512) (k : Fin 1024) : wC (F := Ideal) w (ix2 r k) = w (ix2 ⟨512 + r.val, by omega⟩ k) :=
  ld2 (A := 1024) (a := 512) (B := 1024) (φ := .bf16) w _ _ r k ⟨512 + r.val, by omega⟩ rfl rfl

theorem pay5_apply (a : FVec Ideal S1x1024x256 .bf16) (b : FVec Ideal S256x1024 .bf16) (c : FVec Ideal S1024x256 .bf16) (d : FVec Ideal S256x1024 .bf16)
    (e : FVec Ideal S1x1024x512 .bf16) (f : FVec Ideal S512x1024 .bf16) (g : FVec Ideal S1x1024x1024 .f32) (r k : Fin 1024) :
    k0_pay5 (F := Ideal) a b c d e f g (ix2 r k)
      = g (ix3 0 r k) + (∑ x, a (ix3 0 r x) * b (ix2 x k) + ∑ x, c (ix2 r x) * d (ix2 x k) + ∑ x, e (ix3 0 r x) * f (ix2 x k)) := by
  pointwise [k0_pay5]

theorem pay3_apply (n wu wd : FVec Ideal S1024x1024 .bf16) (acc : FVec Ideal S1024x1024 .f32) (r k : Fin 1024) :
    k0_pay3 (F := Ideal) n wu acc wd (ix2 r k)
      = acc (ix2 r k) + ∑ f, max (∑ x, n (ix2 r x) * wu (ix2 x f)) 0 * max (∑ x, n (ix2 r x) * wu (ix2 x f)) 0 * wd (ix2 f k) := by
  pointwise [k0_pay3]

theorem pay4_apply (x acc : FVec Ideal S1024x1024 .f32) (g : FVec Ideal S1x1024 .f32) (r k : Fin 1024) :
    k0_pay4 (F := Ideal) x acc g (ix3 0 r k) = rms (fun j => x (ix2 r j) + acc (ix2 r j)) k * g (ix2 0 k) := by
  pointwise [k0_pay4]
  rfl

/-- The blocks of grid point `j` of a row block hold, at row `r`, the arguments of the row `R`. -/
structure First (R : Row) (r : Fin 1024) (x0 : FVec Ideal S1x1024x1024 .f32) (x1 : FVec Ideal S1x1024x256 .bf16) (x2 : FVec Ideal S1024x256 .bf16)
    (x3 : FVec Ideal S1x1024x512 .bf16) (x4 : FVec Ideal S1024x1024 .bf16) (x5 : FVec Ideal S1x1024 .f32) : Prop where
  x : ∀ k, x0 (ix3 0 r k) = R.x k
  a : ∀ j : Fin 256, x1 (ix3 0 r j) = R.mix ⟨j.val, by omega⟩
  b : ∀ j : Fin 256, x2 (ix2 r j) = R.mix ⟨256 + j.val, by omega⟩
  c : ∀ j : Fin 512, x3 (ix3 0 r j) = R.mix ⟨512 + j.val, by omega⟩
  wo : ∀ j k, x4 (ix2 j k) = R.wo j k
  g : ∀ k, x5 (ix2 0 k) = R.g k

theorem pay5_eq {R : Row} {r : Fin 1024} {x0 : FVec Ideal S1x1024x1024 .f32} {x1 : FVec Ideal S1x1024x256 .bf16} {x2 : FVec Ideal S1024x256 .bf16}
    {x3 : FVec Ideal S1x1024x512 .bf16} {x4 : FVec Ideal S1024x1024 .bf16} {x5 : FVec Ideal S1x1024 .f32} (H : First R r x0 x1 x2 x3 x4 x5) (k : Fin 1024) :
    k0_pay5 (F := Ideal) x1 (wA x4) x2 (wB x4) x3 (wC x4) x0 (ix2 r k) = R.hid k := by
  have hA : ∀ (j : Fin 256) (k : Fin 1024), wA (F := Ideal) x4 (ix2 j k) = R.wo ⟨j.val, by omega⟩ k := fun j k => (wA_apply x4 j k).trans (H.wo _ k)
  have hB : ∀ (j : Fin 256) (k : Fin 1024), wB (F := Ideal) x4 (ix2 j k) = R.wo ⟨256 + j.val, by omega⟩ k := fun j k => (wB_apply x4 j k).trans (H.wo _ k)
  have hC : ∀ (j : Fin 512) (k : Fin 1024), wC (F := Ideal) x4 (ix2 j k) = R.wo ⟨512 + j.val, by omega⟩ k := fun j k => (wC_apply x4 j k).trans (H.wo _ k)
  generalize wA (F := Ideal) x4 = A at hA ⊢
  generalize wB (F := Ideal) x4 = B at hB ⊢
  generalize wC (F := Ideal) x4 = C at hC ⊢
  rw [pay5_apply]
  simp only [hA, hB, hC, H.x, H.a, H.b, H.c]
  unfold Row.hid
  rw [sum_add (p := 256) (q := 768) rfl (fun j : Fin 1024 => R.mix j * R.wo j k), sum_add (p := 256) (q := 512) rfl, add_assoc]
  refine congrArg (R.x k + ·) (congrArg₂ (· + ·) rfl (congrArg₂ (· + ·) rfl (Fintype.sum_congr _ _ fun j => ?_)))
  have e : (⟨512 + j.val, by omega⟩ : Fin 1024) = ⟨256 + (256 + j.val), by omega⟩ := Fin.ext (by show 512 + j.val = 256 + (256 + j.val); omega)
  rw [e]

theorem hidM_eq {R : Row} {r : Fin 1024} {x0 : FVec Ideal S1x1024x1024 .f32} {x1 : FVec Ideal S1x1024x256 .bf16} {x2 : FVec Ideal S1024x256 .bf16}
    {x3 : FVec Ideal S1x1024x512 .bf16} {x4 : FVec Ideal S1024x1024 .bf16} {x5 : FVec Ideal S1x1024 .f32} (H : First R r x0 x1 x2 x3 x4 x5) (k : Fin 1024) :
    hidM (F := Ideal) x0 x1 x2 x3 x4 (ix2 r k) = R.hid k := by
  refine Eq.trans ?_ (pay5_eq H k)
  unfold hidM k0_pay6
  generalize k0_pay5 (F := Ideal) x1 (wA x4) x2 (wB x4) x3 (wC x4) x0 = X
  pointwise

theorem normM_eq {R : Row} {r : Fin 1024} {x0 : FVec Ideal S1x1024x1024 .f32} {x1 : FVec Ideal S1x1024x256 .bf16} {x2 : FVec Ideal S1024x256 .bf16}
    {x3 : FVec Ideal S1x1024x512 .bf16} {x4 : FVec Ideal S1024x1024 .bf16} {x5 : FVec Ideal S1x1024 .f32} (H : First R r x0 x1 x2 x3 x4 x5) (k : Fin 1024) :
    normM (F := Ideal) x0 x1 x2 x3 x4 x5 (ix2 r k) = R.norm k := by
  have h := pay5_eq H
  have hg := H.g k
  unfold normM k0_pay1 k0_pay7
  generalize k0_pay5 (F := Ideal) x1 (wA x4) x2 (wB x4) x3 (wC x4) x0 = X at h ⊢
  pointwise
  simp only [h, hg]
  rfl

/-- One chunk of units adds its terms. -/
theorem step_eq (R : Row) (r : Fin 1024) (j : Fin 4) (n wu wd : FVec Ideal S1024x1024 .bf16) (acc : FVec Ideal S1024x1024 .f32)
    (hn : ∀ k, n (ix2 r k) = R.norm k) (hu : ∀ k f, wu (ix2 k f) = R.wu k (uf j f)) (hd : ∀ f k, wd (ix2 f k) = R.wd (uf j f) k) (k : Fin 1024) :
    k0_pay3 (F := Ideal) n wu acc wd (ix2 r k) = acc (ix2 r k) + ∑ f, R.term k (uf j f) := by
  rw [pay3_apply]
  simp only [hn, hu, hd]
  rfl

theorem zero_eq (r k : Fin 1024) : k0_pay2 (F := Ideal) (ix2 r k) = 0 := by
  pointwise [k0_pay2]

/-- The last chunk's point stores the row's output. -/
theorem last_eq (R : Row) (r : Fin 1024) (h acc : FVec Ideal S1024x1024 .f32) (g : FVec Ideal S1x1024 .f32) (hh : ∀ k, h (ix2 r k) = R.hid k)
    (ha : ∀ k, acc (ix2 r k) = 0 + (∑ y, R.term k (uf 0 y)) + (∑ y, R.term k (uf 1 y)) + (∑ y, R.term k (uf 2 y)) + ∑ y, R.term k (uf 3 y))
    (hg : ∀ k, g (ix2 0 k) = R.fg k) (k : Fin 1024) : k0_pay4 (F := Ideal) h acc g (ix3 0 r k) = R.out k := by
  rw [pay4_apply, hg]
  unfold Row.out
  refine congrArg (· * _) (congrArg (rms · k) (funext fun j => ?_))
  rw [hh, ha, ← sum_chunks (R.term j)]
  rfl

/-- What the carried buffers hold of a row: its residual stream, its norm, and the terms added so far. -/
structure Holds (R : Row) (r : Fin 1024) (acc : Fin 1024 → EReal) (s : Vec Ideal S1x1024x1024 .f32 × Vec Ideal S1024x1024 .f32 × Vec Ideal S1024x1024 .bf16 × Vec Ideal S1024x1024 .f32) : Prop where
  hid : ∀ k, s.2.1 (ix2 r k) = R.hid k
  norm : ∀ k, s.2.2.1 (ix2 r k) = R.norm k
  acc : ∀ k, s.2.2.2 (ix2 r k) = acc k

end Cert.Feed
-- ==== Proof.FeedRef.lean ====
module

public import proofs.«01_k».proof.Proof.FeedSpec
public import proofs.«01_k».proof.Proof.Gen.Reference2Ideal.Read

/-! The second reference program: each row of its result is the formula. -/

@[expose] public section

set_option maxRecDepth 16384

noncomputable section

namespace Cert.Feed

open Idealize.ShloMosaic Idealize.ShloMosaic.TcCoe Idealize.ShloMosaic.Tactic Finset
open Cert.Reference2Ideal Cert.Reference2Ideal.Read

/-- The nine arguments. -/
structure Args where
  x : FVec Ideal S8x4096x1024 .f32
  a : FVec Ideal S8x4096x256 .f32
  b : FVec Ideal S8x4096x256 .f32
  c : FVec Ideal S8x4096x512 .f32
  wo : FVec Ideal S1024x1024 .f32
  g : FVec Ideal S1024 .f32
  wu : FVec Ideal S1024x4096 .f32
  wd : FVec Ideal S4096x1024 .f32
  fg : FVec Ideal S1024 .f32

namespace Args
variable (A : Args)
/-- The three groups' outputs one after another. -/
def mix : FVec Ideal S8x4096x1024 .f32 := val_main_v0 (F := Ideal) A.a A.b A.c
/-- One token's row. -/
def row (n : Fin 8) (l : Fin 4096) : Row where
  x k := A.x (ix3 n l k)
  mix j := A.mix (ix3 n l j)
  wo j k := A.wo (ix2 j k)
  g k := A.g (ix1 k)
  wu k f := A.wu (ix2 k f)
  wd f k := A.wd (ix2 f k)
  fg k := A.fg (ix1 k)
/-- The reference's output. -/
def out : FVec Ideal S8x4096x1024 .f32 := val_main_v33 (F := Ideal) A.x A.a A.b A.c A.wo A.g A.wu A.wd A.fg

variable (n : Fin 8) (l : Fin 4096)

theorem mix_a (j : Fin 256) (p : j.val < 1024) : A.mix (ix3 n l ⟨j.val, p⟩) = A.a (ix3 n l j) := by
  unfold mix val_main_v0
  pointwise
theorem mix_b (j : Fin 256) (p : 256 + j.val < 1024) : A.mix (ix3 n l ⟨256 + j.val, p⟩) = A.b (ix3 n l j) := by
  unfold mix val_main_v0
  pointwise
theorem mix_c (j : Fin 512) (p : 512 + j.val < 1024) : A.mix (ix3 n l ⟨512 + j.val, p⟩) = A.c (ix3 n l j) := by
  unfold mix val_main_v0
  pointwise
  rw [dif_neg (by omega), dif_neg (by omega)]
  exact congrArg (fun z => A.c (ix3 n l z)) (Fin.ext (by show 512 + j.val - 256 - 256 = j.val; omega))

theorem v2_eq (k : Fin 1024) : val_main_v2 (F := Ideal) A.x A.a A.b A.c A.wo (ix3 n l k) = (A.row n l).hid k := by
  unfold Row.hid row mix val_main_v2 val_main_v1
  generalize val_main_v0 (F := Ideal) A.a A.b A.c = X
  pointwise

theorem v15_eq (k : Fin 1024) : val_main_v15 (F := Ideal) A.x A.a A.b A.c A.wo A.g (ix3 n l k) = (A.row n l).norm k := by
  have h := A.v2_eq n l
  unfold val_main_v15 val_main_v12 val_main_v11 val_main_v10 val_main_v9 val_main_v7 val_main_v5 val_main_v4 val_main_v3
  generalize val_main_v2 (F := Ideal) A.x A.a A.b A.c A.wo = X at h ⊢
  pointwise [val_main_v14, val_main_v13, val_main_v8, val_main_cst_1, val_main_v6, val_main_cst_0, val_main_cst]
  simp only [h]
  rfl

theorem v18_eq (f : Fin 4096) : val_main_v18 (F := Ideal) A.x A.a A.b A.c A.wo A.g A.wu (ix3 n l f) = (A.row n l).unit f * (A.row n l).unit f := by
  have h := A.v15_eq n l
  unfold val_main_v18 val_main_v17 val_main_v16
  generalize val_main_v15 (F := Ideal) A.x A.a A.b A.c A.wo A.g = X at h ⊢
  pointwise [val_main_call0_v0, val_main_call0_cst]
  simp only [h]
  rfl

theorem v20_eq (k : Fin 1024) : val_main_v20 (F := Ideal) A.x A.a A.b A.c A.wo A.g A.wu A.wd (ix3 n l k) = (A.row n l).res k := by
  have h := A.v18_eq n l
  have h2 := A.v2_eq n l k
  unfold val_main_v20 val_main_v19
  generalize val_main_v18 (F := Ideal) A.x A.a A.b A.c A.wo A.g A.wu = X at h ⊢
  generalize val_main_v2 (F := Ideal) A.x A.a A.b A.c A.wo = Y at h2 ⊢
  pointwise
  simp only [h, h2]
  rfl

theorem out_eq (k : Fin 1024) : A.out (ix3 n l k) = (A.row n l).out k := by
  have h := A.v20_eq n l
  unfold out val_main_v33 val_main_v30 val_main_v29 val_main_v28 val_main_v27 val_main_v25 val_main_v23 val_main_v22 val_main_v21
  generalize val_main_v20 (F := Ideal) A.x A.a A.b A.c A.wo A.g A.wu A.wd = X at h ⊢
  pointwise [val_main_v32, val_main_v31, val_main_v26, val_main_cst_4, val_main_v24, val_main_cst_3, val_main_cst_2]
  simp only [h]
  rfl
end Args

end Cert.Feed
-- ==== Proof.FeedAsm.lean ====
module

public import proofs.«01_k».proof.Proof.FeedRef
public import proofs.«01_k».proof.Proof.Gen.Kernel2Ideal.Value

/-! The second call's result array: what the host puts in its arrays, what each grid point's blocks hold of them,
and what the four grid points of a row block leave one after another. -/

@[expose] public section

set_option maxRecDepth 16384

noncomputable section

namespace Cert.Feed

open Idealize.ShloMosaic Idealize.ShloMosaic.TcCoe Idealize.ShloMosaic.Tactic Finset
open Cert.Kernel2Ideal Cert.Kernel2Ideal.Gen

/-- The nine arguments as a device holds them at the start. -/
def argsOf (m : (ℓ : Loc nD τ sig) → Buf (Elt Ideal) ℓ) (c : Dev nD) : Args where
  x := m (c, Proc.devRef .tc main_arg0)
  a := m (c, Proc.devRef .tc main_arg1)
  b := m (c, Proc.devRef .tc main_arg2)
  c := m (c, Proc.devRef .tc main_arg3)
  wo := m (c, Proc.devRef .tc main_arg4)
  g := m (c, Proc.devRef .tc main_arg5)
  wu := m (c, Proc.devRef .tc main_arg6)
  wd := m (c, Proc.devRef .tc main_arg7)
  fg := m (c, Proc.devRef .tc main_arg8)

variable (m : (ℓ : Loc nD τ sig) → Buf (Elt Ideal) ℓ) (c : Dev nD)

/-! ## The host's arrays -/

theorem V0 (b : Fin 8) (l : Fin 4096) (k : Fin 1024) : (V m c main_arg0 : FVec Ideal S8x4096x1024 .f32) (ix3 b l k) = (argsOf m c).x (ix3 b l k) := by
  simp only [V, hostOps0]
  entry_read
  rfl
theorem V2 (b : Fin 8) (l : Fin 4096) (k : Fin 256) : (V m c main_v2 : FVec Ideal S8x4096x256 .bf16) (ix3 b l k) = (argsOf m c).a (ix3 b l k) := by
  simp only [V, hostOps0]
  entry_read; pointwise
  rfl
theorem V3 (b : Fin 8) (l : Fin 4096) (k : Fin 256) : (V m c main_v3 : FVec Ideal S4096x2048 .bf16) (ix2 l ⟨256 * b.val + k.val, by omega⟩) = (argsOf m c).b (ix3 b l k) := by
  simp only [V, hostOps0]
  entry_read; pointwise
  exact congrArg₂ (fun z w => (argsOf m c).b (ix3 z l w)) (Fin.ext (by show (256 * b.val + k.val) / 256 = b.val; omega))
    (Fin.ext (by show (256 * b.val + k.val) % 256 = k.val; omega))
theorem V4 (b : Fin 8) (l : Fin 4096) (k : Fin 512) : (V m c main_v4 : FVec Ideal S8x4096x512 .bf16) (ix3 b l k) = (argsOf m c).c (ix3 b l k) := by
  simp only [V, hostOps0]
  entry_read; pointwise
  rfl
theorem V5 (j k : Fin 1024) : (V m c main_v5 : FVec Ideal S1024x1024 .bf16) (ix2 j k) = (argsOf m c).wo (ix2 j k) := by
  simp only [V, hostOps0]
  entry_read; pointwise
  rfl
theorem V6 (k : Fin 1024) : (V m c main_v6 : FVec Ideal S1x1024 .f32) (ix2 0 k) = (argsOf m c).g (ix1 k) := by
  simp only [V, hostOps0]
  entry_read; pointwise
  rfl
theorem V7 (k : Fin 1024) (f : Fin 4096) : (V m c main_v7 : FVec Ideal S1024x4096 .bf16) (ix2 k f) = (argsOf m c).wu (ix2 k f) := by
  simp only [V, hostOps0]
  entry_read; pointwise
  rfl
theorem V8 (f : Fin 4096) (k : Fin 1024) : (V m c main_v8 : FVec Ideal S4096x1024 .bf16) (ix2 f k) = (argsOf m c).wd (ix2 f k) := by
  simp only [V, hostOps0]
  entry_read; pointwise
  rfl
theorem V9 (k : Fin 1024) : (V m c main_v9 : FVec Ideal S1x1024 .f32) (ix2 0 k) = (argsOf m c).fg (ix1 k) := by
  simp only [V, hostOps0]
  entry_read; pointwise
  rfl

/-! ## The blocks -/

variable (t : Fin cfg0.N)

theorem lt_points : t.val < 128 := t.isLt
/-- The sequence of a grid point, its chunk of units, and the token of its row `r`. -/
def sq : Fin 8 := ⟨t.val / 16, by have := lt_points t; omega⟩
def ch : Fin 4 := ⟨t.val % 4, by omega⟩
def tok (r : Fin 1024) : Fin 4096 := ⟨1024 * (t.val / 4 % 4) + r.val, by omega⟩

theorem ix_0 : ∀ t : Fin cfg0.N, (cfg0.win 0).index t = ![t.val / 16, t.val / 4 % 4, 0] :=
  (by decide +kernel : ∀ t : Fin grid0.N, win0_0.index t = ![t.val / 16, t.val / 4 % 4, 0])
theorem ix_1 : ∀ t : Fin cfg0.N, (cfg0.win 1).index t = ![t.val / 16, t.val / 4 % 4, 0] :=
  (by decide +kernel : ∀ t : Fin grid0.N, win0_1.index t = ![t.val / 16, t.val / 4 % 4, 0])
theorem ix_2 : ∀ t : Fin cfg0.N, (cfg0.win 2).index t = ![t.val / 4 % 4, t.val / 16] :=
  (by decide +kernel : ∀ t : Fin grid0.N, win0_2.index t = ![t.val / 4 % 4, t.val / 16])
theorem ix_3 : ∀ t : Fin cfg0.N, (cfg0.win 3).index t = ![t.val / 16, t.val / 4 % 4, 0] :=
  (by decide +kernel : ∀ t : Fin grid0.N, win0_3.index t = ![t.val / 16, t.val / 4 % 4, 0])
theorem ix_4 : ∀ t : Fin cfg0.N, (cfg0.win 4).index t = ![0, 0] :=
  (by decide +kernel : ∀ t : Fin grid0.N, win0_4.index t = ![0, 0])
theorem ix_5 : ∀ t : Fin cfg0.N, (cfg0.win 5).index t = ![0, 0] :=
  (by decide +kernel : ∀ t : Fin grid0.N, win0_5.index t = ![0, 0])
theorem ix_6 : ∀ t : Fin cfg0.N, (cfg0.win 6).index t = ![0, t.val % 4] :=
  (by decide +kernel : ∀ t : Fin grid0.N, win0_6.index t = ![0, t.val % 4])
theorem ix_7 : ∀ t : Fin cfg0.N, (cfg0.win 7).index t = ![t.val % 4, 0] :=
  (by decide +kernel : ∀ t : Fin grid0.N, win0_7.index t = ![t.val % 4, 0])
theorem ix_8 : ∀ t : Fin cfg0.N, (cfg0.win 8).index t = ![0, 0] :=
  (by decide +kernel : ∀ t : Fin grid0.N, win0_8.index t = ![0, 0])

theorem b0 (r k : Fin 1024) : (iblk m c 0 t : FVec Ideal S1x1024x1024 .f32) (ix3 0 r k) = V m c main_arg0 (ix3 (sq t) (tok t r) k) := by
  blk_ext [iblk, ix_0 t, sq, tok]
theorem b1 (r : Fin 1024) (k : Fin 256) : (iblk m c 1 t : FVec Ideal S1x1024x256 .bf16) (ix3 0 r k) = V m c main_v2 (ix3 (sq t) (tok t r) k) := by
  blk_ext [iblk, ix_1 t, sq, tok]
theorem b2 (r : Fin 1024) (k : Fin 256) : (iblk m c 2 t : FVec Ideal S1024x256 .bf16) (ix2 r k) = V m c main_v3 (ix2 (tok t r) ⟨256 * (sq t).val + k.val, by omega⟩) := by
  blk_ext [iblk, ix_2 t, sq, tok]
theorem b3 (r : Fin 1024) (k : Fin 512) : (iblk m c 3 t : FVec Ideal S1x1024x512 .bf16) (ix3 0 r k) = V m c main_v4 (ix3 (sq t) (tok t r) k) := by
  blk_ext [iblk, ix_3 t, sq, tok]
theorem b4 (j k : Fin 1024) : (iblk m c 4 t : FVec Ideal S1024x1024 .bf16) (ix2 j k) = V m c main_v5 (ix2 j k) := by
  blk_ext [iblk, ix_4 t]
theorem b5 (k : Fin 1024) : (iblk m c 5 t : FVec Ideal S1x1024 .f32) (ix2 0 k) = V m c main_v6 (ix2 0 k) := by
  blk_ext [iblk, ix_5 t]
theorem b6 (k f : Fin 1024) : (iblk m c 6 t : FVec Ideal S1024x1024 .bf16) (ix2 k f) = V m c main_v7 (ix2 k (uf (ch t) f)) := by
  blk_ext [iblk, ix_6 t, uf, ch]
theorem b7 (f k : Fin 1024) : (iblk m c 7 t : FVec Ideal S1024x1024 .bf16) (ix2 f k) = V m c main_v8 (ix2 (uf (ch t) f) k) := by
  blk_ext [iblk, ix_7 t, uf, ch]
theorem b8 (k : Fin 1024) : (iblk m c 8 t : FVec Ideal S1x1024 .f32) (ix2 0 k) = V m c main_v9 (ix2 0 k) := by
  blk_ext [iblk, ix_8 t]

theorem first (r : Fin 1024) : First ((argsOf m c).row (sq t) (tok t r)) r (iblk m c 0 t) (iblk m c 1 t) (iblk m c 2 t) (iblk m c 3 t) (iblk m c 4 t) (iblk m c 5 t) where
  x k := (b0 m c t r k).trans (V0 m c _ _ k)
  a j := ((b1 m c t r j).trans (V2 m c _ _ j)).trans ((argsOf m c).mix_a _ _ j _).symm
  b j := ((b2 m c t r j).trans (V3 m c _ _ j)).trans ((argsOf m c).mix_b _ _ j _).symm
  c j := ((b3 m c t r j).trans (V4 m c _ _ j)).trans ((argsOf m c).mix_c _ _ j _).symm
  wo j k := (b4 m c t j k).trans (V5 m c j k)
  g k := (b5 m c t k).trans (V6 m c k)

/-! ## The four points of a row block -/

theorem hidA (h : t.val % 4 = 0) : (outsAt0 m c t.val t.isLt).2.1 = hidM (F := Ideal) (iblk m c 0 t) (iblk m c 1 t) (iblk m c 2 t) (iblk m c 3 t) (iblk m c 4 t) := by
  rw [outsAt0_A m c t h (by omega)]
  dsimp only
  rw [endA0]
theorem normA (h : t.val % 4 = 0) : (outsAt0 m c t.val t.isLt).2.2.1 = normM (F := Ideal) (iblk m c 0 t) (iblk m c 1 t) (iblk m c 2 t) (iblk m c 3 t) (iblk m c 4 t) (iblk m c 5 t) := by
  rw [outsAt0_A m c t h (by omega)]
  dsimp only
  rw [endA1]
theorem accA (h : t.val % 4 = 0) : (outsAt0 m c t.val t.isLt).2.2.2
    = k0_pay3 (F := Ideal) (normM (F := Ideal) (iblk m c 0 t) (iblk m c 1 t) (iblk m c 2 t) (iblk m c 3 t) (iblk m c 4 t) (iblk m c 5 t)) (iblk m c 6 t) (k0_pay2 (F := Ideal)) (iblk m c 7 t) := by
  rw [outsAt0_A m c t h (by omega)]
  dsimp only
  rw [endA2]

/-- What the point before left. -/
abbrev prev : Vec Ideal S1x1024x1024 .f32 × Vec Ideal S1024x1024 .f32 × Vec Ideal S1024x1024 .bf16 × Vec Ideal S1024x1024 .f32 :=
  outsAt0 m c (t.val - 1) (Nat.lt_of_le_of_lt (Nat.sub_le _ _) t.isLt)
theorem hidB (h0 : ¬t.val % 4 = 0) (h1 : ¬t.val % 4 = 3) : (outsAt0 m c t.val t.isLt).2.1 = (prev m c t).2.1 := by
  rw [outsAt0_B m c t h0 h1]
  rfl
theorem normB (h0 : ¬t.val % 4 = 0) (h1 : ¬t.val % 4 = 3) : (outsAt0 m c t.val t.isLt).2.2.1 = (prev m c t).2.2.1 := by
  rw [outsAt0_B m c t h0 h1]
  rfl
theorem accB (h0 : ¬t.val % 4 = 0) (h1 : ¬t.val % 4 = 3) : (outsAt0 m c t.val t.isLt).2.2.2
    = k0_pay3 (F := Ideal) (prev m c t).2.2.1 (iblk m c 6 t) (prev m c t).2.2.2 (iblk m c 7 t) := by
  rw [outsAt0_B m c t h0 h1]
  dsimp only
  rw [endB2]
theorem outC (h0 : ¬t.val % 4 = 0) (h1 : t.val % 4 = 3) : (outsAt0 m c t.val t.isLt).1
    = k0_pay4 (F := Ideal) (prev m c t).2.1 (k0_pay3 (F := Ideal) (prev m c t).2.2.1 (iblk m c 6 t) (prev m c t).2.2.2 (iblk m c 7 t)) (iblk m c 8 t) := by
  rw [outsAt0_C m c t h0 h1]
  dsimp only
  rw [endC9]

theorem upB (n : Fin 8) (l : Fin 4096) (k f : Fin 1024) : (iblk m c 6 t : FVec Ideal S1024x1024 .bf16) (ix2 k f) = ((argsOf m c).row n l).wu k (uf (ch t) f) :=
  (b6 m c t k f).trans (V7 m c k _)
theorem dnB (n : Fin 8) (l : Fin 4096) (f k : Fin 1024) : (iblk m c 7 t : FVec Ideal S1024x1024 .bf16) (ix2 f k) = ((argsOf m c).row n l).wd (uf (ch t) f) k :=
  (b7 m c t f k).trans (V8 m c _ k)

theorem holdsA (h : t.val % 4 = 0) (r : Fin 1024) (j : Fin 4) (hj : ch t = j) :
    Holds ((argsOf m c).row (sq t) (tok t r)) r (fun k => 0 + ∑ f, ((argsOf m c).row (sq t) (tok t r)).term k (uf j f)) (outsAt0 m c t.val t.isLt) := by
  subst hj
  have H := first m c t r
  refine ⟨fun k => ?_, fun k => ?_, fun k => ?_⟩
  · rw [hidA m c t h]
    exact hidM_eq H k
  · rw [normA m c t h]
    exact normM_eq H k
  · rw [accA m c t h]
    have e := step_eq ((argsOf m c).row (sq t) (tok t r)) r (ch t) _ (iblk m c 6 t) (iblk m c 7 t) (k0_pay2 (F := Ideal)) (normM_eq H) (upB m c t _ _) (dnB m c t _ _) k
    rw [zero_eq] at e
    exact e

theorem holdsB (h0 : ¬t.val % 4 = 0) (h1 : ¬t.val % 4 = 3) (n : Fin 8) (l : Fin 4096) (r : Fin 1024) (j : Fin 4) (hj : ch t = j) (acc : Fin 1024 → EReal)
    (H : Holds ((argsOf m c).row n l) r acc (prev m c t)) :
    Holds ((argsOf m c).row n l) r (fun k => acc k + ∑ f, ((argsOf m c).row n l).term k (uf j f)) (outsAt0 m c t.val t.isLt) := by
  subst hj
  refine ⟨fun k => ?_, fun k => ?_, fun k => ?_⟩
  · rw [hidB m c t h0 h1]
    exact H.hid k
  · rw [normB m c t h0 h1]
    exact H.norm k
  · rw [accB m c t h0 h1]
    have e := step_eq ((argsOf m c).row n l) r (ch t) (prev m c t).2.2.1 (iblk m c 6 t) (iblk m c 7 t) (prev m c t).2.2.2 H.norm (upB m c t _ _) (dnB m c t _ _) k
    rw [H.acc] at e
    exact e

theorem out_last (h : t.val % 4 = 3) (r k : Fin 1024) :
    (outsAt0 m c t.val t.isLt).1 (ix3 0 r k) = (argsOf m c).out (ix3 (sq t) (tok t r) k) := by
  have ht := lt_points t
  have hN : cfg0.N = 128 := N_0
  let t2 : Fin cfg0.N := ⟨t.val - 1, by omega⟩
  let t1 : Fin cfg0.N := ⟨t.val - 1 - 1, by omega⟩
  let t0 : Fin cfg0.N := ⟨t.val - 1 - 1 - 1, by omega⟩
  have hs : sq t0 = sq t := Fin.ext (by show (t.val - 1 - 1 - 1) / 16 = t.val / 16; omega)
  have hk : tok t0 r = tok t r := Fin.ext (by show 1024 * ((t.val - 1 - 1 - 1) / 4 % 4) + r.val = 1024 * (t.val / 4 % 4) + r.val; omega)
  have H0 := holdsA m c t0 (by show (t.val - 1 - 1 - 1) % 4 = 0; omega) r 0 (Fin.ext (by show (t.val - 1 - 1 - 1) % 4 = 0; omega))
  rw [hs, hk] at H0
  have H1 := holdsB m c t1 (by show ¬(t.val - 1 - 1) % 4 = 0; omega) (by show ¬(t.val - 1 - 1) % 4 = 3; omega) _ _ r 1 (Fin.ext (by show (t.val - 1 - 1) % 4 = 1; omega)) _ H0
  have H2 := holdsB m c t2 (by show ¬(t.val - 1) % 4 = 0; omega) (by show ¬(t.val - 1) % 4 = 3; omega) _ _ r 2 (Fin.ext (by show (t.val - 1) % 4 = 2; omega)) _ H1
  have h3 : ch t = 3 := Fin.ext h
  rw [outC m c t (by omega) h, Args.out_eq]
  have e := step_eq ((argsOf m c).row (sq t) (tok t r)) r (ch t) (prev m c t).2.2.1 (iblk m c 6 t) (iblk m c 7 t) (prev m c t).2.2.2 H2.norm (upB m c t _ _) (dnB m c t _ _)
  rw [h3] at e
  exact last_eq _ r (prev m c t).2.1 _ (iblk m c 8 t) H2.hid (fun k => (e k).trans (congrArg (· + _) (H2.acc k))) (fun k => (b8 m c t k).trans (V9 m c k)) k

/-- The result array is the reference's output. -/
theorem arr_eq : Value.G9 m c = (argsOf m c).out := by
  funext i
  have h0 : (i 0).val < 8 := (i 0).isLt
  have h1 : (i 1).val < 4096 := (i 1).isLt
  have h2 : (i 2).val < 1024 := (i 2).isLt
  have hN : cfg0.N = 128 := N_0
  have hp : Value.pt9Of i < cfg0.N := by
    show 4 * (4 * ((i 0).val / 1 - 0) + 1 * ((i 1).val / 1024 - 0) + 1 * ((i 2).val / 1024 - 0)) + 3 < cfg0.N
    omega
  unfold Value.G9
  rw [dif_pos hp, ← Value.outsAt0_sweep m c (Value.pt9Of i) hp]
  have ht : (4 * (4 * ((i 0).val / 1 - 0) + 1 * ((i 1).val / 1024 - 0) + 1 * ((i 2).val / 1024 - 0)) + 3) % 4 = 3 := by omega
  have hl : Value.loc9Of i = ix3 0 ⟨(i 1).val % 1024, by omega⟩ (i 2) := by
    funext a
    fin_cases a
    · exact Subsingleton.elim (α := Fin 1) _ _
    · rfl
    · exact Fin.ext (Nat.mod_eq_of_lt h2)
  have e := out_last m c ⟨Value.pt9Of i, hp⟩ ht ⟨(i 1).val % 1024, by omega⟩ (i 2)
  rw [hl]
  refine e.trans (congrArg _ ?_)
  funext a
  fin_cases a
  · exact Fin.ext (by show (4 * (4 * ((i 0).val / 1 - 0) + 1 * ((i 1).val / 1024 - 0) + 1 * ((i 2).val / 1024 - 0)) + 3) / 16 = (i 0).val; omega)
  · exact Fin.ext (by show 1024 * ((4 * (4 * ((i 0).val / 1 - 0) + 1 * ((i 1).val / 1024 - 0) + 1 * ((i 2).val / 1024 - 0)) + 3) / 4 % 4) + (i 1).val % 1024 = (i 1).val; omega)
  · rfl

end Cert.Feed
-- ==== Proof.MidRun.lean ====
module

public import proofs.«01_k».proof.Proof.Gen.Kernel3Ideal.Frame
public import proofs.«01_k».proof.Proof.FeedRun

/-! What each grid point of the third call, the second without the final norm, leaves in its carried buffers and in its output block, off its input blocks. -/

@[expose] public section

set_option maxRecDepth 16384

noncomputable section

namespace Cert.Mid
open Idealize.ShloMosaic Idealize.ShloMosaic.TcCoe Idealize.ShloMosaic.Tactic
open Cert.Kernel3Ideal Cert.Kernel3Ideal.Gen Cert.Feed
variable {F : FTy → Type} [FloatOps F]

variable (c : Dev nD) (i : grid0.Coords) (arg2 : Memref sig .tc .vmem S1x1024x1024 .f32) (harg2 : arg2.IsWhole) (arg3 : Memref sig .tc .vmem S1x1024x256 .bf16) (harg3 : arg3.IsWhole) (arg4 : Memref sig .tc .vmem S1024x256 .bf16) (harg4 : arg4.IsWhole) (arg5 : Memref sig .tc .vmem S1x1024x512 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1x1024 .f32) (harg10 : arg10.IsWhole) (arg11 : Memref sig .tc .vmem S1x1024x1024 .f32) (harg11 : arg11.IsWhole) (arg12 : Memref sig .tc .vmem S1024x1024 .f32) (harg12 : arg12.IsWhole) (arg13 : Memref sig .tc .vmem S1024x1024 .bf16) (harg13 : arg13.IsWhole) (arg14 : Memref sig .tc .vmem S1024x1024 .f32) (harg14 : arg14.IsWhole)
    (x0 : Vec F S1x1024x1024 .f32) (x1 : Vec F S1x1024x256 .bf16) (x2 : Vec F S1024x256 .bf16) (x3 : Vec F S1x1024x512 .bf16) (x4 : Vec F S1024x1024 .bf16) (x5 : Vec F S1x1024 .f32) (x6 : Vec F S1024x1024 .bf16) (x7 : Vec F S1024x1024 .bf16) (x8 : Vec F S1x1024 .f32)
    (xs0 : Vec F S1024x1024 .f32) (xs1 : Vec F S1024x1024 .bf16) (xs2 : Vec F S1024x1024 .f32)
theorem runA0 (hc0 : cond0_0 i) (hc1 : ¬cond0_1 i) :
    (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.1 = [⟨(Rect.unit (s := S1024x1024) ![0, 0] S1024x1024.size inb_S1024x1024_S1024x1024_0_0), k0_pay6 (View.readAt (Elt F) arg3.view (Rect.unit (s := S1x1024x256) ![0, 0, 0] S1x1024x256.size inb_S1x1024x256_S1x1024x256_0_0_0).toLoadRect (harg3.unread x1)) (View.readAt (Elt F) arg6.view (Rect.unit (s := S1024x1024) ![0, 0] S256x1024.size inb_S1024x1024_S256x1024_0_0).toLoadRect (harg6.unread x4)) (View.readAt (Elt F) arg4.view (Rect.unit (s := S1024x256) ![0, 0] S1024x256.size inb_S1024x256_S1024x256_0_0).toLoadRect (harg4.unread x2)) (View.readAt (Elt F) arg6.view (Rect.unit (s := S1024x1024) ![256, 0] S256x1024.size inb_S1024x1024_S256x1024_256_0).toLoadRect (harg6.unread x4)) (View.readAt (Elt F) arg5.view (Rect.unit (s := S1x1024x512) ![0, 0, 0] S1x1024x512.size inb_S1x1024x512_S1x1024x512_0_0_0).toLoadRect (harg5.unread x3)) (View.readAt (Elt F) arg6.view (Rect.unit (s := S1024x1024) ![512, 0] S512x1024.size inb_S1024x1024_S512x1024_512_0).toLoadRect (harg6.unread x4)) (View.readAt (Elt F) arg2.view (Rect.unit (s := S1x1024x1024) ![0, 0, 0] S1x1024x1024.size inb_S1x1024x1024_S1x1024x1024_0_0_0).toLoadRect (harg2.unread x0))⟩] := by
  sl_kernel_rfl
theorem runA1 (hc0 : cond0_0 i) (hc1 : ¬cond0_1 i) :
    (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.1 = [⟨(Rect.unit (s := S1024x1024) ![0, 0] S1024x1024.size inb_S1024x1024_S1024x1024_0_0), (k0_pay1 (k0_pay7 (View.readAt (Elt F) arg3.view (Rect.unit (s := S1x1024x256) ![0, 0, 0] S1x1024x256.size inb_S1x1024x256_S1x1024x256_0_0_0).toLoadRect (harg3.unread x1)) (View.readAt (Elt F) arg6.view (Rect.unit (s := S1024x1024) ![0, 0] S256x1024.size inb_S1024x1024_S256x1024_0_0).toLoadRect (harg6.unread x4)) (View.readAt (Elt F) arg4.view (Rect.unit (s := S1024x256) ![0, 0] S1024x256.size inb_S1024x256_S1024x256_0_0).toLoadRect (harg4.unread x2)) (View.readAt (Elt F) arg6.view (Rect.unit (s := S1024x1024) ![256, 0] S256x1024.size inb_S1024x1024_S256x1024_256_0).toLoadRect (harg6.unread x4)) (View.readAt (Elt F) arg5.view (Rect.unit (s := S1x1024x512) ![0, 0, 0] S1x1024x512.size inb_S1x1024x512_S1x1024x512_0_0_0).toLoadRect (harg5.unread x3)) (View.readAt (Elt F) arg6.view (Rect.unit (s := S1024x1024) ![512, 0] S512x1024.size inb_S1024x1024_S512x1024_512_0).toLoadRect (harg6.unread x4)) (View.readAt (Elt F) arg2.view (Rect.unit (s := S1x1024x1024) ![0, 0, 0] S1x1024x1024.size inb_S1x1024x1024_S1x1024x1024_0_0_0).toLoadRect (harg2.unread x0))) (View.readAt (Elt F) arg7.view (Rect.unit (s := S1x1024) ![0, 0] S1x1024.size inb_S1x1024_S1x1024_0_0).toLoadRect (harg7.unread x5)))⟩] := by
  sl_kernel_rfl
theorem runA2 (hc0 : cond0_0 i) (hc1 : ¬cond0_1 i) :
    (kernelRun0_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8).2.2.2.1 = [⟨(Rect.unit (s := S1024x1024) ![0, 0] S1024x1024.size inb_S1024x1024_S1024x1024_0_0), k0_pay3 (arg13.view.readCov [⟨(Rect.unit (s := S1024x1024) ![0, 0] S1024x1024.size inb_S1024x1024_S1024x1024_0_0), (k0_pay1 (k0_pay7 (View.readAt (Elt F) arg3.view (Rect.unit (s := S1x1024x256) ![0, 0, 0] S1x1024x256.size inb_S1x1024x256_S1x1024x256_0_0_0).toLoadRect (harg3.unread x1)) (View.readAt (Elt F) arg6.view (Rect.unit (s := S1024x1024) ![0, 0] S256x1024.size inb_S1024x1024_S256x1024_0_0).toLoadRect (harg6.unread x4)) (View.readAt (Elt F) arg4.view (Rect.unit (s := S1024x256) ![0, 0] S1024x256.size inb_S1024x256_S1024x256_0_0).toLoadRect (harg4.unread x2)) (View.readAt (Elt F) arg6.view (Rect.unit (s := S1024x1024) ![256, 0] S256x1024.size inb_S1024x1024_S256x1024_256_0).toLoadRect (harg6.unread x4)) (View.readAt (Elt F) arg5.view (Rect.unit (s := S1x1024x512) ![0, 0, 0] S1x1024x512.size inb_S1x1024x512_S1x1024x512_0_0_0).toLoadRect (harg5.unread x3)) (View.readAt (Elt F) arg6.view (Rect.unit (s := S1024x1024) ![512, 0] S512x1024.size inb_S1024x1024_S512x1024_512_0).toLoadRect (harg6.unread x4)) (View.readAt (Elt F) arg2.view (Rect.unit (s := S1x1024x1024) ![0, 0, 0] S1x1024x1024.size inb_S1x1024x1024_S1x1024x1024_0_0_0).toLoadRect (harg2.unread x0))) (View.readAt (Elt F) arg7.view (Rect.unit (s := S1x1024) ![0, 0] S1x1024.size inb_S1x1024_S1x1024_0_0).toLoadRect (harg7.unread x5)))⟩] (Rect.unit (s := S1024x1024) ![0, 0] S1024x1024.size inb_S1024x1024_S1024x1024_0_0).toLoadRect) (View.readAt (Elt F) arg8.view (Rect.unit (s := S1024x1024) ![0, 0] S1024x1024.size inb_S1024x1024_S1024x1024_0_0).toLoadRect (harg8.unread x6)) (arg14.view.readCov [⟨(Rect.unit (s := S1024x1024) ![0, 0] S1024x1024.size inb_S1024x1024_S1024x1024_0_0), k0_pay2 (F := F)⟩] (Rect.unit (s := S1024x1024) ![0, 0] S1024x1024.size inb_S1024x1024_S1024x1024_0_0).toLoadRect) (View.readAt (Elt F) arg9.view (Rect.unit (s := S1024x1024) ![0, 0] S1024x1024.size inb_S1024x1024_S1024x1024_0_0).toLoadRect (harg9.unread x7))⟩, ⟨(Rect.unit (s := S1024x1024) ![0, 0] S1024x1024.size inb_S1024x1024_S1024x1024_0_0), k0_pay2 (F := F)⟩] := by
  sl_kernel_rfl
theorem runB2 (hc0 : ¬cond0_0 i) (hc1 : ¬cond0_1 i) :
    (kernelRun0_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).2.2.2.1 = [⟨(Rect.unit (s := S1024x1024) ![0, 0] S1024x1024.size inb_S1024x1024_S1024x1024_0_0), k0_pay3 (View.readAt (Elt F) arg13.view (Rect.unit (s := S1024x1024) ![0, 0] S1024x1024.size inb_S1024x1024_S1024x1024_0_0).toLoadRect (harg13.unread xs1)) (View.readAt (Elt F) arg8.view (Rect.unit (s := S1024x1024) ![0, 0] S1024x1024.size inb_S1024x1024_S1024x1024_0_0).toLoadRect (harg8.unread x6)) (View.readAt (Elt F) arg14.view (Rect.unit (s := S1024x1024) ![0, 0] S1024x1024.size inb_S1024x1024_S1024x1024_0_0).toLoadRect (harg14.unread xs2)) (View.readAt (Elt F) arg9.view (Rect.unit (s := S1024x1024) ![0, 0] S1024x1024.size inb_S1024x1024_S1024x1024_0_0).toLoadRect (harg9.unread x7))⟩] := by
  sl_kernel_rfl
theorem runC9 (hc0 : ¬cond0_0 i) (hc1 : cond0_1 i) :
    (kernelRun0_C c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2).1 = [⟨(Rect.unit (s := S1x1024x1024) ![0, 0, 0] S1x1024x1024.size inb_S1x1024x1024_S1x1024x1024_0_0_0), k0_pay4 (View.readAt (Elt F) arg12.view (Rect.unit (s := S1024x1024) ![0, 0] S1024x1024.size inb_S1024x1024_S1024x1024_0_0).toLoadRect (harg12.unread xs0)) (arg14.view.readCov [⟨(Rect.unit (s := S1024x1024) ![0, 0] S1024x1024.size inb_S1024x1024_S1024x1024_0_0), k0_pay3 (View.readAt (Elt F) arg13.view (Rect.unit (s := S1024x1024) ![0, 0] S1024x1024.size inb_S1024x1024_S1024x1024_0_0).toLoadRect (harg13.unread xs1)) (View.readAt (Elt F) arg8.view (Rect.unit (s := S1024x1024) ![0, 0] S1024x1024.size inb_S1024x1024_S1024x1024_0_0).toLoadRect (harg8.unread x6)) (View.readAt (Elt F) arg14.view (Rect.unit (s := S1024x1024) ![0, 0] S1024x1024.size inb_S1024x1024_S1024x1024_0_0).toLoadRect (harg14.unread xs2)) (View.readAt (Elt F) arg9.view (Rect.unit (s := S1024x1024) ![0, 0] S1024x1024.size inb_S1024x1024_S1024x1024_0_0).toLoadRect (harg9.unread x7))⟩] (Rect.unit (s := S1024x1024) ![0, 0] S1024x1024.size inb_S1024x1024_S1024x1024_0_0).toLoadRect)⟩] := by
  sl_kernel_rfl

theorem endA0 (hc0 : cond0_0 i) (hc1 : ¬cond0_1 i) :
    sout0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = hidM x0 x1 x2 x3 x4 := by
  unfold sout0_A_0
  rw [View.read_writes_junk_eq_canon, runA0]
  refine (View.canon_cons_unit_lit _ _ _ (by decide)).trans ?_
  simp (disch := decide) only [View.readAt_eq_ld, Memref.IsWhole.read_unread, View.ld_unit_lit]
  rfl
theorem endA1 (hc0 : cond0_0 i) (hc1 : ¬cond0_1 i) :
    sout0_A_1 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = normM x0 x1 x2 x3 x4 x5 := by
  unfold sout0_A_1
  rw [View.read_writes_junk_eq_canon, runA1]
  refine (View.canon_cons_unit_lit _ _ _ (by decide)).trans ?_
  simp (disch := decide) only [View.readAt_eq_ld, Memref.IsWhole.read_unread, View.ld_unit_lit]
  rfl
theorem endA2 (hc0 : cond0_0 i) (hc1 : ¬cond0_1 i) :
    sout0_A_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 = Kernel2Ideal.Gen.k0_pay3 (normM x0 x1 x2 x3 x4 x5) x6 Kernel2Ideal.Gen.k0_pay2 x7 := by
  unfold sout0_A_2
  rw [View.read_writes_junk_eq_canon, runA2]
  refine (View.canon_cons_unit_lit _ _ _ (by decide)).trans ?_
  simp (disch := decide) only [View.readAt_eq_ld, Memref.IsWhole.read_unread, View.readCov_unit_lit, View.ld_unit_lit]
  rfl
theorem endB2 (hc0 : ¬cond0_0 i) (hc1 : ¬cond0_1 i) :
    sout0_B_2 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = Kernel2Ideal.Gen.k0_pay3 xs1 x6 xs2 x7 := by
  unfold sout0_B_2
  rw [View.read_writes_junk_eq_canon, runB2]
  refine (View.canon_cons_unit_lit _ _ _ (by decide)).trans ?_
  simp (disch := decide) only [View.readAt_eq_ld, Memref.IsWhole.read_unread, View.ld_unit_lit]
  rfl
theorem endC9 (hc0 : ¬cond0_0 i) (hc1 : cond0_1 i) :
    out0_C_9 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 xs0 xs1 xs2 = k0_pay4 xs0 (Kernel2Ideal.Gen.k0_pay3 xs1 x6 xs2 x7) := by
  unfold out0_C_9
  rw [View.read_writes_junk_eq_canon, runC9]
  refine (View.canon_cons_unit_lit _ _ _ (by decide)).trans ?_
  simp (disch := decide) only [View.readAt_eq_ld, Memref.IsWhole.read_unread, View.readCov_unit_lit, View.ld_unit_lit]
  rfl

end Cert.Mid
-- ==== Proof.MidAsm.lean ====
module

public import proofs.«01_k».proof.Proof.FeedRef
public import proofs.«01_k».proof.Proof.MidRun
public import proofs.«01_k».proof.Proof.Gen.Kernel3Ideal.Value
public import proofs.«01_k».proof.Proof.Gen.Reference3Ideal.Read

/-! The third call's result array: what the host puts in its arrays, what each grid point's blocks hold of them,
and what the four grid points of a row block leave one after another. -/

@[expose] public section

set_option maxRecDepth 16384

noncomputable section

namespace Cert.Mid

open Idealize.ShloMosaic Idealize.ShloMosaic.TcCoe Idealize.ShloMosaic.Tactic Finset
open Cert.Kernel3Ideal Cert.Kernel3Ideal.Gen Cert.Feed

/-- The third reference's output, the residual stream past the feed-forward network. -/
def mid (A : Args) : FVec Ideal S8x4096x1024 .f32 := Cert.Reference3Ideal.Read.val_main_v20 (F := Ideal) A.x A.a A.b A.c A.wo A.g A.wu A.wd
theorem mid_eq (A : Args) (n : Fin 8) (l : Fin 4096) (k : Fin 1024) : mid A (ix3 n l k) = (A.row n l).res k :=
  A.v20_eq n l k

theorem pay4_apply (x acc : FVec Ideal S1024x1024 .f32) (r k : Fin 1024) : k0_pay4 (F := Ideal) x acc (ix3 0 r k) = x (ix2 r k) + acc (ix2 r k) := by
  pointwise [k0_pay4]

/-- The last chunk's point stores the row's residual stream. -/
theorem last_eq (R : Row) (r : Fin 1024) (h acc : FVec Ideal S1024x1024 .f32) (hh : ∀ k, h (ix2 r k) = R.hid k)
    (ha : ∀ k, acc (ix2 r k) = 0 + (∑ y, R.term k (uf 0 y)) + (∑ y, R.term k (uf 1 y)) + (∑ y, R.term k (uf 2 y)) + ∑ y, R.term k (uf 3 y))
    (k : Fin 1024) : k0_pay4 (F := Ideal) h acc (ix3 0 r k) = R.res k := by
  rw [pay4_apply, hh, ha, ← sum_chunks (R.term k)]
  rfl

/-- The nine arguments as a device holds them at the start. -/
def argsOf (m : (ℓ : Loc nD τ sig) → Buf (Elt Ideal) ℓ) (c : Dev nD) : Args where
  x := m (c, Proc.devRef .tc main_arg0)
  a := m (c, Proc.devRef .tc main_arg1)
  b := m (c, Proc.devRef .tc main_arg2)
  c := m (c, Proc.devRef .tc main_arg3)
  wo := m (c, Proc.devRef .tc main_arg4)
  g := m (c, Proc.devRef .tc main_arg5)
  wu := m (c, Proc.devRef .tc main_arg6)
  wd := m (c, Proc.devRef .tc main_arg7)
  fg := m (c, Proc.devRef .tc main_arg8)

variable (m : (ℓ : Loc nD τ sig) → Buf (Elt Ideal) ℓ) (c : Dev nD)

/-! ## The host's arrays -/

theorem V0 (b : Fin 8) (l : Fin 4096) (k : Fin 1024) : (V m c main_arg0 : FVec Ideal S8x4096x1024 .f32) (ix3 b l k) = (argsOf m c).x (ix3 b l k) := by
  simp only [V, hostOps0]
  entry_read
  rfl
theorem V2 (b : Fin 8) (l : Fin 4096) (k : Fin 256) : (V m c main_v2 : FVec Ideal S8x4096x256 .bf16) (ix3 b l k) = (argsOf m c).a (ix3 b l k) := by
  simp only [V, hostOps0]
  entry_read; pointwise
  rfl
theorem V3 (b : Fin 8) (l : Fin 4096) (k : Fin 256) : (V m c main_v3 : FVec Ideal S4096x2048 .bf16) (ix2 l ⟨256 * b.val + k.val, by omega⟩) = (argsOf m c).b (ix3 b l k) := by
  simp only [V, hostOps0]
  entry_read; pointwise
  exact congrArg₂ (fun z w => (argsOf m c).b (ix3 z l w)) (Fin.ext (by show (256 * b.val + k.val) / 256 = b.val; omega))
    (Fin.ext (by show (256 * b.val + k.val) % 256 = k.val; omega))
theorem V4 (b : Fin 8) (l : Fin 4096) (k : Fin 512) : (V m c main_v4 : FVec Ideal S8x4096x512 .bf16) (ix3 b l k) = (argsOf m c).c (ix3 b l k) := by
  simp only [V, hostOps0]
  entry_read; pointwise
  rfl
theorem V5 (j k : Fin 1024) : (V m c main_v5 : FVec Ideal S1024x1024 .bf16) (ix2 j k) = (argsOf m c).wo (ix2 j k) := by
  simp only [V, hostOps0]
  entry_read; pointwise
  rfl
theorem V6 (k : Fin 1024) : (V m c main_v6 : FVec Ideal S1x1024 .f32) (ix2 0 k) = (argsOf m c).g (ix1 k) := by
  simp only [V, hostOps0]
  entry_read; pointwise
  rfl
theorem V7 (k : Fin 1024) (f : Fin 4096) : (V m c main_v7 : FVec Ideal S1024x4096 .bf16) (ix2 k f) = (argsOf m c).wu (ix2 k f) := by
  simp only [V, hostOps0]
  entry_read; pointwise
  rfl
theorem V8 (f : Fin 4096) (k : Fin 1024) : (V m c main_v8 : FVec Ideal S4096x1024 .bf16) (ix2 f k) = (argsOf m c).wd (ix2 f k) := by
  simp only [V, hostOps0]
  entry_read; pointwise
  rfl

/-! ## The blocks -/

variable (t : Fin cfg0.N)

theorem lt_points : t.val < 128 := t.isLt
/-- The sequence of a grid point, its chunk of units, and the token of its row `r`. -/
def sq : Fin 8 := ⟨t.val / 16, by have := lt_points t; omega⟩
def ch : Fin 4 := ⟨t.val % 4, by omega⟩
def tok (r : Fin 1024) : Fin 4096 := ⟨1024 * (t.val / 4 % 4) + r.val, by omega⟩

theorem ix_0 : ∀ t : Fin cfg0.N, (cfg0.win 0).index t = ![t.val / 16, t.val / 4 % 4, 0] :=
  (by decide +kernel : ∀ t : Fin grid0.N, win0_0.index t = ![t.val / 16, t.val / 4 % 4, 0])
theorem ix_1 : ∀ t : Fin cfg0.N, (cfg0.win 1).index t = ![t.val / 16, t.val / 4 % 4, 0] :=
  (by decide +kernel : ∀ t : Fin grid0.N, win0_1.index t = ![t.val / 16, t.val / 4 % 4, 0])
theorem ix_2 : ∀ t : Fin cfg0.N, (cfg0.win 2).index t = ![t.val / 4 % 4, t.val / 16] :=
  (by decide +kernel : ∀ t : Fin grid0.N, win0_2.index t = ![t.val / 4 % 4, t.val / 16])
theorem ix_3 : ∀ t : Fin cfg0.N, (cfg0.win 3).index t = ![t.val / 16, t.val / 4 % 4, 0] :=
  (by decide +kernel : ∀ t : Fin grid0.N, win0_3.index t = ![t.val / 16, t.val / 4 % 4, 0])
theorem ix_4 : ∀ t : Fin cfg0.N, (cfg0.win 4).index t = ![0, 0] :=
  (by decide +kernel : ∀ t : Fin grid0.N, win0_4.index t = ![0, 0])
theorem ix_5 : ∀ t : Fin cfg0.N, (cfg0.win 5).index t = ![0, 0] :=
  (by decide +kernel : ∀ t : Fin grid0.N, win0_5.index t = ![0, 0])
theorem ix_6 : ∀ t : Fin cfg0.N, (cfg0.win 6).index t = ![0, t.val % 4] :=
  (by decide +kernel : ∀ t : Fin grid0.N, win0_6.index t = ![0, t.val % 4])
theorem ix_7 : ∀ t : Fin cfg0.N, (cfg0.win 7).index t = ![t.val % 4, 0] :=
  (by decide +kernel : ∀ t : Fin grid0.N, win0_7.index t = ![t.val % 4, 0])

theorem b0 (r k : Fin 1024) : (iblk m c 0 t : FVec Ideal S1x1024x1024 .f32) (ix3 0 r k) = V m c main_arg0 (ix3 (sq t) (tok t r) k) := by
  blk_ext [iblk, ix_0 t, sq, tok]
theorem b1 (r : Fin 1024) (k : Fin 256) : (iblk m c 1 t : FVec Ideal S1x1024x256 .bf16) (ix3 0 r k) = V m c main_v2 (ix3 (sq t) (tok t r) k) := by
  blk_ext [iblk, ix_1 t, sq, tok]
theorem b2 (r : Fin 1024) (k : Fin 256) : (iblk m c 2 t : FVec Ideal S1024x256 .bf16) (ix2 r k) = V m c main_v3 (ix2 (tok t r) ⟨256 * (sq t).val + k.val, by omega⟩) := by
  blk_ext [iblk, ix_2 t, sq, tok]
theorem b3 (r : Fin 1024) (k : Fin 512) : (iblk m c 3 t : FVec Ideal S1x1024x512 .bf16) (ix3 0 r k) = V m c main_v4 (ix3 (sq t) (tok t r) k) := by
  blk_ext [iblk, ix_3 t, sq, tok]
theorem b4 (j k : Fin 1024) : (iblk m c 4 t : FVec Ideal S1024x1024 .bf16) (ix2 j k) = V m c main_v5 (ix2 j k) := by
  blk_ext [iblk, ix_4 t]
theorem b5 (k : Fin 1024) : (iblk m c 5 t : FVec Ideal S1x1024 .f32) (ix2 0 k) = V m c main_v6 (ix2 0 k) := by
  blk_ext [iblk, ix_5 t]
theorem b6 (k f : Fin 1024) : (iblk m c 6 t : FVec Ideal S1024x1024 .bf16) (ix2 k f) = V m c main_v7 (ix2 k (uf (ch t) f)) := by
  blk_ext [iblk, ix_6 t, uf, ch]
theorem b7 (f k : Fin 1024) : (iblk m c 7 t : FVec Ideal S1024x1024 .bf16) (ix2 f k) = V m c main_v8 (ix2 (uf (ch t) f) k) := by
  blk_ext [iblk, ix_7 t, uf, ch]

theorem first (r : Fin 1024) : First ((argsOf m c).row (sq t) (tok t r)) r (iblk m c 0 t) (iblk m c 1 t) (iblk m c 2 t) (iblk m c 3 t) (iblk m c 4 t) (iblk m c 5 t) where
  x k := (b0 m c t r k).trans (V0 m c _ _ k)
  a j := ((b1 m c t r j).trans (V2 m c _ _ j)).trans ((argsOf m c).mix_a _ _ j _).symm
  b j := ((b2 m c t r j).trans (V3 m c _ _ j)).trans ((argsOf m c).mix_b _ _ j _).symm
  c j := ((b3 m c t r j).trans (V4 m c _ _ j)).trans ((argsOf m c).mix_c _ _ j _).symm
  wo j k := (b4 m c t j k).trans (V5 m c j k)
  g k := (b5 m c t k).trans (V6 m c k)

/-! ## The four points of a row block -/

theorem hidA (h : t.val % 4 = 0) : (outsAt0 m c t.val t.isLt).2.1 = hidM (F := Ideal) (iblk m c 0 t) (iblk m c 1 t) (iblk m c 2 t) (iblk m c 3 t) (iblk m c 4 t) := by
  rw [outsAt0_A m c t h (by omega)]
  dsimp only
  rw [endA0]
theorem normA (h : t.val % 4 = 0) : (outsAt0 m c t.val t.isLt).2.2.1 = normM (F := Ideal) (iblk m c 0 t) (iblk m c 1 t) (iblk m c 2 t) (iblk m c 3 t) (iblk m c 4 t) (iblk m c 5 t) := by
  rw [outsAt0_A m c t h (by omega)]
  dsimp only
  rw [endA1]
theorem accA (h : t.val % 4 = 0) : (outsAt0 m c t.val t.isLt).2.2.2
    = Kernel2Ideal.Gen.k0_pay3 (F := Ideal) (normM (F := Ideal) (iblk m c 0 t) (iblk m c 1 t) (iblk m c 2 t) (iblk m c 3 t) (iblk m c 4 t) (iblk m c 5 t)) (iblk m c 6 t) (Kernel2Ideal.Gen.k0_pay2 (F := Ideal)) (iblk m c 7 t) := by
  rw [outsAt0_A m c t h (by omega)]
  dsimp only
  rw [endA2]

/-- What the point before left. -/
abbrev prev : Vec Ideal S1x1024x1024 .f32 × Vec Ideal S1024x1024 .f32 × Vec Ideal S1024x1024 .bf16 × Vec Ideal S1024x1024 .f32 :=
  outsAt0 m c (t.val - 1) (Nat.lt_of_le_of_lt (Nat.sub_le _ _) t.isLt)
theorem hidB (h0 : ¬t.val % 4 = 0) (h1 : ¬t.val % 4 = 3) : (outsAt0 m c t.val t.isLt).2.1 = (prev m c t).2.1 := by
  rw [outsAt0_B m c t h0 h1]
  rfl
theorem normB (h0 : ¬t.val % 4 = 0) (h1 : ¬t.val % 4 = 3) : (outsAt0 m c t.val t.isLt).2.2.1 = (prev m c t).2.2.1 := by
  rw [outsAt0_B m c t h0 h1]
  rfl
theorem accB (h0 : ¬t.val % 4 = 0) (h1 : ¬t.val % 4 = 3) : (outsAt0 m c t.val t.isLt).2.2.2
    = Kernel2Ideal.Gen.k0_pay3 (F := Ideal) (prev m c t).2.2.1 (iblk m c 6 t) (prev m c t).2.2.2 (iblk m c 7 t) := by
  rw [outsAt0_B m c t h0 h1]
  dsimp only
  rw [endB2]
theorem outC (h0 : ¬t.val % 4 = 0) (h1 : t.val % 4 = 3) : (outsAt0 m c t.val t.isLt).1
    = k0_pay4 (F := Ideal) (prev m c t).2.1 (Kernel2Ideal.Gen.k0_pay3 (F := Ideal) (prev m c t).2.2.1 (iblk m c 6 t) (prev m c t).2.2.2 (iblk m c 7 t)) := by
  rw [outsAt0_C m c t h0 h1]
  dsimp only
  rw [endC9]

theorem upB (n : Fin 8) (l : Fin 4096) (k f : Fin 1024) : (iblk m c 6 t : FVec Ideal S1024x1024 .bf16) (ix2 k f) = ((argsOf m c).row n l).wu k (uf (ch t) f) :=
  (b6 m c t k f).trans (V7 m c k _)
theorem dnB (n : Fin 8) (l : Fin 4096) (f k : Fin 1024) : (iblk m c 7 t : FVec Ideal S1024x1024 .bf16) (ix2 f k) = ((argsOf m c).row n l).wd (uf (ch t) f) k :=
  (b7 m c t f k).trans (V8 m c _ k)

theorem holdsA (h : t.val % 4 = 0) (r : Fin 1024) (j : Fin 4) (hj : ch t = j) :
    Holds ((argsOf m c).row (sq t) (tok t r)) r (fun k => 0 + ∑ f, ((argsOf m c).row (sq t) (tok t r)).term k (uf j f)) (outsAt0 m c t.val t.isLt) := by
  subst hj
  have H := first m c t r
  refine ⟨fun k => ?_, fun k => ?_, fun k => ?_⟩
  · rw [hidA m c t h]
    exact hidM_eq H k
  · rw [normA m c t h]
    exact normM_eq H k
  · rw [accA m c t h]
    have e := step_eq ((argsOf m c).row (sq t) (tok t r)) r (ch t) _ (iblk m c 6 t) (iblk m c 7 t) (Kernel2Ideal.Gen.k0_pay2 (F := Ideal)) (normM_eq H) (upB m c t _ _) (dnB m c t _ _) k
    rw [zero_eq] at e
    exact e

theorem holdsB (h0 : ¬t.val % 4 = 0) (h1 : ¬t.val % 4 = 3) (n : Fin 8) (l : Fin 4096) (r : Fin 1024) (j : Fin 4) (hj : ch t = j) (acc : Fin 1024 → EReal)
    (H : Holds ((argsOf m c).row n l) r acc (prev m c t)) :
    Holds ((argsOf m c).row n l) r (fun k => acc k + ∑ f, ((argsOf m c).row n l).term k (uf j f)) (outsAt0 m c t.val t.isLt) := by
  subst hj
  refine ⟨fun k => ?_, fun k => ?_, fun k => ?_⟩
  · rw [hidB m c t h0 h1]
    exact H.hid k
  · rw [normB m c t h0 h1]
    exact H.norm k
  · rw [accB m c t h0 h1]
    have e := step_eq ((argsOf m c).row n l) r (ch t) (prev m c t).2.2.1 (iblk m c 6 t) (iblk m c 7 t) (prev m c t).2.2.2 H.norm (upB m c t _ _) (dnB m c t _ _) k
    rw [H.acc] at e
    exact e

theorem out_last (h : t.val % 4 = 3) (r k : Fin 1024) :
    (outsAt0 m c t.val t.isLt).1 (ix3 0 r k) = mid (argsOf m c) (ix3 (sq t) (tok t r) k) := by
  have ht := lt_points t
  have hN : cfg0.N = 128 := N_0
  let t2 : Fin cfg0.N := ⟨t.val - 1, by omega⟩
  let t1 : Fin cfg0.N := ⟨t.val - 1 - 1, by omega⟩
  let t0 : Fin cfg0.N := ⟨t.val - 1 - 1 - 1, by omega⟩
  have hs : sq t0 = sq t := Fin.ext (by show (t.val - 1 - 1 - 1) / 16 = t.val / 16; omega)
  have hk : tok t0 r = tok t r := Fin.ext (by show 1024 * ((t.val - 1 - 1 - 1) / 4 % 4) + r.val = 1024 * (t.val / 4 % 4) + r.val; omega)
  have H0 := holdsA m c t0 (by show (t.val - 1 - 1 - 1) % 4 = 0; omega) r 0 (Fin.ext (by show (t.val - 1 - 1 - 1) % 4 = 0; omega))
  rw [hs, hk] at H0
  have H1 := holdsB m c t1 (by show ¬(t.val - 1 - 1) % 4 = 0; omega) (by show ¬(t.val - 1 - 1) % 4 = 3; omega) _ _ r 1 (Fin.ext (by show (t.val - 1 - 1) % 4 = 1; omega)) _ H0
  have H2 := holdsB m c t2 (by show ¬(t.val - 1) % 4 = 0; omega) (by show ¬(t.val - 1) % 4 = 3; omega) _ _ r 2 (Fin.ext (by show (t.val - 1) % 4 = 2; omega)) _ H1
  have h3 : ch t = 3 := Fin.ext h
  rw [outC m c t (by omega) h, mid_eq]
  have e := step_eq ((argsOf m c).row (sq t) (tok t r)) r (ch t) (prev m c t).2.2.1 (iblk m c 6 t) (iblk m c 7 t) (prev m c t).2.2.2 H2.norm (upB m c t _ _) (dnB m c t _ _)
  rw [h3] at e
  exact last_eq _ r (prev m c t).2.1 _ H2.hid (fun k => (e k).trans (congrArg (· + _) (H2.acc k))) k

/-- The result array is the reference's output. -/
theorem arr_eq : Value.G9 m c = mid (argsOf m c) := by
  funext i
  have h0 : (i 0).val < 8 := (i 0).isLt
  have h1 : (i 1).val < 4096 := (i 1).isLt
  have h2 : (i 2).val < 1024 := (i 2).isLt
  have hN : cfg0.N = 128 := N_0
  have hp : Value.pt9Of i < cfg0.N := by
    show 4 * (4 * ((i 0).val / 1 - 0) + 1 * ((i 1).val / 1024 - 0) + 1 * ((i 2).val / 1024 - 0)) + 3 < cfg0.N
    omega
  unfold Value.G9
  rw [dif_pos hp, ← Value.outsAt0_sweep m c (Value.pt9Of i) hp]
  have ht : (4 * (4 * ((i 0).val / 1 - 0) + 1 * ((i 1).val / 1024 - 0) + 1 * ((i 2).val / 1024 - 0)) + 3) % 4 = 3 := by omega
  have hl : Value.loc9Of i = ix3 0 ⟨(i 1).val % 1024, by omega⟩ (i 2) := by
    funext a
    fin_cases a
    · exact Subsingleton.elim (α := Fin 1) _ _
    · rfl
    · exact Fin.ext (Nat.mod_eq_of_lt h2)
  have e := out_last m c ⟨Value.pt9Of i, hp⟩ ht ⟨(i 1).val % 1024, by omega⟩ (i 2)
  rw [hl]
  refine e.trans (congrArg _ ?_)
  funext a
  fin_cases a
  · exact Fin.ext (by show (4 * (4 * ((i 0).val / 1 - 0) + 1 * ((i 1).val / 1024 - 0) + 1 * ((i 2).val / 1024 - 0)) + 3) / 16 = (i 0).val; omega)
  · exact Fin.ext (by show 1024 * ((4 * (4 * ((i 0).val / 1 - 0) + 1 * ((i 1).val / 1024 - 0) + 1 * ((i 2).val / 1024 - 0)) + 3) / 4 % 4) + (i 1).val % 1024 = (i 1).val; omega)
  · rfl

end Cert.Mid
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Asm
public import proofs.«01_k».proof.Proof.FeedAsm
public import proofs.«01_k».proof.Proof.MidAsm
public import Idealize.ShloMosaic.Adequacy
public import Idealize.ShloMosaic.Init

@[expose] public section

noncomputable section

namespace Cert.Proof

open Idealize.ShloMosaic Idealize.SL.Sem

/-- The reference runs to its end, keeps its arguments, and has no semaphore. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- A number whose absolute value is less than infinity is real. -/
theorem real_of_lt {x : EReal} (h : Ideal.cmp CmpFPredicate.olt (max x (-x)) (Ideal.ofBits FTy.f32 0x7F800000#32) = 1#1) :
    x = ((x.toReal : ℝ) : EReal) := by
  have e : Ideal.ofBits FTy.f32 0x7F800000#32 = (⊤ : EReal) := by simp [Ideal.ofBits, Ideal.ieee]
  rw [e] at h
  refine (EReal.coe_toReal ?_ ?_).symm
  · rintro rfl
    simp [Ideal.cmp] at h
  · rintro rfl
    simp [Ideal.cmp] at h

/-- The stated precondition: the queries and keys are real. -/
theorem reals (m : (ℓ : Loc Cert.KernelIdeal.nD Cert.KernelIdeal.τ Cert.KernelIdeal.sig) → Buf (Elt Ideal) ℓ)
    (h : Cert.Pre_KernelIdeal_finite m) (c : Dev Cert.KernelIdeal.nD) : Nsa.Reals (Nsa.argsOf m c) where
  q j := real_of_lt (congrFun (h c).1 j)
  qr j := real_of_lt (congrFun (h c).2.1 j)
  kc j := real_of_lt (congrFun (h c).2.2.1 j)
  ks j := real_of_lt (congrFun (h c).2.2.2.1 j)
  kw j := real_of_lt (congrFun (h c).2.2.2.2 j)

/-- The reference's output, of arrays equal to the arguments. -/
theorem refOut_congr (A : Nsa.RArgs) (y0 y1 : FVec Ideal Cert.ReferenceIdeal.S8x4096x512 .f32) (y2 : FVec Ideal Cert.ReferenceIdeal.S8x4096x24 .f32)
    (y3 y4 : FVec Ideal Cert.ReferenceIdeal.S8x255x128 .f32) (y5 y6 y7 y8 : FVec Ideal Cert.ReferenceIdeal.S8x4096x128 .f32)
    (y9 : FVec Ideal Cert.ReferenceIdeal.S512 .f32) (h0 : y0 = A.x0) (h1 : y1 = A.x1) (h2 : y2 = A.x2) (h3 : y3 = A.x3) (h4 : y4 = A.x4)
    (h5 : y5 = A.x5) (h6 : y6 = A.x6) (h7 : y7 = A.x7) (h8 : y8 = A.x8) (h9 : y9 = A.x9) :
    Cert.ReferenceIdeal.Read.val_main_v234 (F := Ideal) y0 y1 y2 y3 y4 y5 y6 y7 y8 y9 = Nsa.refOut A := by
  rw [h0, h1, h2, h3, h4, h5, h6, h7, h8, h9]
  rfl

/-- From equal arguments with real queries and keys, the kernel and the reference end with the same output. -/
theorem algebraic : Cert.algebraic_KernelIdeal_ReferenceIdeal_pre_finite := by
  intro m g m' g' hpre harg
  refine ⟨fun c => Nsa.refOut (Nsa.argsOf m c), ?_, ?_⟩
  · refine (θ_run Cert.KernelIdeal.defs _ _).mono (fun r h c => ⟨(h c).1.trans (Nsa.arr_eq m c (reals m hpre c)), (h c).2⟩)
      (Cert.KernelIdeal.Value.run_blocks (F := Ideal) m g)
  · refine (θ_run Cert.ReferenceIdeal.defs _ _).mono (fun r h c => ⟨(h c).1.trans ?_, (h c).2⟩)
      (Cert.ReferenceIdeal.Value.run (F := Ideal) m' g')
    obtain ⟨h0, h1, h2, h3, h4, h5, h6, h7, h8, h9⟩ := harg c
    refine (Cert.ReferenceIdeal.Read.val_main_v234_eq (F := Ideal) _).trans ?_
    exact refOut_congr (Nsa.argsOf m c) _ _ _ _ _ _ _ _ _ _ h0 h1 h2 h3 h4 h5 h6 h7 h8 h9

/-- The second reference runs to its end, keeps its arguments, and has no semaphore. -/
theorem frame_reference2 : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- The second reference's output, of arrays equal to the arguments. -/
theorem out_congr (A : Feed.Args) (y0 : FVec Ideal Cert.Reference2Ideal.S8x4096x1024 .f32) (y1 y2 : FVec Ideal Cert.Reference2Ideal.S8x4096x256 .f32)
    (y3 : FVec Ideal Cert.Reference2Ideal.S8x4096x512 .f32) (y4 : FVec Ideal Cert.Reference2Ideal.S1024x1024 .f32) (y5 : FVec Ideal Cert.Reference2Ideal.S1024 .f32)
    (y6 : FVec Ideal Cert.Reference2Ideal.S1024x4096 .f32) (y7 : FVec Ideal Cert.Reference2Ideal.S4096x1024 .f32) (y8 : FVec Ideal Cert.Reference2Ideal.S1024 .f32)
    (h0 : y0 = A.x) (h1 : y1 = A.a) (h2 : y2 = A.b) (h3 : y3 = A.c) (h4 : y4 = A.wo) (h5 : y5 = A.g) (h6 : y6 = A.wu) (h7 : y7 = A.wd) (h8 : y8 = A.fg) :
    Cert.Reference2Ideal.Read.val_main_v33 (F := Ideal) y0 y1 y2 y3 y4 y5 y6 y7 y8 = A.out := by
  rw [h0, h1, h2, h3, h4, h5, h6, h7, h8]
  rfl

/-- From equal arguments, the second kernel and its reference end with the same output. -/
theorem algebraic2 : Cert.algebraic_Kernel2Ideal_Reference2Ideal := by
  intro m g m' g' _ harg
  refine ⟨fun c => (Feed.argsOf m c).out, ?_, ?_⟩
  · exact (θ_run Cert.Kernel2Ideal.defs _ _).mono (fun r h c => ⟨(h c).1.trans (Feed.arr_eq m c), (h c).2⟩)
      (Cert.Kernel2Ideal.Value.run (F := Ideal) m g)
  · refine (θ_run Cert.Reference2Ideal.defs _ _).mono (fun r h c => ⟨(h c).1.trans ?_, (h c).2⟩)
      (Cert.Reference2Ideal.Value.run (F := Ideal) m' g')
    obtain ⟨h0, h1, h2, h3, h4, h5, h6, h7, h8⟩ := harg c
    refine (Cert.Reference2Ideal.Read.val_main_v33_eq (F := Ideal) m' c).trans ?_
    exact out_congr (Feed.argsOf m c) _ _ _ _ _ _ _ _ _ h0 h1 h2 h3 h4 h5 h6 h7 h8

/-- The third reference runs to its end, keeps its arguments, and has no semaphore. -/
theorem frame_reference3 : Cert.quiescent_Reference3Ideal := fun m ρ _ =>
  (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- The third reference's output, of arrays equal to the arguments. -/
theorem mid_congr (A : Feed.Args) (y0 : FVec Ideal Cert.Reference3Ideal.S8x4096x1024 .f32) (y1 y2 : FVec Ideal Cert.Reference3Ideal.S8x4096x256 .f32)
    (y3 : FVec Ideal Cert.Reference3Ideal.S8x4096x512 .f32) (y4 : FVec Ideal Cert.Reference3Ideal.S1024x1024 .f32) (y5 : FVec Ideal Cert.Reference3Ideal.S1024 .f32)
    (y6 : FVec Ideal Cert.Reference3Ideal.S1024x4096 .f32) (y7 : FVec Ideal Cert.Reference3Ideal.S4096x1024 .f32)
    (h0 : y0 = A.x) (h1 : y1 = A.a) (h2 : y2 = A.b) (h3 : y3 = A.c) (h4 : y4 = A.wo) (h5 : y5 = A.g) (h6 : y6 = A.wu) (h7 : y7 = A.wd) :
    Cert.Reference3Ideal.Read.val_main_v20 (F := Ideal) y0 y1 y2 y3 y4 y5 y6 y7 = Mid.mid A := by
  rw [h0, h1, h2, h3, h4, h5, h6, h7]
  rfl

/-- From equal arguments, the third kernel and its reference end with the same output. -/
theorem algebraic3 : Cert.algebraic_Kernel3Ideal_Reference3Ideal := by
  intro m g m' g' _ harg
  refine ⟨fun c => Mid.mid (Mid.argsOf m c), ?_, ?_⟩
  · exact (θ_run Cert.Kernel3Ideal.defs _ _).mono (fun r h c => ⟨(h c).1.trans (Mid.arr_eq m c), (h c).2⟩)
      (Cert.Kernel3Ideal.Value.run (F := Ideal) m g)
  · refine (θ_run Cert.Reference3Ideal.defs _ _).mono (fun r h c => ⟨(h c).1.trans ?_, (h c).2⟩)
      (Cert.Reference3Ideal.Value.run (F := Ideal) m' g')
    obtain ⟨h0, h1, h2, h3, h4, h5, h6, h7, _⟩ := harg c
    refine (Cert.Reference3Ideal.Read.val_main_v20_eq (F := Ideal) m' c).trans ?_
    exact mid_congr (Mid.argsOf m c) _ _ _ _ _ _ _ _ h0 h1 h2 h3 h4 h5 h6 h7

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_finite.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  IdealRules.named_const.statement Cert.KernelIdeal.κ "mask" .f32 0xF149F2CA#32 ⊥ rfl, algebraic, trivial, algebraic2, trivial, algebraic3⟩

end Cert.Proof

end
